-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v28) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)) (v5 : (c : Dev Cert.Kernel5Ideal.nD) → Buf (Elt Ideal) ((c.tc : Thread Cert.Kernel5Ideal.nD Cert.Kernel5Ideal.τ).loc Cert.Kernel5Ideal.main_v10_5)) (v6 : (c : Dev Cert.Kernel5Ideal.nD) → Buf (Elt Ideal) ((c.tc : Thread Cert.Kernel5Ideal.nD Cert.Kernel5Ideal.τ).loc Cert.Kernel5Ideal.main_v10_6)) (v7 : (c : Dev Cert.Kernel5Ideal.nD) → Buf (Elt Ideal) ((c.tc : Thread Cert.Kernel5Ideal.nD Cert.Kernel5Ideal.τ).loc Cert.Kernel5Ideal.main_v10_7)) (v8 : (c : Dev Cert.Kernel5Ideal.nD) → Buf (Elt Ideal) ((c.tc : Thread Cert.Kernel5Ideal.nD Cert.Kernel5Ideal.τ).loc Cert.Kernel5Ideal.main_v10_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_v10_5) = v5 c
          ∧ r.2.mem ((c.tc : Thread Cert.Kernel5Ideal.nD Cert.Kernel5Ideal.τ).loc Cert.Kernel5Ideal.main_v10_6) = v6 c
          ∧ r.2.mem ((c.tc : Thread Cert.Kernel5Ideal.nD Cert.Kernel5Ideal.τ).loc Cert.Kernel5Ideal.main_v10_7) = v7 c
          ∧ r.2.mem ((c.tc : Thread Cert.Kernel5Ideal.nD Cert.Kernel5Ideal.τ).loc Cert.Kernel5Ideal.main_v10_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_v64) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_v66) = v3 c
          ∧ r.2.mem ((c.tc : Thread Cert.Reference5Ideal.nD Cert.Reference5Ideal.τ).loc Cert.Reference5Ideal.main_v67) = v4 c
          ∧ r.2.mem ((c.tc : Thread Cert.Reference5Ideal.nD Cert.Reference5Ideal.τ).loc Cert.Reference5Ideal.main_v55) = v5 c
          ∧ r.2.mem ((c.tc : Thread Cert.Reference5Ideal.nD Cert.Reference5Ideal.τ).loc Cert.Reference5Ideal.main_v68) = v6 c
          ∧ r.2.mem ((c.tc : Thread Cert.Reference5Ideal.nD Cert.Reference5Ideal.τ).loc Cert.Reference5Ideal.main_v70) = v7 c
          ∧ r.2.mem ((c.tc : Thread Cert.Reference5Ideal.nD Cert.Reference5Ideal.τ).loc Cert.Reference5Ideal.main_v71) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4x4096x1024 : Shape := ⟨3, ![4, 4096, 1024]⟩
abbrev S_ : Shape := ⟨0, ![]⟩
abbrev S1 : Shape := ⟨1, ![1]⟩
abbrev S4 : Shape := ⟨1, ![4]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  let main_c_6 : IVec S_ 1 := constantI S_ 1 1#1
  let main_v21 : IVec S_ 1 := (fun x v => Host.reduce IntOp.andi x v reducesTo_S4_S_d0 h_S_) main_v20 main_c_6
  main_v21

def fn {F : FTy → Type} [FloatOps F] (main_arg0 : FVec F S4x4096x1024 .f32) (main_arg1 : FVec F S4x4096x1024 .f32) (main_arg2 : FVec F S4x4096x1024 .f32) (main_arg3 : FVec F S4x4096x1024 .f32) (main_arg4 : FVec F S4x4096x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : FVec F S4x4096x1024 .f32 := Host.absf main_arg3
  let main_cst_2 : FVec F S_ .f32 := constant S_ .f32 0x7F800000#32
  let main_v9 : FVec F S4x4096x1024 .f32 := broadcastInDim S4x4096x1024 ![] bcast_S_S4x4096x1024 main_cst_2
  let main_v10 : IVec S4x4096x1024 1 := cmpf .olt main_v8 main_v9
  let main_c_3 : IVec S_ 1 := constantI S_ 1 1#1
  let main_v11 : IVec S_ 1 := (fun x v => Host.reduce IntOp.andi x v reducesTo_S4x4096x1024_S_d0_1_2 h_S_) main_v10 main_c_3
  let main_v12 : FVec F S4x4096x1024 .f32 := Host.absf main_arg4
  let main_cst_4 : FVec F S_ .f32 := constant S_ .f32 0x7F800000#32
  let main_v13 : FVec F S4x4096x1024 .f32 := broadcastInDim S4x4096x1024 ![] bcast_S_S4x4096x1024 main_cst_4
  let main_v14 : IVec S4x4096x1024 1 := cmpf .olt main_v12 main_v13
  let main_c_5 : IVec S_ 1 := constantI S_ 1 1#1
  let main_v15 : IVec S_ 1 := (fun x v => Host.reduce IntOp.andi x v reducesTo_S4x4096x1024_S_d0_1_2 h_S_) main_v14 main_c_5
  fn_part1 (F := F) main_v3 main_v7 main_v11 main_v15
-- ==== Kernel.lean ====
abbrev S4x4096x1024 : Shape := ⟨3, ![4, 4096, 1024]⟩
abbrev S_ : Shape := ⟨0, ![]⟩
abbrev S64x256x1024 : Shape := ⟨3, ![64, 256, 1024]⟩
abbrev S64x1024x256 : Shape := ⟨3, ![64, 1024, 256]⟩
abbrev S16384x1024 : Shape := ⟨2, ![16384, 1024]⟩
abbrev S1x512x256 : Shape := ⟨3, ![1, 512, 256]⟩
abbrev S4096x512 : Shape := ⟨2, ![4096, 512]⟩
abbrev S16x512x256 : Shape := ⟨3, ![16, 512, 256]⟩
abbrev S256x512 : Shape := ⟨2, ![256, 512]⟩
abbrev S8x4096x128 : Shape := ⟨3, ![8, 4096, 128]⟩
abbrev S8x16x128x256 : Shape := ⟨4, ![8, 16, 128, 256]⟩
abbrev S64x256 : Shape := ⟨2, ![64, 256]⟩
abbrev S4096x64 : Shape := ⟨2, ![4096, 64]⟩
abbrev S1x4096x64 : Shape := ⟨3, ![1, 4096, 64]⟩
abbrev S1x64x256 : Shape := ⟨3, ![1, 64, 256]⟩
abbrev S1x1x64x256 : Shape := ⟨4, ![1, 1, 64, 256]⟩
abbrev S128x256 : Shape := ⟨2, ![128, 256]⟩
abbrev S256x256 : Shape := ⟨2, ![256, 256]⟩
abbrev S1x256 : Shape := ⟨2, ![1, 256]⟩
abbrev S1x256x128 : Shape := ⟨3, ![1, 256, 128]⟩
abbrev S256x128 : Shape := ⟨2, ![256, 128]⟩
abbrev S1x1x128x256 : Shape := ⟨4, ![1, 1, 128, 256]⟩
abbrev S256 : Shape := ⟨1, ![256]⟩

abbrev nBuf : Space → Nat
  | .hbm => 22
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S64x256x1024, .f32⟩
  | .hbm, ⟨9, _⟩ => ⟨S64x1024x256, .f32⟩
  | .hbm, ⟨10, _⟩ => ⟨S64x1024x256, .bf16⟩
  | .hbm, ⟨11, _⟩ => ⟨S64x256x1024, .f32⟩
  | .hbm, ⟨12, _⟩ => ⟨S64x1024x256, .f32⟩
  | .hbm, ⟨13, _⟩ => ⟨S64x1024x256, .bf16⟩
  | .hbm, ⟨14, _⟩ => ⟨S64x256x1024, .f32⟩
  | .hbm, ⟨15, _⟩ => ⟨S64x1024x256, .f32⟩
  | .hbm, ⟨16, _⟩ => ⟨S64x1024x256, .bf16⟩
  | .hbm, ⟨17, _⟩ => ⟨S16384x1024, .f32⟩
  | .hbm, ⟨18, _⟩ => ⟨S16384x1024, .bf16⟩
  | .hbm, ⟨19, _⟩ => ⟨S16384x1024, .f32⟩
  | .hbm, ⟨20, _⟩ => ⟨S16384x1024, .bf16⟩
  | .hbm, ⟨21, _⟩ => ⟨S16384x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S16x512x256, .bf16⟩
  | .local _ .vmem, ⟨9, _⟩ => ⟨S16x512x256, .bf16⟩
  | .local _ .vmem, ⟨10, _⟩ => ⟨S256x512, .bf16⟩
  | .local _ .vmem, ⟨11, _⟩ => ⟨S256x512, .bf16⟩
  | .local _ .vmem, ⟨12, _⟩ => ⟨S8x4096x128, .bf16⟩
  | .local _ .vmem, ⟨13, _⟩ => ⟨S8x16x128x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_182 : BitVec 32 := 0#32
  let c16_i32 : BitVec 32 := 16#32
  let v381 : BitVec 32 := Scalar.addi c0_i32_182 c16_i32
  let c1_i32_183 : BitVec 32 := 1#32
  ⟨c0_i32_182, v381, c1_i32_183⟩
def k0_off1 (k0_t1 : Fin k0_t1_loop.trips) : Fin 3 → Nat :=
  let c0_i32_182 : BitVec 32 := 0#32
  let c1_i32_183 : BitVec 32 := 1#32
  let arg11 : BitVec 32 := Scf.iv c0_i32_182 c1_i32_183 k0_t1
  let v459 : Index := Scalar.indexCast arg11
  let c0_283 : Index := 0#32
  let c0_284 : Index := 0#32
  ![v459.toNat, 0, 0]
def k0_off2 (k0_t1 : Fin k0_t1_loop.trips) : Fin 4 → Nat :=
  let c0_285 : Index := 0#32
  let c0_i32_182 : BitVec 32 := 0#32
  let c1_i32_183 : BitVec 32 := 1#32
  let arg11 : BitVec 32 := Scf.iv c0_i32_182 c1_i32_183 k0_t1
  let v462 : Index := Scalar.indexCast arg11
  let c0_286 : Index := 0#32
  let c0_287 : Index := 0#32
  ![0, v462.toNat, 0, 0]
def k0_off3 (k0_t1 : Fin k0_t1_loop.trips) : Fin 4 → Nat :=
  let c0_288 : Index := 0#32
  let c0_i32_182 : BitVec 32 := 0#32
  let c1_i32_183 : BitVec 32 := 1#32
  let arg11 : BitVec 32 := Scf.iv c0_i32_182 c1_i32_183 k0_t1
  let v466 : Index := Scalar.indexCast arg11
  let c64_289 : Index := 64#32
  let c0_290 : Index := 0#32
  ![0, v466.toNat, 64, 0]
@[reducible] def k0_t2_loop : Scf.Loop 32 :=
  let c0_i32_195 : BitVec 32 := 0#32
  let c16_i32_196 : BitVec 32 := 16#32
  let v392 : BitVec 32 := Scalar.addi c0_i32_195 c16_i32_196
  let c1_i32_197 : BitVec 32 := 1#32
  ⟨c0_i32_195, v392, c1_i32_197⟩
def k0_off4 (k0_t2 : Fin k0_t2_loop.trips) : Fin 3 → Nat :=
  let c0_i32_195 : BitVec 32 := 0#32
  let c1_i32_197 : BitVec 32 := 1#32
  let arg11 : BitVec 32 := Scf.iv c0_i32_195 c1_i32_197 k0_t2
  let v459 : Index := Scalar.indexCast arg11
  let c64_283 : Index := 64#32
  let c0_284 : Index := 0#32
  ![v459.toNat, 64, 0]
def k0_off5 (k0_t2 : Fin k0_t2_loop.trips) : Fin 4 → Nat :=
  let c1_285 : Index := 1#32
  let c0_i32_195 : BitVec 32 := 0#32
  let c1_i32_197 : BitVec 32 := 1#32
  let arg11 : BitVec 32 := Scf.iv c0_i32_195 c1_i32_197 k0_t2
  let v462 : Index := Scalar.indexCast arg11
  let c0_286 : Index := 0#32
  let c0_287 : Index := 0#32
  ![1, v462.toNat, 0, 0]
def k0_off6 (k0_t2 : Fin k0_t2_loop.trips) : Fin 4 → Nat :=
  let c1_288 : Index := 1#32
  let c0_i32_195 : BitVec 32 := 0#32
  let c1_i32_197 : BitVec 32 := 1#32
  let arg11 : BitVec 32 := Scf.iv c0_i32_195 c1_i32_197 k0_t2
  let v466 : Index := Scalar.indexCast arg11
  let c64_289 : Index := 64#32
  let c0_290 : Index := 0#32
  ![1, v466.toNat, 64, 0]
@[reducible] def k0_t3_loop : Scf.Loop 32 :=
  let c0_i32_209 : BitVec 32 := 0#32
  let c16_i32_210 : BitVec 32 := 16#32
  let v403 : BitVec 32 := Scalar.addi c0_i32_209 c16_i32_210
  let c1_i32_211 : BitVec 32 := 1#32
  ⟨c0_i32_209, v403, c1_i32_211⟩
def k0_off7 (k0_t3 : Fin k0_t3_loop.trips) : Fin 3 → Nat :=
  let c0_i32_209 : BitVec 32 := 0#32
  let c1_i32_211 : BitVec 32 := 1#32
  let arg11 : BitVec 32 := Scf.iv c0_i32_209 c1_i32_211 k0_t3
  let v459 : Index := Scalar.indexCast arg11
  let c128_283 : Index := 128#32
  let c0_284 : Index := 0#32
  ![v459.toNat, 128, 0]
def k0_off8 (k0_t3 : Fin k0_t3_loop.trips) : Fin 4 → Nat :=
  let c2_285 : Index := 2#32
  let c0_i32_209 : BitVec 32 := 0#32
  let c1_i32_211 : BitVec 32 := 1#32
  let arg11 : BitVec 32 := Scf.iv c0_i32_209 c1_i32_211 k0_t3
  let v462 : Index := Scalar.indexCast arg11
  let c0_286 : Index := 0#32
  let c0_287 : Index := 0#32
  ![2, v462.toNat, 0, 0]
def k0_off9 (k0_t3 : Fin k0_t3_loop.trips) : Fin 4 → Nat :=
  let c2_288 : Index := 2#32
  let c0_i32_209 : BitVec 32 := 0#32
  let c1_i32_211 : BitVec 32 := 1#32
  let arg11 : BitVec 32 := Scf.iv c0_i32_209 c1_i32_211 k0_t3
  let v466 : Index := Scalar.indexCast arg11
  let c64_289 : Index := 64#32
  let c0_290 : Index := 0#32
  ![2, v466.toNat, 64, 0]
@[reducible] def k0_t4_loop : Scf.Loop 32 :=
  let c0_i32_223 : BitVec 32 := 0#32
  let c16_i32_224 : BitVec 32 := 16#32
  let v414 : BitVec 32 := Scalar.addi c0_i32_223 c16_i32_224
  let c1_i32_225 : BitVec 32 := 1#32
  ⟨c0_i32_223, v414, c1_i32_225⟩
def k0_off10 (k0_t4 : Fin k0_t4_loop.trips) : Fin 3 → Nat :=
  let c0_i32_223 : BitVec 32 := 0#32
  let c1_i32_225 : BitVec 32 := 1#32
  let arg11 : BitVec 32 := Scf.iv c0_i32_223 c1_i32_225 k0_t4
  let v459 : Index := Scalar.indexCast arg11
  let c192_283 : Index := 192#32
  let c0_284 : Index := 0#32
  ![v459.toNat, 192, 0]
def k0_off11 (k0_t4 : Fin k0_t4_loop.trips) : Fin 4 → Nat :=
  let c3_285 : Index := 3#32
  let c0_i32_223 : BitVec 32 := 0#32
  let c1_i32_225 : BitVec 32 := 1#32
  let arg11 : BitVec 32 := Scf.iv c0_i32_223 c1_i32_225 k0_t4
  let v462 : Index := Scalar.indexCast arg11
  let c0_286 : Index := 0#32
  let c0_287 : Index := 0#32
  ![3, v462.toNat, 0, 0]
def k0_off12 (k0_t4 : Fin k0_t4_loop.trips) : Fin 4 → Nat :=
  let c3_288 : Index := 3#32
  let c0_i32_223 : BitVec 32 := 0#32
  let c1_i32_225 : BitVec 32 := 1#32
  let arg11 : BitVec 32 := Scf.iv c0_i32_223 c1_i32_225 k0_t4
  let v466 : Index := Scalar.indexCast arg11
  let c64_289 : Index := 64#32
  let c0_290 : Index := 0#32
  ![3, v466.toNat, 64, 0]
@[reducible] def k0_t5_loop : Scf.Loop 32 :=
  let c0_i32_237 : BitVec 32 := 0#32
  let c16_i32_238 : BitVec 32 := 16#32
  let v425 : BitVec 32 := Scalar.addi c0_i32_237 c16_i32_238
  let c1_i32_239 : BitVec 32 := 1#32
  ⟨c0_i32_237, v425, c1_i32_239⟩
def k0_off13 (k0_t5 : Fin k0_t5_loop.trips) : Fin 3 → Nat :=
  let c0_i32_237 : BitVec 32 := 0#32
  let c1_i32_239 : BitVec 32 := 1#32
  let arg11 : BitVec 32 := Scf.iv c0_i32_237 c1_i32_239 k0_t5
  let v459 : Index := Scalar.indexCast arg11
  let c256_283 : Index := 256#32
  let c0_284 : Index := 0#32
  ![v459.toNat, 256, 0]
def k0_off14 (k0_t5 : Fin k0_t5_loop.trips) : Fin 4 → Nat :=
  let c4_285 : Index := 4#32
  let c0_i32_237 : BitVec 32 := 0#32
  let c1_i32_239 : BitVec 32 := 1#32
  let arg11 : BitVec 32 := Scf.iv c0_i32_237 c1_i32_239 k0_t5
  let v462 : Index := Scalar.indexCast arg11
  let c0_286 : Index := 0#32
  let c0_287 : Index := 0#32
  ![4, v462.toNat, 0, 0]
def k0_off15 (k0_t5 : Fin k0_t5_loop.trips) : Fin 4 → Nat :=
  let c4_288 : Index := 4#32
  let c0_i32_237 : BitVec 32 := 0#32
  let c1_i32_239 : BitVec 32 := 1#32
  let arg11 : BitVec 32 := Scf.iv c0_i32_237 c1_i32_239 k0_t5
  let v466 : Index := Scalar.indexCast arg11
  let c64_289 : Index := 64#32
  let c0_290 : Index := 0#32
  ![4, v466.toNat, 64, 0]
@[reducible] def k0_t6_loop : Scf.Loop 32 :=
  let c0_i32_251 : BitVec 32 := 0#32
  let c16_i32_252 : BitVec 32 := 16#32
  let v436 : BitVec 32 := Scalar.addi c0_i32_251 c16_i32_252
  let c1_i32_253 : BitVec 32 := 1#32
  ⟨c0_i32_251, v436, c1_i32_253⟩
def k0_off16 (k0_t6 : Fin k0_t6_loop.trips) : Fin 3 → Nat :=
  let c0_i32_251 : BitVec 32 := 0#32
  let c1_i32_253 : BitVec 32 := 1#32
  let arg11 : BitVec 32 := Scf.iv c0_i32_251 c1_i32_253 k0_t6
  let v459 : Index := Scalar.indexCast arg11
  let c320_283 : Index := 320#32
  let c0_284 : Index := 0#32
  ![v459.toNat, 320, 0]
def k0_off17 (k0_t6 : Fin k0_t6_loop.trips) : Fin 4 → Nat :=
  let c5_285 : Index := 5#32
  let c0_i32_251 : BitVec 32 := 0#32
  let c1_i32_253 : BitVec 32 := 1#32
  let arg11 : BitVec 32 := Scf.iv c0_i32_251 c1_i32_253 k0_t6
  let v462 : Index := Scalar.indexCast arg11
  let c0_286 : Index := 0#32
  let c0_287 : Index := 0#32
  ![5, v462.toNat, 0, 0]
def k0_off18 (k0_t6 : Fin k0_t6_loop.trips) : Fin 4 → Nat :=
  let c5_288 : Index := 5#32
  let c0_i32_251 : BitVec 32 := 0#32
  let c1_i32_253 : BitVec 32 := 1#32
  let arg11 : BitVec 32 := Scf.iv c0_i32_251 c1_i32_253 k0_t6
  let v466 : Index := Scalar.indexCast arg11
  let c64_289 : Index := 64#32
  let c0_290 : Index := 0#32
  ![5, v466.toNat, 64, 0]
@[reducible] def k0_t7_loop : Scf.Loop 32 :=
  let c0_i32_265 : BitVec 32 := 0#32
  let c16_i32_266 : BitVec 32 := 16#32
  let v447 : BitVec 32 := Scalar.addi c0_i32_265 c16_i32_266
  let c1_i32_267 : BitVec 32 := 1#32
  ⟨c0_i32_265, v447, c1_i32_267⟩
def k0_off19 (k0_t7 : Fin k0_t7_loop.trips) : Fin 3 → Nat :=
  let c0_i32_265 : BitVec 32 := 0#32
  let c1_i32_267 : BitVec 32 := 1#32
  let arg11 : BitVec 32 := Scf.iv c0_i32_265 c1_i32_267 k0_t7
  let v459 : Index := Scalar.indexCast arg11
  let c384_283 : Index := 384#32
  let c0_284 : Index := 0#32
  ![v459.toNat, 384, 0]
def k0_off20 (k0_t7 : Fin k0_t7_loop.trips) : Fin 4 → Nat :=
  let c6_285 : Index := 6#32
  let c0_i32_265 : BitVec 32 := 0#32
  let c1_i32_267 : BitVec 32 := 1#32
  let arg11 : BitVec 32 := Scf.iv c0_i32_265 c1_i32_267 k0_t7
  let v462 : Index := Scalar.indexCast arg11
  let c0_286 : Index := 0#32
  let c0_287 : Index := 0#32
  ![6, v462.toNat, 0, 0]
def k0_off21 (k0_t7 : Fin k0_t7_loop.trips) : Fin 4 → Nat :=
  let c6_288 : Index := 6#32
  let c0_i32_265 : BitVec 32 := 0#32
  let c1_i32_267 : BitVec 32 := 1#32
  let arg11 : BitVec 32 := Scf.iv c0_i32_265 c1_i32_267 k0_t7
  let v466 : Index := Scalar.indexCast arg11
  let c64_289 : Index := 64#32
  let c0_290 : Index := 0#32
  ![6, v466.toNat, 64, 0]
@[reducible] def k0_t8_loop : Scf.Loop 32 :=
  let c0_i32_279 : BitVec 32 := 0#32
  let c16_i32_280 : BitVec 32 := 16#32
  let v458 : BitVec 32 := Scalar.addi c0_i32_279 c16_i32_280
  let c1_i32_281 : BitVec 32 := 1#32
  ⟨c0_i32_279, v458, c1_i32_281⟩
def k0_off22 (k0_t8 : Fin k0_t8_loop.trips) : Fin 3 → Nat :=
  let c0_i32_279 : BitVec 32 := 0#32
  let c1_i32_281 : BitVec 32 := 1#32
  let arg11 : BitVec 32 := Scf.iv c0_i32_279 c1_i32_281 k0_t8
  let v459 : Index := Scalar.indexCast arg11
  let c448_283 : Index := 448#32
  let c0_284 : Index := 0#32
  ![v459.toNat, 448, 0]
def k0_off23 (k0_t8 : Fin k0_t8_loop.trips) : Fin 4 → Nat :=
  let c7_285 : Index := 7#32
  let c0_i32_279 : BitVec 32 := 0#32
  let c1_i32_281 : BitVec 32 := 1#32
  let arg11 : BitVec 32 := Scf.iv c0_i32_279 c1_i32_281 k0_t8
  let v462 : Index := Scalar.indexCast arg11
  let c0_286 : Index := 0#32
  let c0_287 : Index := 0#32
  ![7, v462.toNat, 0, 0]
def k0_off24 (k0_t8 : Fin k0_t8_loop.trips) : Fin 4 → Nat :=
  let c7_288 : Index := 7#32
  let c0_i32_279 : BitVec 32 := 0#32
  let c1_i32_281 : BitVec 32 := 1#32
  let arg11 : BitVec 32 := Scf.iv c0_i32_279 c1_i32_281 k0_t8
  let v466 : Index := Scalar.indexCast arg11
  let c64_289 : Index := 64#32
  let c0_290 : Index := 0#32
  ![7, v466.toNat, 64, 0]
@[reducible] def k0_t9_loop (i : grid0.Coords) : Scf.Loop 32 :=
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_63 : BitVec 32 := 1#32
  ⟨c0_i32_61, v83, c1_i32_63⟩
def k0_off25 (i : grid0.Coords) (k0_t9 : Fin (k0_t9_loop i).trips) : Fin 3 → Nat :=
  let c0_171 : Index := 0#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_170 : BitVec 32 := 256#32
  let v365 : BitVec 32 := Scalar.muli v364 c256_i32_170
  let v366 : Index := Scalar.indexCast v365
  let c0_172 : Index := 0#32
  ![0, v366.toNat, 0]
def k0_off26 (i : grid0.Coords) (k0_t9 : Fin (k0_t9_loop i).trips) : Fin 3 → Nat :=
  let c1_175 : Index := 1#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_174 : BitVec 32 := 256#32
  let v370 : BitVec 32 := Scalar.muli v364 c256_i32_174
  let v371 : Index := Scalar.indexCast v370
  let c0_176 : Index := 0#32
  ![1, v371.toNat, 0]
def k0_off27 (i : grid0.Coords) (k0_t9 : Fin (k0_t9_loop i).trips) : Fin 3 → Nat :=
  let c2_179 : Index := 2#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_178 : BitVec 32 := 256#32
  let v375 : BitVec 32 := Scalar.muli v364 c256_i32_178
  let v376 : Index := Scalar.indexCast v375
  let c0_180 : Index := 0#32
  ![2, v376.toNat, 0]
def k0_off28 (i : grid0.Coords) (k0_t9 : Fin (k0_t9_loop i).trips) : Fin 3 → Nat :=
  let c3_183 : Index := 3#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_182 : BitVec 32 := 256#32
  let v380 : BitVec 32 := Scalar.muli v364 c256_i32_182
  let v381 : Index := Scalar.indexCast v380
  let c0_184 : Index := 0#32
  ![3, v381.toNat, 0]
def k0_off29 (i : grid0.Coords) (k0_t9 : Fin (k0_t9_loop i).trips) : Fin 3 → Nat :=
  let c4_187 : Index := 4#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_186 : BitVec 32 := 256#32
  let v385 : BitVec 32 := Scalar.muli v364 c256_i32_186
  let v386 : Index := Scalar.indexCast v385
  let c0_188 : Index := 0#32
  ![4, v386.toNat, 0]
def k0_off30 (i : grid0.Coords) (k0_t9 : Fin (k0_t9_loop i).trips) : Fin 3 → Nat :=
  let c5_191 : Index := 5#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_190 : BitVec 32 := 256#32
  let v390 : BitVec 32 := Scalar.muli v364 c256_i32_190
  let v391 : Index := Scalar.indexCast v390
  let c0_192 : Index := 0#32
  ![5, v391.toNat, 0]
def k0_off31 (i : grid0.Coords) (k0_t9 : Fin (k0_t9_loop i).trips) : Fin 3 → Nat :=
  let c6_195 : Index := 6#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_194 : BitVec 32 := 256#32
  let v395 : BitVec 32 := Scalar.muli v364 c256_i32_194
  let v396 : Index := Scalar.indexCast v395
  let c0_196 : Index := 0#32
  ![6, v396.toNat, 0]
def k0_off32 (i : grid0.Coords) (k0_t9 : Fin (k0_t9_loop i).trips) : Fin 3 → Nat :=
  let c7_199 : Index := 7#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c256_i32_198 : BitVec 32 := 256#32
  let v400 : BitVec 32 := Scalar.muli v364 c256_i32_198
  let v401 : Index := Scalar.indexCast v400
  let c0_200 : Index := 0#32
  ![7, v401.toNat, 0]
def k0_off33 (i : grid0.Coords) (k0_t9 : Fin (k0_t9_loop i).trips) : Fin 3 → Nat :=
  let c0_204 : Index := 0#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_202 : BitVec 32 := 1#32
  let v405 : BitVec 32 := Scalar.addi v364 c1_i32_202
  let c256_i32_203 : BitVec 32 := 256#32
  let v406 : BitVec 32 := Scalar.muli v405 c256_i32_203
  let v407 : Index := Scalar.indexCast v406
  let c0_205 : Index := 0#32
  ![0, v407.toNat, 0]
def k0_off34 (i : grid0.Coords) (k0_t9 : Fin (k0_t9_loop i).trips) : Fin 3 → Nat :=
  let c1_209 : Index := 1#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_207 : BitVec 32 := 1#32
  let v411 : BitVec 32 := Scalar.addi v364 c1_i32_207
  let c256_i32_208 : BitVec 32 := 256#32
  let v412 : BitVec 32 := Scalar.muli v411 c256_i32_208
  let v413 : Index := Scalar.indexCast v412
  let c0_210 : Index := 0#32
  ![1, v413.toNat, 0]
def k0_off35 (i : grid0.Coords) (k0_t9 : Fin (k0_t9_loop i).trips) : Fin 3 → Nat :=
  let c2_214 : Index := 2#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_212 : BitVec 32 := 1#32
  let v417 : BitVec 32 := Scalar.addi v364 c1_i32_212
  let c256_i32_213 : BitVec 32 := 256#32
  let v418 : BitVec 32 := Scalar.muli v417 c256_i32_213
  let v419 : Index := Scalar.indexCast v418
  let c0_215 : Index := 0#32
  ![2, v419.toNat, 0]
def k0_off36 (i : grid0.Coords) (k0_t9 : Fin (k0_t9_loop i).trips) : Fin 3 → Nat :=
  let c3_219 : Index := 3#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_217 : BitVec 32 := 1#32
  let v423 : BitVec 32 := Scalar.addi v364 c1_i32_217
  let c256_i32_218 : BitVec 32 := 256#32
  let v424 : BitVec 32 := Scalar.muli v423 c256_i32_218
  let v425 : Index := Scalar.indexCast v424
  let c0_220 : Index := 0#32
  ![3, v425.toNat, 0]
def k0_off37 (i : grid0.Coords) (k0_t9 : Fin (k0_t9_loop i).trips) : Fin 3 → Nat :=
  let c4_224 : Index := 4#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_222 : BitVec 32 := 1#32
  let v429 : BitVec 32 := Scalar.addi v364 c1_i32_222
  let c256_i32_223 : BitVec 32 := 256#32
  let v430 : BitVec 32 := Scalar.muli v429 c256_i32_223
  let v431 : Index := Scalar.indexCast v430
  let c0_225 : Index := 0#32
  ![4, v431.toNat, 0]
def k0_off38 (i : grid0.Coords) (k0_t9 : Fin (k0_t9_loop i).trips) : Fin 3 → Nat :=
  let c5_229 : Index := 5#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_227 : BitVec 32 := 1#32
  let v435 : BitVec 32 := Scalar.addi v364 c1_i32_227
  let c256_i32_228 : BitVec 32 := 256#32
  let v436 : BitVec 32 := Scalar.muli v435 c256_i32_228
  let v437 : Index := Scalar.indexCast v436
  let c0_230 : Index := 0#32
  ![5, v437.toNat, 0]
def k0_off39 (i : grid0.Coords) (k0_t9 : Fin (k0_t9_loop i).trips) : Fin 3 → Nat :=
  let c6_234 : Index := 6#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_232 : BitVec 32 := 1#32
  let v441 : BitVec 32 := Scalar.addi v364 c1_i32_232
  let c256_i32_233 : BitVec 32 := 256#32
  let v442 : BitVec 32 := Scalar.muli v441 c256_i32_233
  let v443 : Index := Scalar.indexCast v442
  let c0_235 : Index := 0#32
  ![6, v443.toNat, 0]
def k0_off40 (i : grid0.Coords) (k0_t9 : Fin (k0_t9_loop i).trips) : Fin 3 → Nat :=
  let c7_239 : Index := 7#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_237 : BitVec 32 := 1#32
  let v447 : BitVec 32 := Scalar.addi v364 c1_i32_237
  let c256_i32_238 : BitVec 32 := 256#32
  let v448 : BitVec 32 := Scalar.muli v447 c256_i32_238
  let v449 : Index := Scalar.indexCast v448
  let c0_240 : Index := 0#32
  ![7, v449.toNat, 0]
def k0_off41 (i : grid0.Coords) (k0_t9 : Fin (k0_t9_loop i).trips) : Fin 4 → Nat :=
  let c0_242 : Index := 0#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v453 : Index := Scalar.indexCast v364
  let c0_243 : Index := 0#32
  let c0_244 : Index := 0#32
  ![0, v453.toNat, 0, 0]
def k0_off42 (i : grid0.Coords) (k0_t9 : Fin (k0_t9_loop i).trips) : Fin 4 → Nat :=
  let c0_250 : Index := 0#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_249 : BitVec 32 := 1#32
  let v473 : BitVec 32 := Scalar.addi v364 c1_i32_249
  let v474 : Index := Scalar.indexCast v473
  let c0_251 : Index := 0#32
  let c0_252 : Index := 0#32
  ![0, v474.toNat, 0, 0]
def k0_off43 (i : grid0.Coords) (k0_t9 : Fin (k0_t9_loop i).trips) : Fin 4 → Nat :=
  let c1_257 : Index := 1#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v494 : Index := Scalar.indexCast v364
  let c0_258 : Index := 0#32
  let c0_259 : Index := 0#32
  ![1, v494.toNat, 0, 0]
def k0_off44 (i : grid0.Coords) (k0_t9 : Fin (k0_t9_loop i).trips) : Fin 4 → Nat :=
  let c1_265 : Index := 1#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_264 : BitVec 32 := 1#32
  let v514 : BitVec 32 := Scalar.addi v364 c1_i32_264
  let v515 : Index := Scalar.indexCast v514
  let c0_266 : Index := 0#32
  let c0_267 : Index := 0#32
  ![1, v515.toNat, 0, 0]
def k0_off45 (i : grid0.Coords) (k0_t9 : Fin (k0_t9_loop i).trips) : Fin 4 → Nat :=
  let c2_272 : Index := 2#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v535 : Index := Scalar.indexCast v364
  let c0_273 : Index := 0#32
  let c0_274 : Index := 0#32
  ![2, v535.toNat, 0, 0]
def k0_off46 (i : grid0.Coords) (k0_t9 : Fin (k0_t9_loop i).trips) : Fin 4 → Nat :=
  let c2_280 : Index := 2#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_279 : BitVec 32 := 1#32
  let v555 : BitVec 32 := Scalar.addi v364 c1_i32_279
  let v556 : Index := Scalar.indexCast v555
  let c0_281 : Index := 0#32
  let c0_282 : Index := 0#32
  ![2, v556.toNat, 0, 0]
def k0_off47 (i : grid0.Coords) (k0_t9 : Fin (k0_t9_loop i).trips) : Fin 4 → Nat :=
  let c3_287 : Index := 3#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v576 : Index := Scalar.indexCast v364
  let c0_288 : Index := 0#32
  let c0_289 : Index := 0#32
  ![3, v576.toNat, 0, 0]
def k0_off48 (i : grid0.Coords) (k0_t9 : Fin (k0_t9_loop i).trips) : Fin 4 → Nat :=
  let c3_295 : Index := 3#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_294 : BitVec 32 := 1#32
  let v596 : BitVec 32 := Scalar.addi v364 c1_i32_294
  let v597 : Index := Scalar.indexCast v596
  let c0_296 : Index := 0#32
  let c0_297 : Index := 0#32
  ![3, v597.toNat, 0, 0]
def k0_off49 (i : grid0.Coords) (k0_t9 : Fin (k0_t9_loop i).trips) : Fin 4 → Nat :=
  let c4_302 : Index := 4#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v617 : Index := Scalar.indexCast v364
  let c0_303 : Index := 0#32
  let c0_304 : Index := 0#32
  ![4, v617.toNat, 0, 0]
def k0_off50 (i : grid0.Coords) (k0_t9 : Fin (k0_t9_loop i).trips) : Fin 4 → Nat :=
  let c4_310 : Index := 4#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_309 : BitVec 32 := 1#32
  let v637 : BitVec 32 := Scalar.addi v364 c1_i32_309
  let v638 : Index := Scalar.indexCast v637
  let c0_311 : Index := 0#32
  let c0_312 : Index := 0#32
  ![4, v638.toNat, 0, 0]
def k0_off51 (i : grid0.Coords) (k0_t9 : Fin (k0_t9_loop i).trips) : Fin 4 → Nat :=
  let c5_317 : Index := 5#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v658 : Index := Scalar.indexCast v364
  let c0_318 : Index := 0#32
  let c0_319 : Index := 0#32
  ![5, v658.toNat, 0, 0]
def k0_off52 (i : grid0.Coords) (k0_t9 : Fin (k0_t9_loop i).trips) : Fin 4 → Nat :=
  let c5_325 : Index := 5#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_324 : BitVec 32 := 1#32
  let v678 : BitVec 32 := Scalar.addi v364 c1_i32_324
  let v679 : Index := Scalar.indexCast v678
  let c0_326 : Index := 0#32
  let c0_327 : Index := 0#32
  ![5, v679.toNat, 0, 0]
def k0_off53 (i : grid0.Coords) (k0_t9 : Fin (k0_t9_loop i).trips) : Fin 4 → Nat :=
  let c6_332 : Index := 6#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v699 : Index := Scalar.indexCast v364
  let c0_333 : Index := 0#32
  let c0_334 : Index := 0#32
  ![6, v699.toNat, 0, 0]
def k0_off54 (i : grid0.Coords) (k0_t9 : Fin (k0_t9_loop i).trips) : Fin 4 → Nat :=
  let c6_340 : Index := 6#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_339 : BitVec 32 := 1#32
  let v719 : BitVec 32 := Scalar.addi v364 c1_i32_339
  let v720 : Index := Scalar.indexCast v719
  let c0_341 : Index := 0#32
  let c0_342 : Index := 0#32
  ![6, v720.toNat, 0, 0]
def k0_off55 (i : grid0.Coords) (k0_t9 : Fin (k0_t9_loop i).trips) : Fin 4 → Nat :=
  let c7_347 : Index := 7#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let v740 : Index := Scalar.indexCast v364
  let c0_348 : Index := 0#32
  let c0_349 : Index := 0#32
  ![7, v740.toNat, 0, 0]
def k0_off56 (i : grid0.Coords) (k0_t9 : Fin (k0_t9_loop i).trips) : Fin 4 → Nat :=
  let c7_355 : Index := 7#32
  let c2_i32_169 : BitVec 32 := 2#32
  let c0_i32_61 : BitVec 32 := 0#32
  let c1_i32_63 : BitVec 32 := 1#32
  let arg11 : BitVec 32 := Scf.iv c0_i32_61 c1_i32_63 k0_t9
  let v364 : BitVec 32 := Scalar.muli c2_i32_169 arg11
  let c1_i32_354 : BitVec 32 := 1#32
  let v760 : BitVec 32 := Scalar.addi v364 c1_i32_354
  let v761 : Index := Scalar.indexCast v760
  let c0_356 : Index := 0#32
  let c0_357 : Index := 0#32
  ![7, v761.toNat, 0, 0]
@[reducible] def k0_t10_loop (i : grid0.Coords) : Scf.Loop 32 :=
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let v80 : BitVec 32 := Scalar.addi c0_i32_61 v79
  let c1_i32_64 : BitVec 32 := 1#32
  ⟨v83, v80, c1_i32_64⟩
def k0_off57 (i : grid0.Coords) (k0_t10 : Fin (k0_t10_loop i).trips) : Fin 3 → Nat :=
  let c0_171 : Index := 0#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_170 : BitVec 32 := 256#32
  let v365 : BitVec 32 := Scalar.muli v364 c256_i32_170
  let v366 : Index := Scalar.indexCast v365
  let c0_172 : Index := 0#32
  ![0, v366.toNat, 0]
def k0_off58 (i : grid0.Coords) (k0_t10 : Fin (k0_t10_loop i).trips) : Fin 3 → Nat :=
  let c1_175 : Index := 1#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_174 : BitVec 32 := 256#32
  let v370 : BitVec 32 := Scalar.muli v364 c256_i32_174
  let v371 : Index := Scalar.indexCast v370
  let c0_176 : Index := 0#32
  ![1, v371.toNat, 0]
def k0_off59 (i : grid0.Coords) (k0_t10 : Fin (k0_t10_loop i).trips) : Fin 3 → Nat :=
  let c2_179 : Index := 2#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_178 : BitVec 32 := 256#32
  let v375 : BitVec 32 := Scalar.muli v364 c256_i32_178
  let v376 : Index := Scalar.indexCast v375
  let c0_180 : Index := 0#32
  ![2, v376.toNat, 0]
def k0_off60 (i : grid0.Coords) (k0_t10 : Fin (k0_t10_loop i).trips) : Fin 3 → Nat :=
  let c3_183 : Index := 3#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_182 : BitVec 32 := 256#32
  let v380 : BitVec 32 := Scalar.muli v364 c256_i32_182
  let v381 : Index := Scalar.indexCast v380
  let c0_184 : Index := 0#32
  ![3, v381.toNat, 0]
def k0_off61 (i : grid0.Coords) (k0_t10 : Fin (k0_t10_loop i).trips) : Fin 3 → Nat :=
  let c4_187 : Index := 4#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_186 : BitVec 32 := 256#32
  let v385 : BitVec 32 := Scalar.muli v364 c256_i32_186
  let v386 : Index := Scalar.indexCast v385
  let c0_188 : Index := 0#32
  ![4, v386.toNat, 0]
def k0_off62 (i : grid0.Coords) (k0_t10 : Fin (k0_t10_loop i).trips) : Fin 3 → Nat :=
  let c5_191 : Index := 5#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_190 : BitVec 32 := 256#32
  let v390 : BitVec 32 := Scalar.muli v364 c256_i32_190
  let v391 : Index := Scalar.indexCast v390
  let c0_192 : Index := 0#32
  ![5, v391.toNat, 0]
def k0_off63 (i : grid0.Coords) (k0_t10 : Fin (k0_t10_loop i).trips) : Fin 3 → Nat :=
  let c6_195 : Index := 6#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_194 : BitVec 32 := 256#32
  let v395 : BitVec 32 := Scalar.muli v364 c256_i32_194
  let v396 : Index := Scalar.indexCast v395
  let c0_196 : Index := 0#32
  ![6, v396.toNat, 0]
def k0_off64 (i : grid0.Coords) (k0_t10 : Fin (k0_t10_loop i).trips) : Fin 3 → Nat :=
  let c7_199 : Index := 7#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c256_i32_198 : BitVec 32 := 256#32
  let v400 : BitVec 32 := Scalar.muli v364 c256_i32_198
  let v401 : Index := Scalar.indexCast v400
  let c0_200 : Index := 0#32
  ![7, v401.toNat, 0]
def k0_off65 (i : grid0.Coords) (k0_t10 : Fin (k0_t10_loop i).trips) : Fin 3 → Nat :=
  let c0_204 : Index := 0#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_202 : BitVec 32 := 1#32
  let v405 : BitVec 32 := Scalar.addi v364 c1_i32_202
  let c256_i32_203 : BitVec 32 := 256#32
  let v406 : BitVec 32 := Scalar.muli v405 c256_i32_203
  let v407 : Index := Scalar.indexCast v406
  let c0_205 : Index := 0#32
  ![0, v407.toNat, 0]
def k0_off66 (i : grid0.Coords) (k0_t10 : Fin (k0_t10_loop i).trips) : Fin 3 → Nat :=
  let c1_209 : Index := 1#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_207 : BitVec 32 := 1#32
  let v411 : BitVec 32 := Scalar.addi v364 c1_i32_207
  let c256_i32_208 : BitVec 32 := 256#32
  let v412 : BitVec 32 := Scalar.muli v411 c256_i32_208
  let v413 : Index := Scalar.indexCast v412
  let c0_210 : Index := 0#32
  ![1, v413.toNat, 0]
def k0_off67 (i : grid0.Coords) (k0_t10 : Fin (k0_t10_loop i).trips) : Fin 3 → Nat :=
  let c2_214 : Index := 2#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_212 : BitVec 32 := 1#32
  let v417 : BitVec 32 := Scalar.addi v364 c1_i32_212
  let c256_i32_213 : BitVec 32 := 256#32
  let v418 : BitVec 32 := Scalar.muli v417 c256_i32_213
  let v419 : Index := Scalar.indexCast v418
  let c0_215 : Index := 0#32
  ![2, v419.toNat, 0]
def k0_off68 (i : grid0.Coords) (k0_t10 : Fin (k0_t10_loop i).trips) : Fin 3 → Nat :=
  let c3_219 : Index := 3#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_217 : BitVec 32 := 1#32
  let v423 : BitVec 32 := Scalar.addi v364 c1_i32_217
  let c256_i32_218 : BitVec 32 := 256#32
  let v424 : BitVec 32 := Scalar.muli v423 c256_i32_218
  let v425 : Index := Scalar.indexCast v424
  let c0_220 : Index := 0#32
  ![3, v425.toNat, 0]
def k0_off69 (i : grid0.Coords) (k0_t10 : Fin (k0_t10_loop i).trips) : Fin 3 → Nat :=
  let c4_224 : Index := 4#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_222 : BitVec 32 := 1#32
  let v429 : BitVec 32 := Scalar.addi v364 c1_i32_222
  let c256_i32_223 : BitVec 32 := 256#32
  let v430 : BitVec 32 := Scalar.muli v429 c256_i32_223
  let v431 : Index := Scalar.indexCast v430
  let c0_225 : Index := 0#32
  ![4, v431.toNat, 0]
def k0_off70 (i : grid0.Coords) (k0_t10 : Fin (k0_t10_loop i).trips) : Fin 3 → Nat :=
  let c5_229 : Index := 5#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_227 : BitVec 32 := 1#32
  let v435 : BitVec 32 := Scalar.addi v364 c1_i32_227
  let c256_i32_228 : BitVec 32 := 256#32
  let v436 : BitVec 32 := Scalar.muli v435 c256_i32_228
  let v437 : Index := Scalar.indexCast v436
  let c0_230 : Index := 0#32
  ![5, v437.toNat, 0]
def k0_off71 (i : grid0.Coords) (k0_t10 : Fin (k0_t10_loop i).trips) : Fin 3 → Nat :=
  let c6_234 : Index := 6#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_232 : BitVec 32 := 1#32
  let v441 : BitVec 32 := Scalar.addi v364 c1_i32_232
  let c256_i32_233 : BitVec 32 := 256#32
  let v442 : BitVec 32 := Scalar.muli v441 c256_i32_233
  let v443 : Index := Scalar.indexCast v442
  let c0_235 : Index := 0#32
  ![6, v443.toNat, 0]
def k0_off72 (i : grid0.Coords) (k0_t10 : Fin (k0_t10_loop i).trips) : Fin 3 → Nat :=
  let c7_239 : Index := 7#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_237 : BitVec 32 := 1#32
  let v447 : BitVec 32 := Scalar.addi v364 c1_i32_237
  let c256_i32_238 : BitVec 32 := 256#32
  let v448 : BitVec 32 := Scalar.muli v447 c256_i32_238
  let v449 : Index := Scalar.indexCast v448
  let c0_240 : Index := 0#32
  ![7, v449.toNat, 0]
def k0_off73 (i : grid0.Coords) (k0_t10 : Fin (k0_t10_loop i).trips) : Fin 4 → Nat :=
  let c0_242 : Index := 0#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v453 : Index := Scalar.indexCast v364
  let c0_243 : Index := 0#32
  let c0_244 : Index := 0#32
  ![0, v453.toNat, 0, 0]
def k0_off74 (i : grid0.Coords) (k0_t10 : Fin (k0_t10_loop i).trips) : Fin 4 → Nat :=
  let c0_250 : Index := 0#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_249 : BitVec 32 := 1#32
  let v473 : BitVec 32 := Scalar.addi v364 c1_i32_249
  let v474 : Index := Scalar.indexCast v473
  let c0_251 : Index := 0#32
  let c0_252 : Index := 0#32
  ![0, v474.toNat, 0, 0]
def k0_off75 (i : grid0.Coords) (k0_t10 : Fin (k0_t10_loop i).trips) : Fin 4 → Nat :=
  let c1_257 : Index := 1#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v494 : Index := Scalar.indexCast v364
  let c0_258 : Index := 0#32
  let c0_259 : Index := 0#32
  ![1, v494.toNat, 0, 0]
def k0_off76 (i : grid0.Coords) (k0_t10 : Fin (k0_t10_loop i).trips) : Fin 4 → Nat :=
  let c1_265 : Index := 1#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_264 : BitVec 32 := 1#32
  let v514 : BitVec 32 := Scalar.addi v364 c1_i32_264
  let v515 : Index := Scalar.indexCast v514
  let c0_266 : Index := 0#32
  let c0_267 : Index := 0#32
  ![1, v515.toNat, 0, 0]
def k0_off77 (i : grid0.Coords) (k0_t10 : Fin (k0_t10_loop i).trips) : Fin 4 → Nat :=
  let c2_272 : Index := 2#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v535 : Index := Scalar.indexCast v364
  let c0_273 : Index := 0#32
  let c0_274 : Index := 0#32
  ![2, v535.toNat, 0, 0]
def k0_off78 (i : grid0.Coords) (k0_t10 : Fin (k0_t10_loop i).trips) : Fin 4 → Nat :=
  let c2_280 : Index := 2#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_279 : BitVec 32 := 1#32
  let v555 : BitVec 32 := Scalar.addi v364 c1_i32_279
  let v556 : Index := Scalar.indexCast v555
  let c0_281 : Index := 0#32
  let c0_282 : Index := 0#32
  ![2, v556.toNat, 0, 0]
def k0_off79 (i : grid0.Coords) (k0_t10 : Fin (k0_t10_loop i).trips) : Fin 4 → Nat :=
  let c3_287 : Index := 3#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v576 : Index := Scalar.indexCast v364
  let c0_288 : Index := 0#32
  let c0_289 : Index := 0#32
  ![3, v576.toNat, 0, 0]
def k0_off80 (i : grid0.Coords) (k0_t10 : Fin (k0_t10_loop i).trips) : Fin 4 → Nat :=
  let c3_295 : Index := 3#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_294 : BitVec 32 := 1#32
  let v596 : BitVec 32 := Scalar.addi v364 c1_i32_294
  let v597 : Index := Scalar.indexCast v596
  let c0_296 : Index := 0#32
  let c0_297 : Index := 0#32
  ![3, v597.toNat, 0, 0]
def k0_off81 (i : grid0.Coords) (k0_t10 : Fin (k0_t10_loop i).trips) : Fin 4 → Nat :=
  let c4_302 : Index := 4#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v617 : Index := Scalar.indexCast v364
  let c0_303 : Index := 0#32
  let c0_304 : Index := 0#32
  ![4, v617.toNat, 0, 0]
def k0_off82 (i : grid0.Coords) (k0_t10 : Fin (k0_t10_loop i).trips) : Fin 4 → Nat :=
  let c4_310 : Index := 4#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_309 : BitVec 32 := 1#32
  let v637 : BitVec 32 := Scalar.addi v364 c1_i32_309
  let v638 : Index := Scalar.indexCast v637
  let c0_311 : Index := 0#32
  let c0_312 : Index := 0#32
  ![4, v638.toNat, 0, 0]
def k0_off83 (i : grid0.Coords) (k0_t10 : Fin (k0_t10_loop i).trips) : Fin 4 → Nat :=
  let c5_317 : Index := 5#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v658 : Index := Scalar.indexCast v364
  let c0_318 : Index := 0#32
  let c0_319 : Index := 0#32
  ![5, v658.toNat, 0, 0]
def k0_off84 (i : grid0.Coords) (k0_t10 : Fin (k0_t10_loop i).trips) : Fin 4 → Nat :=
  let c5_325 : Index := 5#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_324 : BitVec 32 := 1#32
  let v678 : BitVec 32 := Scalar.addi v364 c1_i32_324
  let v679 : Index := Scalar.indexCast v678
  let c0_326 : Index := 0#32
  let c0_327 : Index := 0#32
  ![5, v679.toNat, 0, 0]
def k0_off85 (i : grid0.Coords) (k0_t10 : Fin (k0_t10_loop i).trips) : Fin 4 → Nat :=
  let c6_332 : Index := 6#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v699 : Index := Scalar.indexCast v364
  let c0_333 : Index := 0#32
  let c0_334 : Index := 0#32
  ![6, v699.toNat, 0, 0]
def k0_off86 (i : grid0.Coords) (k0_t10 : Fin (k0_t10_loop i).trips) : Fin 4 → Nat :=
  let c6_340 : Index := 6#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_339 : BitVec 32 := 1#32
  let v719 : BitVec 32 := Scalar.addi v364 c1_i32_339
  let v720 : Index := Scalar.indexCast v719
  let c0_341 : Index := 0#32
  let c0_342 : Index := 0#32
  ![6, v720.toNat, 0, 0]
def k0_off87 (i : grid0.Coords) (k0_t10 : Fin (k0_t10_loop i).trips) : Fin 4 → Nat :=
  let c7_347 : Index := 7#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let v740 : Index := Scalar.indexCast v364
  let c0_348 : Index := 0#32
  let c0_349 : Index := 0#32
  ![7, v740.toNat, 0, 0]
def k0_off88 (i : grid0.Coords) (k0_t10 : Fin (k0_t10_loop i).trips) : Fin 4 → Nat :=
  let c7_355 : Index := 7#32
  let c2_i32_169 : BitVec 32 := 2#32
  let c0_i32_61 : BitVec 32 := 0#32
  let arg2 : BitVec 32 := BitVec.ofNat 32 (i 2).val
  let c0_i32_56 : BitVec 32 := 0#32
  let v63 : BitVec 1 := Scalar.cmpi .sgt arg2 c0_i32_56
  let v64 : BitVec 32 := Scalar.extui v63
  let c0_i32_57 : BitVec 32 := 0#32
  let v65 : BitVec 1 := Scalar.cmpi .slt arg2 c0_i32_57
  let v66 : BitVec 32 := Scalar.extui v65
  let v67 : BitVec 32 := Scalar.subi v64 v66
  let c2_i32 : BitVec 32 := 2#32
  let c0_i32_58 : BitVec 32 := 0#32
  let v68 : BitVec 1 := Scalar.cmpi .sgt c2_i32 c0_i32_58
  let v69 : BitVec 32 := Scalar.extui v68
  let c0_i32_59 : BitVec 32 := 0#32
  let v70 : BitVec 1 := Scalar.cmpi .slt c2_i32 c0_i32_59
  let v71 : BitVec 32 := Scalar.extui v70
  let v72 : BitVec 32 := Scalar.subi v69 v71
  let v73 : BitVec 1 := Scalar.cmpi .ne v67 v72
  let v74 : BitVec 32 := Scalar.remsi arg2 c2_i32
  let c0_i32_60 : BitVec 32 := 0#32
  let v75 : BitVec 1 := Scalar.cmpi .ne v74 c0_i32_60
  let v76 : BitVec 1 := Scalar.andi v73 v75
  let v62 : BitVec 32 := Scalar.divsi arg2 c2_i32
  let c1_i32 : BitVec 32 := 1#32
  let v77 : BitVec 32 := Scalar.subi v62 c1_i32
  let v78 : BitVec 32 := Scalar.select v76 v77 v62
  let v79 : BitVec 32 := Scalar.subi v78 c0_i32_61
  let c1_i32_62 : BitVec 32 := 1#32
  let v81 : BitVec 32 := Scalar.divsi v79 c1_i32_62
  let v82 : BitVec 32 := Scalar.muli v81 c1_i32_62
  let v83 : BitVec 32 := Scalar.addi c0_i32_61 v82
  let c1_i32_64 : BitVec 32 := 1#32
  let arg11 : BitVec 32 := Scf.iv v83 c1_i32_64 k0_t10
  let v364 : BitVec 32 := Scalar.muli c2_i32_169 arg11
  let c1_i32_354 : BitVec 32 := 1#32
  let v760 : BitVec 32 := Scalar.addi v364 c1_i32_354
  let v761 : Index := Scalar.indexCast v760
  let c0_356 : Index := 0#32
  let c0_357 : Index := 0#32
  ![7, v761.toNat, 0, 0]
def k0_cond2 (i : grid0.Coords) : BitVec 1 :=
  let arg2 : BitVec 32 := BitVec.ofNat 32 (i 2).val
  let c2_i32_65 : BitVec 32 := 2#32
  let c0_i32_66 : BitVec 32 := 0#32
  let v86 : BitVec 1 := Scalar.cmpi .eq c2_i32_65 c0_i32_66
  let c1_i32_67 : BitVec 32 := 1#32
  let v87 : BitVec 32 := Scalar.select v86 c1_i32_67 c2_i32_65
  let v88 : BitVec 32 := Scalar.remsi arg2 v87
  let c0_i32_69 : BitVec 32 := 0#32
  let v90 : BitVec 1 := Scalar.cmpi .slt v88 c0_i32_69
  let c0_i32_70 : BitVec 32 := 0#32
  let v91 : BitVec 1 := Scalar.cmpi .slt v87 c0_i32_70
  let v92 : BitVec 1 := Scalar.xori v90 v91
  let c0_i32_68 : BitVec 32 := 0#32
  let v89 : BitVec 1 := Scalar.cmpi .ne v88 c0_i32_68
  let v93 : BitVec 1 := Scalar.andi v92 v89
  let v94 : BitVec 32 := Scalar.addi v88 v87
  let v95 : BitVec 32 := Scalar.select v93 v94 v88
  let c1_i32_71 : BitVec 32 := 1#32
  let v96 : BitVec 1 := Scalar.cmpi .eq v95 c1_i32_71
  let v97 : BitVec 32 := Scalar.extui v96
  let c0_i32_72 : BitVec 32 := 0#32
  let v98 : BitVec 1 := Scalar.cmpi .ne v97 c0_i32_72
  v98

def k0_off89 (i : grid0.Coords) : Fin 3 → Nat :=
  let c0_171 : Index := 0#32
  let arg2 : BitVec 32 := BitVec.ofNat 32 (i 2).val
  let c1_i32_169 : BitVec 32 := 1#32
  let v364 : BitVec 32 := Scalar.subi arg2 c1_i32_169
  let c256_i32_170 : BitVec 32 := 256#32
  let v365 : BitVec 32 := Scalar.muli v364 c256_i32_170
  let v366 : Index := Scalar.indexCast v365
  let c0_172 : Index := 0#32
  ![0, v366.toNat, 0]
def k0_off90 (i : grid0.Coords) : Fin 3 → Nat :=
  let c1_175 : Index := 1#32
  let arg2 : BitVec 32 := BitVec.ofNat 32 (i 2).val
  let c1_i32_169 : BitVec 32 := 1#32
  let v364 : BitVec 32 := Scalar.subi arg2 c1_i32_169
  let c256_i32_174 : BitVec 32 := 256#32
  let v370 : BitVec 32 := Scalar.muli v364 c256_i32_174
  let v371 : Index := Scalar.indexCast v370
  let c0_176 : Index := 0#32
  ![1, v371.toNat, 0]
def k0_off91 (i : grid0.Coords) : Fin 3 → Nat :=
  let c2_179 : Index := 2#32
  let arg2 : BitVec 32 := BitVec.ofNat 32 (i 2).val
  let c1_i32_169 : BitVec 32 := 1#32
  let v364 : BitVec 32 := Scalar.subi arg2 c1_i32_169
  let c256_i32_178 : BitVec 32 := 256#32
  let v375 : BitVec 32 := Scalar.muli v364 c256_i32_178
  let v376 : Index := Scalar.indexCast v375
  let c0_180 : Index := 0#32
  ![2, v376.toNat, 0]
def k0_off92 (i : grid0.Coords) : Fin 3 → Nat :=
  let c3_183 : Index := 3#32
  let arg2 : BitVec 32 := BitVec.ofNat 32 (i 2).val
  let c1_i32_169 : BitVec 32 := 1#32
  let v364 : BitVec 32 := Scalar.subi arg2 c1_i32_169
  let c256_i32_182 : BitVec 32 := 256#32
  let v380 : BitVec 32 := Scalar.muli v364 c256_i32_182
  let v381 : Index := Scalar.indexCast v380
  let c0_184 : Index := 0#32
  ![3, v381.toNat, 0]
def k0_off93 (i : grid0.Coords) : Fin 3 → Nat :=
  let c4_187 : Index := 4#32
  let arg2 : BitVec 32 := BitVec.ofNat 32 (i 2).val
  let c1_i32_169 : BitVec 32 := 1#32
  let v364 : BitVec 32 := Scalar.subi arg2 c1_i32_169
  let c256_i32_186 : BitVec 32 := 256#32
  let v385 : BitVec 32 := Scalar.muli v364 c256_i32_186
  let v386 : Index := Scalar.indexCast v385
  let c0_188 : Index := 0#32
  ![4, v386.toNat, 0]
def k0_off94 (i : grid0.Coords) : Fin 3 → Nat :=
  let c5_191 : Index := 5#32
  let arg2 : BitVec 32 := BitVec.ofNat 32 (i 2).val
  let c1_i32_169 : BitVec 32 := 1#32
  let v364 : BitVec 32 := Scalar.subi arg2 c1_i32_169
  let c256_i32_190 : BitVec 32 := 256#32
  let v390 : BitVec 32 := Scalar.muli v364 c256_i32_190
  let v391 : Index := Scalar.indexCast v390
  let c0_192 : Index := 0#32
  ![5, v391.toNat, 0]
def k0_off95 (i : grid0.Coords) : Fin 3 → Nat :=
  let c6_195 : Index := 6#32
  let arg2 : BitVec 32 := BitVec.ofNat 32 (i 2).val
  let c1_i32_169 : BitVec 32 := 1#32
  let v364 : BitVec 32 := Scalar.subi arg2 c1_i32_169
  let c256_i32_194 : BitVec 32 := 256#32
  let v395 : BitVec 32 := Scalar.muli v364 c256_i32_194
  let v396 : Index := Scalar.indexCast v395
  let c0_196 : Index := 0#32
  ![6, v396.toNat, 0]
def k0_off96 (i : grid0.Coords) : Fin 3 → Nat :=
  let c7_199 : Index := 7#32
  let arg2 : BitVec 32 := BitVec.ofNat 32 (i 2).val
  let c1_i32_169 : BitVec 32 := 1#32
  let v364 : BitVec 32 := Scalar.subi arg2 c1_i32_169
  let c256_i32_198 : BitVec 32 := 256#32
  let v400 : BitVec 32 := Scalar.muli v364 c256_i32_198
  let v401 : Index := Scalar.indexCast v400
  let c0_200 : Index := 0#32
  ![7, v401.toNat, 0]
def k0_off97 (i : grid0.Coords) : Fin 4 → Nat :=
  let c0_202 : Index := 0#32
  let arg2 : BitVec 32 := BitVec.ofNat 32 (i 2).val
  let c1_i32_169 : BitVec 32 := 1#32
  let v364 : BitVec 32 := Scalar.subi arg2 c1_i32_169
  let v405 : Index := Scalar.indexCast v364
  let c0_203 : Index := 0#32
  let c0_204 : Index := 0#32
  ![0, v405.toNat, 0, 0]
def k0_off98 (i : grid0.Coords) : Fin 4 → Nat :=
  let c1_209 : Index := 1#32
  let arg2 : BitVec 32 := BitVec.ofNat 32 (i 2).val
  let c1_i32_169 : BitVec 32 := 1#32
  let v364 : BitVec 32 := Scalar.subi arg2 c1_i32_169
  let v425 : Index := Scalar.indexCast v364
  let c0_210 : Index := 0#32
  let c0_211 : Index := 0#32
  ![1, v425.toNat, 0, 0]
def k0_off99 (i : grid0.Coords) : Fin 4 → Nat :=
  let c2_216 : Index := 2#32
  let arg2 : BitVec 32 := BitVec.ofNat 32 (i 2).val
  let c1_i32_169 : BitVec 32 := 1#32
  let v364 : BitVec 32 := Scalar.subi arg2 c1_i32_169
  let v445 : Index := Scalar.indexCast v364
  let c0_217 : Index := 0#32
  let c0_218 : Index := 0#32
  ![2, v445.toNat, 0, 0]
def k0_off100 (i : grid0.Coords) : Fin 4 → Nat :=
  let c3_223 : Index := 3#32
  let arg2 : BitVec 32 := BitVec.ofNat 32 (i 2).val
  let c1_i32_169 : BitVec 32 := 1#32
  let v364 : BitVec 32 := Scalar.subi arg2 c1_i32_169
  let v465 : Index := Scalar.indexCast v364
  let c0_224 : Index := 0#32
  let c0_225 : Index := 0#32
  ![3, v465.toNat, 0, 0]
def k0_off101 (i : grid0.Coords) : Fin 4 → Nat :=
  let c4_230 : Index := 4#32
  let arg2 : BitVec 32 := BitVec.ofNat 32 (i 2).val
  let c1_i32_169 : BitVec 32 := 1#32
  let v364 : BitVec 32 := Scalar.subi arg2 c1_i32_169
  let v485 : Index := Scalar.indexCast v364
  let c0_231 : Index := 0#32
  let c0_232 : Index := 0#32
  ![4, v485.toNat, 0, 0]
def k0_off102 (i : grid0.Coords) : Fin 4 → Nat :=
  let c5_237 : Index := 5#32
  let arg2 : BitVec 32 := BitVec.ofNat 32 (i 2).val
  let c1_i32_169 : BitVec 32 := 1#32
  let v364 : BitVec 32 := Scalar.subi arg2 c1_i32_169
  let v505 : Index := Scalar.indexCast v364
  let c0_238 : Index := 0#32
  let c0_239 : Index := 0#32
  ![5, v505.toNat, 0, 0]
def k0_off103 (i : grid0.Coords) : Fin 4 → Nat :=
  let c6_244 : Index := 6#32
  let arg2 : BitVec 32 := BitVec.ofNat 32 (i 2).val
  let c1_i32_169 : BitVec 32 := 1#32
  let v364 : BitVec 32 := Scalar.subi arg2 c1_i32_169
  let v525 : Index := Scalar.indexCast v364
  let c0_245 : Index := 0#32
  let c0_246 : Index := 0#32
  ![6, v525.toNat, 0, 0]
def k0_off104 (i : grid0.Coords) : Fin 4 → Nat :=
  let c7_251 : Index := 7#32
  let arg2 : BitVec 32 := BitVec.ofNat 32 (i 2).val
  let c1_i32_169 : BitVec 32 := 1#32
  let v364 : BitVec 32 := Scalar.subi arg2 c1_i32_169
  let v545 : Index := Scalar.indexCast v364
  let c0_252 : Index := 0#32
  let c0_253 : Index := 0#32
  ![7, v545.toNat, 0, 0]
def k0_off105 (i : grid0.Coords) : Fin 3 → Nat :=
  let c0_73 : Index := 0#32
  let arg2 : BitVec 32 := BitVec.ofNat 32 (i 2).val
  let c256_i32 : BitVec 32 := 256#32
  let v100 : BitVec 32 := Scalar.muli arg2 c256_i32
  let v101 : Index := Scalar.indexCast v100
  let c0_74 : Index := 0#32
  ![0, v101.toNat, 0]
def k0_off106 (i : grid0.Coords) : Fin 3 → Nat :=
  let c1 : Index := 1#32
  let arg2 : BitVec 32 := BitVec.ofNat 32 (i 2).val
  let c256_i32_76 : BitVec 32 := 256#32
  let v105 : BitVec 32 := Scalar.muli arg2 c256_i32_76
  let v106 : Index := Scalar.indexCast v105
  let c0_77 : Index := 0#32
  ![1, v106.toNat, 0]
def k0_off107 (i : grid0.Coords) : Fin 3 → Nat :=
  let c2 : Index := 2#32
  let arg2 : BitVec 32 := BitVec.ofNat 32 (i 2).val
  let c256_i32_79 : BitVec 32 := 256#32
  let v110 : BitVec 32 := Scalar.muli arg2 c256_i32_79
  let v111 : Index := Scalar.indexCast v110
  let c0_80 : Index := 0#32
  ![2, v111.toNat, 0]
def k0_off108 (i : grid0.Coords) : Fin 3 → Nat :=
  let c3 : Index := 3#32
  let arg2 : BitVec 32 := BitVec.ofNat 32 (i 2).val
  let c256_i32_82 : BitVec 32 := 256#32
  let v115 : BitVec 32 := Scalar.muli arg2 c256_i32_82
  let v116 : Index := Scalar.indexCast v115
  let c0_83 : Index := 0#32
  ![3, v116.toNat, 0]
def k0_off109 (i : grid0.Coords) : Fin 3 → Nat :=
  let c4 : Index := 4#32
  let arg2 : BitVec 32 := BitVec.ofNat 32 (i 2).val
  let c256_i32_85 : BitVec 32 := 256#32
  let v120 : BitVec 32 := Scalar.muli arg2 c256_i32_85
  let v121 : Index := Scalar.indexCast v120
  let c0_86 : Index := 0#32
  ![4, v121.toNat, 0]
def k0_off110 (i : grid0.Coords) : Fin 3 → Nat :=
  let c5 : Index := 5#32
  let arg2 : BitVec 32 := BitVec.ofNat 32 (i 2).val
  let c256_i32_88 : BitVec 32 := 256#32
  let v125 : BitVec 32 := Scalar.muli arg2 c256_i32_88
  let v126 : Index := Scalar.indexCast v125
  let c0_89 : Index := 0#32
  ![5, v126.toNat, 0]
def k0_off111 (i : grid0.Coords) : Fin 3 → Nat :=
  let c6 : Index := 6#32
  let arg2 : BitVec 32 := BitVec.ofNat 32 (i 2).val
  let c256_i32_91 : BitVec 32 := 256#32
  let v130 : BitVec 32 := Scalar.muli arg2 c256_i32_91
  let v131 : Index := Scalar.indexCast v130
  let c0_92 : Index := 0#32
  ![6, v131.toNat, 0]
def k0_off112 (i : grid0.Coords) : Fin 3 → Nat :=
  let c7 : Index := 7#32
  let arg2 : BitVec 32 := BitVec.ofNat 32 (i 2).val
  let c256_i32_94 : BitVec 32 := 256#32
  let v135 : BitVec 32 := Scalar.muli arg2 c256_i32_94
  let v136 : Index := Scalar.indexCast v135
  let c0_95 : Index := 0#32
  ![7, v136.toNat, 0]
def k0_off113 (i : grid0.Coords) : Fin 4 → Nat :=
  let c0_98 : Index := 0#32
  let arg2 : BitVec 32 := BitVec.ofNat 32 (i 2).val
  let v142 : Index := Scalar.indexCast arg2
  let c0_99 : Index := 0#32
  let c0_100 : Index := 0#32
  ![0, v142.toNat, 0, 0]
def k0_off114 (i : grid0.Coords) : Fin 4 → Nat :=
  let c1_106 : Index := 1#32
  let arg2 : BitVec 32 := BitVec.ofNat 32 (i 2).val
  let v164 : Index := Scalar.indexCast arg2
  let c0_107 : Index := 0#32
  let c0_108 : Index := 0#32
  ![1, v164.toNat, 0, 0]
def k0_off115 (i : grid0.Coords) : Fin 4 → Nat :=
  let c2_114 : Index := 2#32
  let arg2 : BitVec 32 := BitVec.ofNat 32 (i 2).val
  let v186 : Index := Scalar.indexCast arg2
  let c0_115 : Index := 0#32
  let c0_116 : Index := 0#32
  ![2, v186.toNat, 0, 0]
def k0_off116 (i : grid0.Coords) : Fin 4 → Nat :=
  let c3_122 : Index := 3#32
  let arg2 : BitVec 32 := BitVec.ofNat 32 (i 2).val
  let v208 : Index := Scalar.indexCast arg2
  let c0_123 : Index := 0#32
  let c0_124 : Index := 0#32
  ![3, v208.toNat, 0, 0]
def k0_off117 (i : grid0.Coords) : Fin 4 → Nat :=
  let c4_130 : Index := 4#32
  let arg2 : BitVec 32 := BitVec.ofNat 32 (i 2).val
  let v230 : Index := Scalar.indexCast arg2
  let c0_131 : Index := 0#32
  let c0_132 : Index := 0#32
  ![4, v230.toNat, 0, 0]
def k0_off118 (i : grid0.Coords) : Fin 4 → Nat :=
  let c5_138 : Index := 5#32
  let arg2 : BitVec 32 := BitVec.ofNat 32 (i 2).val
  let v252 : Index := Scalar.indexCast arg2
  let c0_139 : Index := 0#32
  let c0_140 : Index := 0#32
  ![5, v252.toNat, 0, 0]
def k0_off119 (i : grid0.Coords) : Fin 4 → Nat :=
  let c6_146 : Index := 6#32
  let arg2 : BitVec 32 := BitVec.ofNat 32 (i 2).val
  let v274 : Index := Scalar.indexCast arg2
  let c0_147 : Index := 0#32
  let c0_148 : Index := 0#32
  ![6, v274.toNat, 0, 0]
def k0_off120 (i : grid0.Coords) : Fin 4 → Nat :=
  let c7_154 : Index := 7#32
  let arg2 : BitVec 32 := BitVec.ofNat 32 (i 2).val
  let v296 : Index := Scalar.indexCast arg2
  let c0_155 : Index := 0#32
  let c0_156 : Index := 0#32
  ![7, v296.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
def κ : String → Option EReal := fun
  | "mask" => some ⊥
  | _ => none
-- ==== Reference.lean ====
abbrev S4x4096x1024 : Shape := ⟨3, ![4, 4096, 1024]⟩
abbrev S4x4096x16x64 : Shape := ⟨4, ![4, 4096, 16, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x16x4096x4096 : Shape := ⟨4, ![4, 16, 4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x1024, .f32⟩
  | .hbm, ⟨5, _⟩ => ⟨S4x4096x16x64, .f32⟩
  | .hbm, ⟨6, _⟩ => ⟨S4x4096x16x64, .f32⟩
  | .hbm, ⟨7, _⟩ => ⟨S4x4096x16x64, .f32⟩
  | .hbm, ⟨8, _⟩ => ⟨S4x4096x16x64, .f32⟩
  | .hbm, ⟨9, _⟩ => ⟨S4x4096x16x64, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4x16x4096x4096, .f32⟩
  | .hbm, ⟨17, _⟩ => ⟨S_, .f32⟩
  | .hbm, ⟨18, _⟩ => ⟨S4x16x4096x4096, .f32⟩
  | .hbm, ⟨19, _⟩ => ⟨S4x16x4096x4096, .f32⟩
  | .hbm, ⟨20, _⟩ => ⟨S4x16x4096x4096, .f32⟩
  | .hbm, ⟨21, _⟩ => ⟨S4x16x4096x4096, .f32⟩
  | .hbm, ⟨22, _⟩ => ⟨S_, .f32⟩
  | .hbm, ⟨23, _⟩ => ⟨S_, .f32⟩
  | .hbm, ⟨24, _⟩ => ⟨S4x16x4096x4096, .i1⟩
  | .hbm, ⟨25, _⟩ => ⟨S4x16x4096x4096, .f32⟩
  | .hbm, ⟨26, _⟩ => ⟨S4x16x4096x4096, .f32⟩
  | .hbm, ⟨27, _⟩ => ⟨S_, .f32⟩
  | .hbm, ⟨28, _⟩ => ⟨S4x16x4096, .f32⟩
  | .hbm, ⟨29, _⟩ => ⟨S_, .f32⟩
  | .hbm, ⟨30, _⟩ => ⟨S4x16x4096, .f32⟩
  | .hbm, ⟨31, _⟩ => ⟨S4x16x4096, .f32⟩
  | .hbm, ⟨32, _⟩ => ⟨S4x16x4096x1, .f32⟩
  | .hbm, ⟨33, _⟩ => ⟨S4x16x4096x4096, .f32⟩
  | .hbm, ⟨34, _⟩ => ⟨S4x16x4096x4096, .f32⟩
  | .hbm, ⟨35, _⟩ => ⟨S4x16x4096x4096, .f32⟩
  | .hbm, ⟨36, _⟩ => ⟨S_, .f32⟩
  | .hbm, ⟨37, _⟩ => ⟨S4x16x4096, .f32⟩
  | .hbm, ⟨38, _⟩ => ⟨S4x16x4096x1, .f32⟩
  | .hbm, ⟨39, _⟩ => ⟨S4x16x4096x4096, .f32⟩
  | .hbm, ⟨40, _⟩ => ⟨S4x16x4096x4096, .f32⟩
  | .hbm, ⟨41, _⟩ => ⟨S4x16x64x4096, .f32⟩
  | .hbm, ⟨42, _⟩ => ⟨S4x4096x16x64, .f32⟩
  | .hbm, ⟨43, _⟩ => ⟨S16384x1024, .f32⟩
  | .hbm, ⟨44, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x1024 : Shape := ⟨2, ![1024, 1024]⟩
abbrev S4x1x1024 : Shape := ⟨3, ![4, 1, 1024]⟩
abbrev S1024 : Shape := ⟨1, ![1024]⟩
abbrev S1024x2048 : Shape := ⟨2, ![1024, 2048]⟩
abbrev S16384x1024 : Shape := ⟨2, ![16384, 1024]⟩
abbrev S1x1024 : Shape := ⟨2, ![1, 1024]⟩
abbrev S16384x2048 : Shape := ⟨2, ![16384, 2048]⟩
abbrev S512x1024 : Shape := ⟨2, ![512, 1024]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x2048, .f32⟩
  | .hbm, ⟨8, _⟩ => ⟨S16384x1024, .f32⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1024x2048, .bf16⟩
  | .hbm, ⟨13, _⟩ => ⟨S1x1024, .f32⟩
  | .hbm, ⟨14, _⟩ => ⟨S16384x1024, .f32⟩
  | .hbm, ⟨15, _⟩ => ⟨S16384x1024, .bf16⟩
  | .hbm, ⟨16, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S1024x1024 : Shape := ⟨2, ![1024, 1024]⟩
abbrev S4x1x1024 : Shape := ⟨3, ![4, 1, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S4x1x1024, .f32⟩
  | .hbm, ⟨4, _⟩ => ⟨S1024, .f32⟩
  | .hbm, ⟨5, _⟩ => ⟨S4x1x1024, .f32⟩
  | .hbm, ⟨6, _⟩ => ⟨S4x1x1024, .f32⟩
  | .hbm, ⟨7, _⟩ => ⟨S1024x2048, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x1x1024, .f32⟩
  | .hbm, ⟨30, _⟩ => ⟨S4x1x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S16384x2048, .f32⟩
  | .hbm, ⟨39, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1024 : Shape := ⟨1, ![1024]⟩
abbrev S1024x2048 : Shape := ⟨2, ![1024, 2048]⟩
abbrev S16384x1024 : Shape := ⟨2, ![16384, 1024]⟩
abbrev S16384x512 : Shape := ⟨2, ![16384, 512]⟩
abbrev S1x1024 : Shape := ⟨2, ![1, 1024]⟩
abbrev S16384x2048 : Shape := ⟨2, ![16384, 2048]⟩
abbrev S512x1024 : Shape := ⟨2, ![512, 1024]⟩
abbrev S512x512 : Shape := ⟨2, ![512, 512]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩

abbrev nBuf : Space → Nat
  | .hbm => 20
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x2048, .f32⟩
  | .hbm, ⟨9, _⟩ => ⟨S16384x1024, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S1024x1024, .bf16⟩
  | .hbm, ⟨15, _⟩ => ⟨S1024x2048, .bf16⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x2048, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | .local _ .vmem, ⟨20, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S4x1x1024 : Shape := ⟨3, ![4, 1, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2048 : Shape := ⟨2, ![16384, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S4x1x1024, .f32⟩
  | .hbm, ⟨5, _⟩ => ⟨S1024, .f32⟩
  | .hbm, ⟨6, _⟩ => ⟨S4x1x1024, .f32⟩
  | .hbm, ⟨7, _⟩ => ⟨S4x1x1024, .f32⟩
  | .hbm, ⟨8, _⟩ => ⟨S1024x2048, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | .hbm, ⟨40, _⟩ => ⟨S16384x2048, .f32⟩
  | .hbm, ⟨41, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S4x1x1024 : Shape := ⟨3, ![4, 1, 1024]⟩
abbrev S1024x3088 : Shape := ⟨2, ![1024, 3088]⟩
abbrev S_ : Shape := ⟨0, ![]⟩
abbrev S1024x3200 : Shape := ⟨2, ![1024, 3200]⟩
abbrev S16384x1024 : Shape := ⟨2, ![16384, 1024]⟩
abbrev S3200x1024 : Shape := ⟨2, ![3200, 1024]⟩
abbrev S1x1024 : Shape := ⟨2, ![1, 1024]⟩
abbrev S64x1024x256 : Shape := ⟨3, ![64, 1024, 256]⟩
abbrev S16384x128 : Shape := ⟨2, ![16384, 128]⟩
abbrev S512x1024 : Shape := ⟨2, ![512, 1024]⟩
abbrev S1x1x1024 : Shape := ⟨3, ![1, 1, 1024]⟩
abbrev S2x1024x256 : Shape := ⟨3, ![2, 1024, 256]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S1024x256 : Shape := ⟨2, ![1024, 256]⟩
abbrev S1x1024x256 : Shape := ⟨3, ![1, 1024, 256]⟩
abbrev S1024x128 : Shape := ⟨2, ![1024, 128]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3088, .f32⟩
  | .hbm, ⟨5, _⟩ => ⟨S_, .i32⟩
  | .hbm, ⟨6, _⟩ => ⟨S_, .f32⟩
  | .hbm, ⟨7, _⟩ => ⟨S1024x3200, .f32⟩
  | .hbm, ⟨8, _⟩ => ⟨S1024x3200, .bf16⟩
  | .hbm, ⟨9, _⟩ => ⟨S16384x1024, .f32⟩
  | .hbm, ⟨10, _⟩ => ⟨S3200x1024, .bf16⟩
  | .hbm, ⟨11, _⟩ => ⟨S1x1024, .f32⟩
  | .hbm, ⟨12, _⟩ => ⟨S64x1024x256, .bf16⟩
  | .hbm, ⟨13, _⟩ => ⟨S16384x1024, .bf16⟩
  | .hbm, ⟨14, _⟩ => ⟨S64x1024x256, .bf16⟩
  | .hbm, ⟨15, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S3200x1024, .bf16⟩
  | .local _ .vmem, ⟨9, _⟩ => ⟨S2x1024x256, .bf16⟩
  | .local _ .vmem, ⟨10, _⟩ => ⟨S2x1024x256, .bf16⟩
  | .local _ .vmem, ⟨11, _⟩ => ⟨S512x1024, .bf16⟩
  | .local _ .vmem, ⟨12, _⟩ => ⟨S512x1024, .bf16⟩
  | .local _ .vmem, ⟨13, _⟩ => ⟨S2x1024x256, .bf16⟩
  | .local _ .vmem, ⟨14, _⟩ => ⟨S2x1024x256, .bf16⟩
  | .local _ .vmem, ⟨15, _⟩ => ⟨S512x128, .f32⟩
  | .local _ .vmem, ⟨16, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3200x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x1024 : Shape := ⟨3, ![4, 4096, 1024]⟩
abbrev S1024 : Shape := ⟨1, ![1024]⟩
abbrev S4x1x1024 : Shape := ⟨3, ![4, 1, 1024]⟩
abbrev S1024x3088 : Shape := ⟨2, ![1024, 3088]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3088 : Shape := ⟨3, ![4, 4096, 3088]⟩
abbrev S4x4096x16 : Shape := ⟨3, ![4, 4096, 16]⟩
abbrev S64x256x1024 : Shape := ⟨3, ![64, 256, 1024]⟩
abbrev S64x1024x256 : Shape := ⟨3, ![64, 1024, 256]⟩
abbrev S16384x1024 : Shape := ⟨2, ![16384, 1024]⟩
abbrev S16384x16 : Shape := ⟨2, ![16384, 16]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x3088, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x3088, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x16, .f32⟩
  | .hbm, ⟨33, _⟩ => ⟨S_, .f32⟩
  | .hbm, ⟨34, _⟩ => ⟨S4x4096x1024, .f32⟩
  | .hbm, ⟨35, _⟩ => ⟨S4x4096x1024, .f32⟩
  | .hbm, ⟨36, _⟩ => ⟨S64x256x1024, .f32⟩
  | .hbm, ⟨37, _⟩ => ⟨S64x1024x256, .f32⟩
  | .hbm, ⟨38, _⟩ => ⟨S64x256x1024, .f32⟩
  | .hbm, ⟨39, _⟩ => ⟨S64x1024x256, .f32⟩
  | .hbm, ⟨40, _⟩ => ⟨S64x1024x256, .bf16⟩
  | .hbm, ⟨41, _⟩ => ⟨S16384x1024, .f32⟩
  | .hbm, ⟨42, _⟩ => ⟨S16384x1024, .bf16⟩
  | .hbm, ⟨43, _⟩ => ⟨S64x1024x256, .bf16⟩
  | .hbm, ⟨44, _⟩ => ⟨S16384x16, .f32⟩
  | .hbm, ⟨45, _⟩ => ⟨S_, .i32⟩
  | .hbm, ⟨46, _⟩ => ⟨S_, .f32⟩
  | .hbm, ⟨47, _⟩ => ⟨S16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S4x1x1024 : Shape := ⟨3, ![4, 1, 1024]⟩
abbrev S1024x2888 : Shape := ⟨2, ![1024, 2888]⟩
abbrev S256 : Shape := ⟨1, ![256]⟩
abbrev S1024x72 : Shape := ⟨2, ![1024, 72]⟩
abbrev S_ : Shape := ⟨0, ![]⟩
abbrev S1024x128 : Shape := ⟨2, ![1024, 128]⟩
abbrev S1024x1280 : Shape := ⟨2, ![1024, 1280]⟩
abbrev S1024x1536 : Shape := ⟨2, ![1024, 1536]⟩
abbrev S1024x2944 : Shape := ⟨2, ![1024, 2944]⟩
abbrev S16384x1024 : Shape := ⟨2, ![16384, 1024]⟩
abbrev S2944x1024 : Shape := ⟨2, ![2944, 1024]⟩
abbrev S1x1024 : Shape := ⟨2, ![1, 1024]⟩
abbrev S1x256 : Shape := ⟨2, ![1, 256]⟩
abbrev S64x512x256 : Shape := ⟨3, ![64, 512, 256]⟩
abbrev S16384x256 : Shape := ⟨2, ![16384, 256]⟩
abbrev S64x256x256 : Shape := ⟨3, ![64, 256, 256]⟩
abbrev S16384x128 : Shape := ⟨2, ![16384, 128]⟩
abbrev S64x128x256 : Shape := ⟨3, ![64, 128, 256]⟩
abbrev S16384x512 : Shape := ⟨2, ![16384, 512]⟩
abbrev S512x1024 : Shape := ⟨2, ![512, 1024]⟩
abbrev S1x1x1024 : Shape := ⟨3, ![1, 1, 1024]⟩
abbrev S2x512x256 : Shape := ⟨3, ![2, 512, 256]⟩
abbrev S512x256 : Shape := ⟨2, ![512, 256]⟩
abbrev S2x256x256 : Shape := ⟨3, ![2, 256, 256]⟩
abbrev S512x128 : Shape := ⟨2, ![512, 128]⟩
abbrev S2x128x256 : Shape := ⟨3, ![2, 128, 256]⟩
abbrev S512x512 : Shape := ⟨2, ![512, 512]⟩
abbrev S512 : Shape := ⟨1, ![512]⟩
abbrev S512x1 : Shape := ⟨2, ![512, 1]⟩
abbrev S1x512x256 : Shape := ⟨3, ![1, 512, 256]⟩
abbrev S1024x256 : Shape := ⟨2, ![1024, 256]⟩
abbrev S256x512 : Shape := ⟨2, ![256, 512]⟩
abbrev S256x256 : Shape := ⟨2, ![256, 256]⟩
abbrev S1x256x256 : Shape := ⟨3, ![1, 256, 256]⟩
abbrev S128x1024 : Shape := ⟨2, ![128, 1024]⟩
abbrev S128x512 : Shape := ⟨2, ![128, 512]⟩
abbrev S128x256 : Shape := ⟨2, ![128, 256]⟩
abbrev S1x128x256 : Shape := ⟨3, ![1, 128, 256]⟩
abbrev S1024x512 : Shape := ⟨2, ![1024, 512]⟩

abbrev nBuf : Space → Nat
  | .hbm => 27
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x2888, .f32⟩
  | .hbm, ⟨5, _⟩ => ⟨S256, .f32⟩
  | .hbm, ⟨6, _⟩ => ⟨S1024x72, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x1280, .f32⟩
  | .hbm, ⟨11, _⟩ => ⟨S1024x1536, .f32⟩
  | .hbm, ⟨12, _⟩ => ⟨S1024x2944, .f32⟩
  | .hbm, ⟨13, _⟩ => ⟨S1024x2944, .bf16⟩
  | .hbm, ⟨14, _⟩ => ⟨S16384x1024, .f32⟩
  | .hbm, ⟨15, _⟩ => ⟨S2944x1024, .bf16⟩
  | .hbm, ⟨16, _⟩ => ⟨S1x1024, .f32⟩
  | .hbm, ⟨17, _⟩ => ⟨S1x256, .f32⟩
  | .hbm, ⟨18, _⟩ => ⟨S64x512x256, .bf16⟩
  | .hbm, ⟨19, _⟩ => ⟨S16384x256, .bf16⟩
  | .hbm, ⟨20, _⟩ => ⟨S64x256x256, .bf16⟩
  | .hbm, ⟨21, _⟩ => ⟨S64x512x256, .bf16⟩
  | .hbm, ⟨22, _⟩ => ⟨S16384x128, .bf16⟩
  | .hbm, ⟨23, _⟩ => ⟨S64x128x256, .f32⟩
  | .hbm, ⟨24, _⟩ => ⟨S64x512x256, .bf16⟩
  | .hbm, ⟨25, _⟩ => ⟨S16384x512, .bf16⟩
  | .hbm, ⟨26, _⟩ => ⟨S64x512x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2944, .bf16⟩
  | .local _ .vmem, ⟨8, _⟩ => ⟨S2944x1024, .bf16⟩
  | .local _ .vmem, ⟨9, _⟩ => ⟨S1x256, .f32⟩
  | .local _ .vmem, ⟨10, _⟩ => ⟨S2x512x256, .bf16⟩
  | .local _ .vmem, ⟨11, _⟩ => ⟨S2x512x256, .bf16⟩
  | .local _ .vmem, ⟨12, _⟩ => ⟨S512x256, .bf16⟩
  | .local _ .vmem, ⟨13, _⟩ => ⟨S512x256, .bf16⟩
  | .local _ .vmem, ⟨14, _⟩ => ⟨S2x256x256, .bf16⟩
  | .local _ .vmem, ⟨15, _⟩ => ⟨S2x256x256, .bf16⟩
  | .local _ .vmem, ⟨16, _⟩ => ⟨S2x512x256, .bf16⟩
  | .local _ .vmem, ⟨17, _⟩ => ⟨S2x512x256, .bf16⟩
  | .local _ .vmem, ⟨18, _⟩ => ⟨S512x128, .bf16⟩
  | .local _ .vmem, ⟨19, _⟩ => ⟨S512x128, .bf16⟩
  | .local _ .vmem, ⟨20, _⟩ => ⟨S2x128x256, .f32⟩
  | .local _ .vmem, ⟨21, _⟩ => ⟨S2x128x256, .f32⟩
  | .local _ .vmem, ⟨22, _⟩ => ⟨S2x512x256, .bf16⟩
  | .local _ .vmem, ⟨23, _⟩ => ⟨S2x512x256, .bf16⟩
  | .local _ .vmem, ⟨24, _⟩ => ⟨S512x512, .bf16⟩
  | .local _ .vmem, ⟨25, _⟩ => ⟨S512x512, .bf16⟩
  | .local _ .vmem, ⟨26, _⟩ => ⟨S2x512x256, .bf16⟩
  | .local _ .vmem, ⟨27, _⟩ => ⟨S2x512x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev main_v10_5 : Ref sig .tc := ⟨.hbm, 23, rfl⟩
abbrev main_v10_6 : Ref sig .tc := ⟨.hbm, 24, rfl⟩
abbrev main_v10_7 : Ref sig .tc := ⟨.hbm, 25, rfl⟩
abbrev main_v10_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2944x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S4x4096x1024 : Shape := ⟨3, ![4, 4096, 1024]⟩
abbrev S1024 : Shape := ⟨1, ![1024]⟩
abbrev S4x1x1024 : Shape := ⟨3, ![4, 1, 1024]⟩
abbrev S1024x2888 : Shape := ⟨2, ![1024, 2888]⟩
abbrev S256 : Shape := ⟨1, ![256]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2888 : Shape := ⟨3, ![4, 4096, 2888]⟩
abbrev S4x4096x512 : Shape := ⟨3, ![4, 4096, 512]⟩
abbrev S4x4096x256 : Shape := ⟨3, ![4, 4096, 256]⟩
abbrev S4x4096x64 : Shape := ⟨3, ![4, 4096, 64]⟩
abbrev S4x4096x8 : Shape := ⟨3, ![4, 4096, 8]⟩
abbrev S1x1x256 : Shape := ⟨3, ![1, 1, 256]⟩
abbrev S64x256x512 : Shape := ⟨3, ![64, 256, 512]⟩
abbrev S64x512x256 : Shape := ⟨3, ![64, 512, 256]⟩
abbrev S64x256x256 : Shape := ⟨3, ![64, 256, 256]⟩
abbrev S4x4096x72 : Shape := ⟨3, ![4, 4096, 72]⟩
abbrev S16384x72 : Shape := ⟨2, ![16384, 72]⟩
abbrev S16384x128 : Shape := ⟨2, ![16384, 128]⟩
abbrev S64x256x128 : Shape := ⟨3, ![64, 256, 128]⟩
abbrev S64x128x256 : Shape := ⟨3, ![64, 128, 256]⟩
abbrev S16384x256 : Shape := ⟨2, ![16384, 256]⟩
abbrev S16384x512 : Shape := ⟨2, ![16384, 512]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S4x1x1024, .f32⟩
  | .hbm, ⟨3, _⟩ => ⟨S4x1x1024, .f32⟩
  | .hbm, ⟨4, _⟩ => ⟨S1024x2888, .f32⟩
  | .hbm, ⟨5, _⟩ => ⟨S256, .f32⟩
  | .hbm, ⟨6, _⟩ => ⟨S4x4096x1024, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x1024, .f32⟩
  | .hbm, ⟨18, _⟩ => ⟨S4x4096x1024, .f32⟩
  | .hbm, ⟨19, _⟩ => ⟨S1x1x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x2888, .f32⟩
  | .hbm, ⟨30, _⟩ => ⟨S4x4096x512, .f32⟩
  | .hbm, ⟨31, _⟩ => ⟨S4x4096x256, .f32⟩
  | .hbm, ⟨32, _⟩ => ⟨S4x4096x512, .f32⟩
  | .hbm, ⟨33, _⟩ => ⟨S4x4096x64, .f32⟩
  | .hbm, ⟨34, _⟩ => ⟨S4x4096x8, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x256, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S4x4096x1, .f32⟩
  | .hbm, ⟨49, _⟩ => ⟨S4x4096x256, .f32⟩
  | .hbm, ⟨50, _⟩ => ⟨S4x4096x256, .f32⟩
  | .hbm, ⟨51, _⟩ => ⟨S1x1x256, .f32⟩
  | .hbm, ⟨52, _⟩ => ⟨S4x4096x256, .f32⟩
  | .hbm, ⟨53, _⟩ => ⟨S4x4096x256, .f32⟩
  | .hbm, ⟨54, _⟩ => ⟨S_, .f32⟩
  | .hbm, ⟨55, _⟩ => ⟨S4x4096x512, .f32⟩
  | .hbm, ⟨56, _⟩ => ⟨S4x4096x512, .f32⟩
  | .hbm, ⟨57, _⟩ => ⟨S64x256x512, .f32⟩
  | .hbm, ⟨58, _⟩ => ⟨S64x512x256, .f32⟩
  | .hbm, ⟨59, _⟩ => ⟨S64x256x256, .f32⟩
  | .hbm, ⟨60, _⟩ => ⟨S64x256x256, .f32⟩
  | .hbm, ⟨61, _⟩ => ⟨S_, .f32⟩
  | .hbm, ⟨62, _⟩ => ⟨S4x4096x512, .f32⟩
  | .hbm, ⟨63, _⟩ => ⟨S4x4096x512, .f32⟩
  | .hbm, ⟨64, _⟩ => ⟨S64x256x512, .f32⟩
  | .hbm, ⟨65, _⟩ => ⟨S64x512x256, .f32⟩
  | .hbm, ⟨66, _⟩ => ⟨S4x4096x72, .f32⟩
  | .hbm, ⟨67, _⟩ => ⟨S16384x72, .f32⟩
  | .hbm, ⟨68, _⟩ => ⟨S_, .i32⟩
  | .hbm, ⟨69, _⟩ => ⟨S_, .f32⟩
  | .hbm, ⟨70, _⟩ => ⟨S16384x128, .f32⟩
  | .hbm, ⟨71, _⟩ => ⟨S64x256x128, .f32⟩
  | .hbm, ⟨72, _⟩ => ⟨S64x128x256, .f32⟩
  | .hbm, ⟨73, _⟩ => ⟨S_, .f32⟩
  | .hbm, ⟨74, _⟩ => ⟨S4x4096x512, .f32⟩
  | .hbm, ⟨75, _⟩ => ⟨S4x4096x512, .f32⟩
  | .hbm, ⟨76, _⟩ => ⟨S64x256x512, .f32⟩
  | .hbm, ⟨77, _⟩ => ⟨S64x512x256, .f32⟩
  | .hbm, ⟨78, _⟩ => ⟨S64x256x512, .f32⟩
  | .hbm, ⟨79, _⟩ => ⟨S64x512x256, .f32⟩
  | .hbm, ⟨80, _⟩ => ⟨S64x512x256, .bf16⟩
  | .hbm, ⟨81, _⟩ => ⟨S16384x256, .f32⟩
  | .hbm, ⟨82, _⟩ => ⟨S16384x256, .bf16⟩
  | .hbm, ⟨83, _⟩ => ⟨S64x256x256, .bf16⟩
  | .hbm, ⟨84, _⟩ => ⟨S64x512x256, .bf16⟩
  | .hbm, ⟨85, _⟩ => ⟨S16384x128, .bf16⟩
  | .hbm, ⟨86, _⟩ => ⟨S64x512x256, .bf16⟩
  | .hbm, ⟨87, _⟩ => ⟨S16384x512, .f32⟩
  | .hbm, ⟨88, _⟩ => ⟨S16384x512, .bf16⟩
  | .hbm, ⟨89, _⟩ => ⟨S64x512x256, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c : Ref sig .tc := ⟨.hbm, 68, rfl⟩
abbrev main_call0_v0 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Ops.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.WholeRead
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Where the body reads its scratch -/

theorem i2_lt (i : grid0.Coords) : (i 2).val < 16 := (i 2).isLt

/-- The loop over pairs of key blocks makes half as many trips as there are key blocks before the query block. -/
theorem trips9 (i : grid0.Coords) : (k0_t9_loop i).trips = (i 2).val / 2 := by
  have h := i2_lt i
  unfold k0_t9_loop
  generalize (i 2).val = n at *
  interval_cases n <;> rfl

/-- The remainder loop makes no trip. -/
theorem trips10 (i : grid0.Coords) : (k0_t10_loop i).trips = 0 := by
  have h := i2_lt i
  unfold k0_t10_loop
  generalize (i 2).val = n at *
  interval_cases n <;> rfl

/-- The first condition holds at the first query block. -/
theorem cond1_iff (i : grid0.Coords) : k0_cond1 i = 1#1 ↔ (i 2).val = 0 := by
  have h := i2_lt i
  unfold k0_cond1
  generalize (i 2).val = n at *
  interval_cases n <;> decide

/-- The second condition holds at the odd query blocks. -/
theorem cond2_iff (i : grid0.Coords) : k0_cond2 i = 1#1 ↔ (i 2).val % 2 = 1 := by
  have h := i2_lt i
  unfold k0_cond2
  generalize (i 2).val = n at *
  interval_cases n <;> decide

theorem kin (h : Fin 8) (j : Fin 16) : ∀ a, (![h.val, 256 * j.val, 0] : Fin 3 → ℕ) a + S1x256x128.size a ≤ S8x4096x128.size a := by
  intro a
  have := h.isLt; have := j.isLt
  fin_cases a <;> simp [S1x256x128, S8x4096x128] <;> omega

theorem vin (h : Fin 8) (j : Fin 16) : ∀ a, (![h.val, j.val, 0, 0] : Fin 4 → ℕ) a + S1x1x128x256.size a ≤ S8x16x128x256.size a := by
  intro a
  have := h.isLt; have := j.isLt
  fin_cases a <;> simp [S1x1x128x256, S8x16x128x256] <;> omega

/-- Head `h`'s keys of block `j`. -/
def kblk (x : Vec F S8x4096x128 .bf16) (h : Fin 8) (j : Fin 16) : Vec F S1x256x128 .bf16 :=
  VecWindow.window x ![h.val, 256 * j.val, 0] S1x256x128.size (kin h j)

/-- Head `h`'s values of block `j`. -/
def vblk (x : Vec F S8x16x128x256 .bf16) (h : Fin 8) (j : Fin 16) : Vec F S1x1x128x256 .bf16 :=
  VecWindow.window x ![h.val, j.val, 0, 0] S1x1x128x256.size (vin h j)

/-! ## One update of the running maximum and the running sums -/

/-- The scores of a block of keys against the queries. -/
def score (k : Vec F S1x256x128 .bf16) (q : FVec F S128x256 .bf16) : FVec F S256x256 .f32 :=
  matmul dot_S256x128_S128x256_S256x256_1_0_0_1_n_n none (shapeCast S256x128 k shapeCasts_S1x256x128_S256x128 : FVec F S256x128 .bf16) q (constant S256x256 .f32 0x00000000#32)

/-- The scores of the block on the diagonal, masked. -/
def masked (s : FVec F S256x256 .f32) : FVec F S256x256 .f32 :=
  select (k0_pay186) s (broadcast S256x256 (Named.named κ "mask" 0xF149F2CA#32 : F .f32))

/-- The new maximum. -/
def newM (s : FVec F S256x256 .f32) (m : FVec F S1x256 .f32) : FVec F S1x256 .f32 :=
  maximumf m (addf (shapeCast S1x256 (multiReduction .maximumf [0] S256 s 0xFF800000#32 reduces_S256x256_S256 (.inl rfl) rfl : FVec F S256 .f32) shapeCasts_S256_S1x256)
    (broadcast S1x256 (Scalar.ofBits .f32 0x00000000#32 : F .f32)))

/-- The new sums. -/
def newA (s : FVec F S256x256 .f32) (v : Vec F S1x1x128x256 .bf16) (m : FVec F S1x256 .f32) (a : FVec F S128x256 .f32) : FVec F S128x256 .f32 :=
  addf (mulf (broadcastTo S128x256 (exp (subf m (newM s m))) broadcasts_S1x256_S128x256) a)
    (matmul dot_S128x256_S256x256_S128x256_1_0_0_1_n_n none (shapeCast S128x256 v shapeCasts_S1x1x128x256_S128x256 : FVec F S128x256 .bf16)
      (truncf .bf16 (exp (subf s (broadcastTo S256x256 (subf (newM s m) (broadcast S1x256 (Scalar.ofBits .f32 0x00000000#32 : F .f32))) broadcasts_S1x256_S256x256))) bitsLt_bf16_f32)
      (constant S128x256 .f32 0x00000000#32))

/-- A head's running maximum and running sums. -/
abbrev St (F : FTy → Type) := FVec F S1x256 .f32 × FVec F S128x256 .f32

/-- One update. -/
def upd (s : FVec F S256x256 .f32) (v : Vec F S1x1x128x256 .bf16) (p : St F) : St F :=
  (newM s p.1, newA s v p.1 p.2)

/-- The update by a block before the diagonal. -/
def updB (x9 : Vec F S8x4096x128 .bf16) (x10 : Vec F S8x16x128x256 .bf16) (q : FVec F S128x256 .bf16) (h : Fin 8) (j : Fin 16) (p : St F) : St F :=
  upd (score (kblk x9 h j) q) (vblk x10 h j) p

/-- The update by the block on the diagonal. -/
def updD (x9 : Vec F S8x4096x128 .bf16) (x10 : Vec F S8x16x128x256 .bf16) (q : FVec F S128x256 .bf16) (h : Fin 8) (j : Fin 16) (p : St F) : St F :=
  upd (masked (score (kblk x9 h j) q)) (vblk x10 h j) p

/-- The state every head starts from. -/
def initS : St F := (broadcast S1x256 (Named.named κ "mask" 0xF149F2CA#32 : F .f32), broadcast S128x256 (Scalar.ofBits .f32 0x00000000#32 : F .f32))

theorem off25_eq (i : grid0.Coords) (k : Fin (k0_t9_loop i).trips) (j : Fin 16) (hj : j.val = 2 * k.val) : k0_off25 i k = ![0, 256 * j.val, 0] := by
  have hk : k.val < 8 := lt_of_lt_of_le k.isLt (by rw [trips9]; have := i2_lt i; omega)
  obtain ⟨j, hj'⟩ := j
  simp only at hj ⊢
  unfold k0_off25
  subst hj
  clear hj'
  generalize k.val = k at *
  interval_cases k <;> decide +kernel

theorem ld25 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 0 j = View.readAt (Elt F) a.view (Rect.unit (s := S8x4096x128) (k0_off25 i k) S1x256x128.size (k0_off25_inb i k)).toLoadRect X :=
  (View.readAt_unit a.view X (k0_off25_inb i k) (off25_eq i k j hj) (kin 0 j)).symm

theorem off33_eq (i : grid0.Coords) (k : Fin (k0_t9_loop i).trips) (j : Fin 16) (hj : j.val = 2 * k.val + 1) : k0_off33 i k = ![0, 256 * j.val, 0] := by
  have hk : k.val < 8 := lt_of_lt_of_le k.isLt (by rw [trips9]; have := i2_lt i; omega)
  obtain ⟨j, hj'⟩ := j
  simp only at hj ⊢
  unfold k0_off33
  subst hj
  clear hj'
  generalize k.val = k at *
  interval_cases k <;> decide +kernel

theorem ld33 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 0 j = View.readAt (Elt F) a.view (Rect.unit (s := S8x4096x128) (k0_off33 i k) S1x256x128.size (k0_off33_inb i k)).toLoadRect X :=
  (View.readAt_unit a.view X (k0_off33_inb i k) (off33_eq i k j hj) (kin 0 j)).symm

theorem off41_eq (i : grid0.Coords) (k : Fin (k0_t9_loop i).trips) (j : Fin 16) (hj : j.val = 2 * k.val) : k0_off41 i k = ![0, j.val, 0, 0] := by
  have hk : k.val < 8 := lt_of_lt_of_le k.isLt (by rw [trips9]; have := i2_lt i; omega)
  obtain ⟨j, hj'⟩ := j
  simp only at hj ⊢
  unfold k0_off41
  subst hj
  clear hj'
  generalize k.val = k at *
  interval_cases k <;> decide +kernel

theorem ld41 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 0 j = View.readAt (Elt F) a.view (Rect.unit (s := S8x16x128x256) (k0_off41 i k) S1x1x128x256.size (k0_off41_inb i k)).toLoadRect X :=
  (View.readAt_unit a.view X (k0_off41_inb i k) (off41_eq i k j hj) (vin 0 j)).symm

theorem off42_eq (i : grid0.Coords) (k : Fin (k0_t9_loop i).trips) (j : Fin 16) (hj : j.val = 2 * k.val + 1) : k0_off42 i k = ![0, j.val, 0, 0] := by
  have hk : k.val < 8 := lt_of_lt_of_le k.isLt (by rw [trips9]; have := i2_lt i; omega)
  obtain ⟨j, hj'⟩ := j
  simp only at hj ⊢
  unfold k0_off42
  subst hj
  clear hj'
  generalize k.val = k at *
  interval_cases k <;> decide +kernel

theorem ld42 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 0 j = View.readAt (Elt F) a.view (Rect.unit (s := S8x16x128x256) (k0_off42 i k) S1x1x128x256.size (k0_off42_inb i k)).toLoadRect X :=
  (View.readAt_unit a.view X (k0_off42_inb i k) (off42_eq i k j hj) (vin 0 j)).symm

theorem off26_eq (i : grid0.Coords) (k : Fin (k0_t9_loop i).trips) (j : Fin 16) (hj : j.val = 2 * k.val) : k0_off26 i k = ![1, 256 * j.val, 0] := by
  have hk : k.val < 8 := lt_of_lt_of_le k.isLt (by rw [trips9]; have := i2_lt i; omega)
  obtain ⟨j, hj'⟩ := j
  simp only at hj ⊢
  unfold k0_off26
  subst hj
  clear hj'
  generalize k.val = k at *
  interval_cases k <;> decide +kernel

theorem ld26 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 1 j = View.readAt (Elt F) a.view (Rect.unit (s := S8x4096x128) (k0_off26 i k) S1x256x128.size (k0_off26_inb i k)).toLoadRect X :=
  (View.readAt_unit a.view X (k0_off26_inb i k) (off26_eq i k j hj) (kin 1 j)).symm

theorem off34_eq (i : grid0.Coords) (k : Fin (k0_t9_loop i).trips) (j : Fin 16) (hj : j.val = 2 * k.val + 1) : k0_off34 i k = ![1, 256 * j.val, 0] := by
  have hk : k.val < 8 := lt_of_lt_of_le k.isLt (by rw [trips9]; have := i2_lt i; omega)
  obtain ⟨j, hj'⟩ := j
  simp only at hj ⊢
  unfold k0_off34
  subst hj
  clear hj'
  generalize k.val = k at *
  interval_cases k <;> decide +kernel

theorem ld34 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 1 j = View.readAt (Elt F) a.view (Rect.unit (s := S8x4096x128) (k0_off34 i k) S1x256x128.size (k0_off34_inb i k)).toLoadRect X :=
  (View.readAt_unit a.view X (k0_off34_inb i k) (off34_eq i k j hj) (kin 1 j)).symm

theorem off43_eq (i : grid0.Coords) (k : Fin (k0_t9_loop i).trips) (j : Fin 16) (hj : j.val = 2 * k.val) : k0_off43 i k = ![1, j.val, 0, 0] := by
  have hk : k.val < 8 := lt_of_lt_of_le k.isLt (by rw [trips9]; have := i2_lt i; omega)
  obtain ⟨j, hj'⟩ := j
  simp only at hj ⊢
  unfold k0_off43
  subst hj
  clear hj'
  generalize k.val = k at *
  interval_cases k <;> decide +kernel

theorem ld43 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 1 j = View.readAt (Elt F) a.view (Rect.unit (s := S8x16x128x256) (k0_off43 i k) S1x1x128x256.size (k0_off43_inb i k)).toLoadRect X :=
  (View.readAt_unit a.view X (k0_off43_inb i k) (off43_eq i k j hj) (vin 1 j)).symm

theorem off44_eq (i : grid0.Coords) (k : Fin (k0_t9_loop i).trips) (j : Fin 16) (hj : j.val = 2 * k.val + 1) : k0_off44 i k = ![1, j.val, 0, 0] := by
  have hk : k.val < 8 := lt_of_lt_of_le k.isLt (by rw [trips9]; have := i2_lt i; omega)
  obtain ⟨j, hj'⟩ := j
  simp only at hj ⊢
  unfold k0_off44
  subst hj
  clear hj'
  generalize k.val = k at *
  interval_cases k <;> decide +kernel

theorem ld44 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 1 j = View.readAt (Elt F) a.view (Rect.unit (s := S8x16x128x256) (k0_off44 i k) S1x1x128x256.size (k0_off44_inb i k)).toLoadRect X :=
  (View.readAt_unit a.view X (k0_off44_inb i k) (off44_eq i k j hj) (vin 1 j)).symm

theorem off27_eq (i : grid0.Coords) (k : Fin (k0_t9_loop i).trips) (j : Fin 16) (hj : j.val = 2 * k.val) : k0_off27 i k = ![2, 256 * j.val, 0] := by
  have hk : k.val < 8 := lt_of_lt_of_le k.isLt (by rw [trips9]; have := i2_lt i; omega)
  obtain ⟨j, hj'⟩ := j
  simp only at hj ⊢
  unfold k0_off27
  subst hj
  clear hj'
  generalize k.val = k at *
  interval_cases k <;> decide +kernel

theorem ld27 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 2 j = View.readAt (Elt F) a.view (Rect.unit (s := S8x4096x128) (k0_off27 i k) S1x256x128.size (k0_off27_inb i k)).toLoadRect X :=
  (View.readAt_unit a.view X (k0_off27_inb i k) (off27_eq i k j hj) (kin 2 j)).symm

theorem off35_eq (i : grid0.Coords) (k : Fin (k0_t9_loop i).trips) (j : Fin 16) (hj : j.val = 2 * k.val + 1) : k0_off35 i k = ![2, 256 * j.val, 0] := by
  have hk : k.val < 8 := lt_of_lt_of_le k.isLt (by rw [trips9]; have := i2_lt i; omega)
  obtain ⟨j, hj'⟩ := j
  simp only at hj ⊢
  unfold k0_off35
  subst hj
  clear hj'
  generalize k.val = k at *
  interval_cases k <;> decide +kernel

theorem ld35 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 2 j = View.readAt (Elt F) a.view (Rect.unit (s := S8x4096x128) (k0_off35 i k) S1x256x128.size (k0_off35_inb i k)).toLoadRect X :=
  (View.readAt_unit a.view X (k0_off35_inb i k) (off35_eq i k j hj) (kin 2 j)).symm

theorem off45_eq (i : grid0.Coords) (k : Fin (k0_t9_loop i).trips) (j : Fin 16) (hj : j.val = 2 * k.val) : k0_off45 i k = ![2, j.val, 0, 0] := by
  have hk : k.val < 8 := lt_of_lt_of_le k.isLt (by rw [trips9]; have := i2_lt i; omega)
  obtain ⟨j, hj'⟩ := j
  simp only at hj ⊢
  unfold k0_off45
  subst hj
  clear hj'
  generalize k.val = k at *
  interval_cases k <;> decide +kernel

theorem ld45 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 2 j = View.readAt (Elt F) a.view (Rect.unit (s := S8x16x128x256) (k0_off45 i k) S1x1x128x256.size (k0_off45_inb i k)).toLoadRect X :=
  (View.readAt_unit a.view X (k0_off45_inb i k) (off45_eq i k j hj) (vin 2 j)).symm

theorem off46_eq (i : grid0.Coords) (k : Fin (k0_t9_loop i).trips) (j : Fin 16) (hj : j.val = 2 * k.val + 1) : k0_off46 i k = ![2, j.val, 0, 0] := by
  have hk : k.val < 8 := lt_of_lt_of_le k.isLt (by rw [trips9]; have := i2_lt i; omega)
  obtain ⟨j, hj'⟩ := j
  simp only at hj ⊢
  unfold k0_off46
  subst hj
  clear hj'
  generalize k.val = k at *
  interval_cases k <;> decide +kernel

theorem ld46 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 2 j = View.readAt (Elt F) a.view (Rect.unit (s := S8x16x128x256) (k0_off46 i k) S1x1x128x256.size (k0_off46_inb i k)).toLoadRect X :=
  (View.readAt_unit a.view X (k0_off46_inb i k) (off46_eq i k j hj) (vin 2 j)).symm

theorem off28_eq (i : grid0.Coords) (k : Fin (k0_t9_loop i).trips) (j : Fin 16) (hj : j.val = 2 * k.val) : k0_off28 i k = ![3, 256 * j.val, 0] := by
  have hk : k.val < 8 := lt_of_lt_of_le k.isLt (by rw [trips9]; have := i2_lt i; omega)
  obtain ⟨j, hj'⟩ := j
  simp only at hj ⊢
  unfold k0_off28
  subst hj
  clear hj'
  generalize k.val = k at *
  interval_cases k <;> decide +kernel

theorem ld28 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 3 j = View.readAt (Elt F) a.view (Rect.unit (s := S8x4096x128) (k0_off28 i k) S1x256x128.size (k0_off28_inb i k)).toLoadRect X :=
  (View.readAt_unit a.view X (k0_off28_inb i k) (off28_eq i k j hj) (kin 3 j)).symm

theorem off36_eq (i : grid0.Coords) (k : Fin (k0_t9_loop i).trips) (j : Fin 16) (hj : j.val = 2 * k.val + 1) : k0_off36 i k = ![3, 256 * j.val, 0] := by
  have hk : k.val < 8 := lt_of_lt_of_le k.isLt (by rw [trips9]; have := i2_lt i; omega)
  obtain ⟨j, hj'⟩ := j
  simp only at hj ⊢
  unfold k0_off36
  subst hj
  clear hj'
  generalize k.val = k at *
  interval_cases k <;> decide +kernel

theorem ld36 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 3 j = View.readAt (Elt F) a.view (Rect.unit (s := S8x4096x128) (k0_off36 i k) S1x256x128.size (k0_off36_inb i k)).toLoadRect X :=
  (View.readAt_unit a.view X (k0_off36_inb i k) (off36_eq i k j hj) (kin 3 j)).symm

theorem off47_eq (i : grid0.Coords) (k : Fin (k0_t9_loop i).trips) (j : Fin 16) (hj : j.val = 2 * k.val) : k0_off47 i k = ![3, j.val, 0, 0] := by
  have hk : k.val < 8 := lt_of_lt_of_le k.isLt (by rw [trips9]; have := i2_lt i; omega)
  obtain ⟨j, hj'⟩ := j
  simp only at hj ⊢
  unfold k0_off47
  subst hj
  clear hj'
  generalize k.val = k at *
  interval_cases k <;> decide +kernel

theorem ld47 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 3 j = View.readAt (Elt F) a.view (Rect.unit (s := S8x16x128x256) (k0_off47 i k) S1x1x128x256.size (k0_off47_inb i k)).toLoadRect X :=
  (View.readAt_unit a.view X (k0_off47_inb i k) (off47_eq i k j hj) (vin 3 j)).symm

theorem off48_eq (i : grid0.Coords) (k : Fin (k0_t9_loop i).trips) (j : Fin 16) (hj : j.val = 2 * k.val + 1) : k0_off48 i k = ![3, j.val, 0, 0] := by
  have hk : k.val < 8 := lt_of_lt_of_le k.isLt (by rw [trips9]; have := i2_lt i; omega)
  obtain ⟨j, hj'⟩ := j
  simp only at hj ⊢
  unfold k0_off48
  subst hj
  clear hj'
  generalize k.val = k at *
  interval_cases k <;> decide +kernel

theorem ld48 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 3 j = View.readAt (Elt F) a.view (Rect.unit (s := S8x16x128x256) (k0_off48 i k) S1x1x128x256.size (k0_off48_inb i k)).toLoadRect X :=
  (View.readAt_unit a.view X (k0_off48_inb i k) (off48_eq i k j hj) (vin 3 j)).symm

theorem off29_eq (i : grid0.Coords) (k : Fin (k0_t9_loop i).trips) (j : Fin 16) (hj : j.val = 2 * k.val) : k0_off29 i k = ![4, 256 * j.val, 0] := by
  have hk : k.val < 8 := lt_of_lt_of_le k.isLt (by rw [trips9]; have := i2_lt i; omega)
  obtain ⟨j, hj'⟩ := j
  simp only at hj ⊢
  unfold k0_off29
  subst hj
  clear hj'
  generalize k.val = k at *
  interval_cases k <;> decide +kernel

theorem ld29 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 4 j = View.readAt (Elt F) a.view (Rect.unit (s := S8x4096x128) (k0_off29 i k) S1x256x128.size (k0_off29_inb i k)).toLoadRect X :=
  (View.readAt_unit a.view X (k0_off29_inb i k) (off29_eq i k j hj) (kin 4 j)).symm

theorem off37_eq (i : grid0.Coords) (k : Fin (k0_t9_loop i).trips) (j : Fin 16) (hj : j.val = 2 * k.val + 1) : k0_off37 i k = ![4, 256 * j.val, 0] := by
  have hk : k.val < 8 := lt_of_lt_of_le k.isLt (by rw [trips9]; have := i2_lt i; omega)
  obtain ⟨j, hj'⟩ := j
  simp only at hj ⊢
  unfold k0_off37
  subst hj
  clear hj'
  generalize k.val = k at *
  interval_cases k <;> decide +kernel

theorem ld37 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 4 j = View.readAt (Elt F) a.view (Rect.unit (s := S8x4096x128) (k0_off37 i k) S1x256x128.size (k0_off37_inb i k)).toLoadRect X :=
  (View.readAt_unit a.view X (k0_off37_inb i k) (off37_eq i k j hj) (kin 4 j)).symm

theorem off49_eq (i : grid0.Coords) (k : Fin (k0_t9_loop i).trips) (j : Fin 16) (hj : j.val = 2 * k.val) : k0_off49 i k = ![4, j.val, 0, 0] := by
  have hk : k.val < 8 := lt_of_lt_of_le k.isLt (by rw [trips9]; have := i2_lt i; omega)
  obtain ⟨j, hj'⟩ := j
  simp only at hj ⊢
  unfold k0_off49
  subst hj
  clear hj'
  generalize k.val = k at *
  interval_cases k <;> decide +kernel

theorem ld49 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 4 j = View.readAt (Elt F) a.view (Rect.unit (s := S8x16x128x256) (k0_off49 i k) S1x1x128x256.size (k0_off49_inb i k)).toLoadRect X :=
  (View.readAt_unit a.view X (k0_off49_inb i k) (off49_eq i k j hj) (vin 4 j)).symm

theorem off50_eq (i : grid0.Coords) (k : Fin (k0_t9_loop i).trips) (j : Fin 16) (hj : j.val = 2 * k.val + 1) : k0_off50 i k = ![4, j.val, 0, 0] := by
  have hk : k.val < 8 := lt_of_lt_of_le k.isLt (by rw [trips9]; have := i2_lt i; omega)
  obtain ⟨j, hj'⟩ := j
  simp only at hj ⊢
  unfold k0_off50
  subst hj
  clear hj'
  generalize k.val = k at *
  interval_cases k <;> decide +kernel

theorem ld50 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 4 j = View.readAt (Elt F) a.view (Rect.unit (s := S8x16x128x256) (k0_off50 i k) S1x1x128x256.size (k0_off50_inb i k)).toLoadRect X :=
  (View.readAt_unit a.view X (k0_off50_inb i k) (off50_eq i k j hj) (vin 4 j)).symm

theorem off30_eq (i : grid0.Coords) (k : Fin (k0_t9_loop i).trips) (j : Fin 16) (hj : j.val = 2 * k.val) : k0_off30 i k = ![5, 256 * j.val, 0] := by
  have hk : k.val < 8 := lt_of_lt_of_le k.isLt (by rw [trips9]; have := i2_lt i; omega)
  obtain ⟨j, hj'⟩ := j
  simp only at hj ⊢
  unfold k0_off30
  subst hj
  clear hj'
  generalize k.val = k at *
  interval_cases k <;> decide +kernel

theorem ld30 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 5 j = View.readAt (Elt F) a.view (Rect.unit (s := S8x4096x128) (k0_off30 i k) S1x256x128.size (k0_off30_inb i k)).toLoadRect X :=
  (View.readAt_unit a.view X (k0_off30_inb i k) (off30_eq i k j hj) (kin 5 j)).symm

theorem off38_eq (i : grid0.Coords) (k : Fin (k0_t9_loop i).trips) (j : Fin 16) (hj : j.val = 2 * k.val + 1) : k0_off38 i k = ![5, 256 * j.val, 0] := by
  have hk : k.val < 8 := lt_of_lt_of_le k.isLt (by rw [trips9]; have := i2_lt i; omega)
  obtain ⟨j, hj'⟩ := j
  simp only at hj ⊢
  unfold k0_off38
  subst hj
  clear hj'
  generalize k.val = k at *
  interval_cases k <;> decide +kernel

theorem ld38 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 5 j = View.readAt (Elt F) a.view (Rect.unit (s := S8x4096x128) (k0_off38 i k) S1x256x128.size (k0_off38_inb i k)).toLoadRect X :=
  (View.readAt_unit a.view X (k0_off38_inb i k) (off38_eq i k j hj) (kin 5 j)).symm

theorem off51_eq (i : grid0.Coords) (k : Fin (k0_t9_loop i).trips) (j : Fin 16) (hj : j.val = 2 * k.val) : k0_off51 i k = ![5, j.val, 0, 0] := by
  have hk : k.val < 8 := lt_of_lt_of_le k.isLt (by rw [trips9]; have := i2_lt i; omega)
  obtain ⟨j, hj'⟩ := j
  simp only at hj ⊢
  unfold k0_off51
  subst hj
  clear hj'
  generalize k.val = k at *
  interval_cases k <;> decide +kernel

theorem ld51 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 5 j = View.readAt (Elt F) a.view (Rect.unit (s := S8x16x128x256) (k0_off51 i k) S1x1x128x256.size (k0_off51_inb i k)).toLoadRect X :=
  (View.readAt_unit a.view X (k0_off51_inb i k) (off51_eq i k j hj) (vin 5 j)).symm

theorem off52_eq (i : grid0.Coords) (k : Fin (k0_t9_loop i).trips) (j : Fin 16) (hj : j.val = 2 * k.val + 1) : k0_off52 i k = ![5, j.val, 0, 0] := by
  have hk : k.val < 8 := lt_of_lt_of_le k.isLt (by rw [trips9]; have := i2_lt i; omega)
  obtain ⟨j, hj'⟩ := j
  simp only at hj ⊢
  unfold k0_off52
  subst hj
  clear hj'
  generalize k.val = k at *
  interval_cases k <;> decide +kernel

theorem ld52 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 5 j = View.readAt (Elt F) a.view (Rect.unit (s := S8x16x128x256) (k0_off52 i k) S1x1x128x256.size (k0_off52_inb i k)).toLoadRect X :=
  (View.readAt_unit a.view X (k0_off52_inb i k) (off52_eq i k j hj) (vin 5 j)).symm

theorem off31_eq (i : grid0.Coords) (k : Fin (k0_t9_loop i).trips) (j : Fin 16) (hj : j.val = 2 * k.val) : k0_off31 i k = ![6, 256 * j.val, 0] := by
  have hk : k.val < 8 := lt_of_lt_of_le k.isLt (by rw [trips9]; have := i2_lt i; omega)
  obtain ⟨j, hj'⟩ := j
  simp only at hj ⊢
  unfold k0_off31
  subst hj
  clear hj'
  generalize k.val = k at *
  interval_cases k <;> decide +kernel

theorem ld31 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 6 j = View.readAt (Elt F) a.view (Rect.unit (s := S8x4096x128) (k0_off31 i k) S1x256x128.size (k0_off31_inb i k)).toLoadRect X :=
  (View.readAt_unit a.view X (k0_off31_inb i k) (off31_eq i k j hj) (kin 6 j)).symm

theorem off39_eq (i : grid0.Coords) (k : Fin (k0_t9_loop i).trips) (j : Fin 16) (hj : j.val = 2 * k.val + 1) : k0_off39 i k = ![6, 256 * j.val, 0] := by
  have hk : k.val < 8 := lt_of_lt_of_le k.isLt (by rw [trips9]; have := i2_lt i; omega)
  obtain ⟨j, hj'⟩ := j
  simp only at hj ⊢
  unfold k0_off39
  subst hj
  clear hj'
  generalize k.val = k at *
  interval_cases k <;> decide +kernel

theorem ld39 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 6 j = View.readAt (Elt F) a.view (Rect.unit (s := S8x4096x128) (k0_off39 i k) S1x256x128.size (k0_off39_inb i k)).toLoadRect X :=
  (View.readAt_unit a.view X (k0_off39_inb i k) (off39_eq i k j hj) (kin 6 j)).symm

theorem off53_eq (i : grid0.Coords) (k : Fin (k0_t9_loop i).trips) (j : Fin 16) (hj : j.val = 2 * k.val) : k0_off53 i k = ![6, j.val, 0, 0] := by
  have hk : k.val < 8 := lt_of_lt_of_le k.isLt (by rw [trips9]; have := i2_lt i; omega)
  obtain ⟨j, hj'⟩ := j
  simp only at hj ⊢
  unfold k0_off53
  subst hj
  clear hj'
  generalize k.val = k at *
  interval_cases k <;> decide +kernel

theorem ld53 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 6 j = View.readAt (Elt F) a.view (Rect.unit (s := S8x16x128x256) (k0_off53 i k) S1x1x128x256.size (k0_off53_inb i k)).toLoadRect X :=
  (View.readAt_unit a.view X (k0_off53_inb i k) (off53_eq i k j hj) (vin 6 j)).symm

theorem off54_eq (i : grid0.Coords) (k : Fin (k0_t9_loop i).trips) (j : Fin 16) (hj : j.val = 2 * k.val + 1) : k0_off54 i k = ![6, j.val, 0, 0] := by
  have hk : k.val < 8 := lt_of_lt_of_le k.isLt (by rw [trips9]; have := i2_lt i; omega)
  obtain ⟨j, hj'⟩ := j
  simp only at hj ⊢
  unfold k0_off54
  subst hj
  clear hj'
  generalize k.val = k at *
  interval_cases k <;> decide +kernel

theorem ld54 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 6 j = View.readAt (Elt F) a.view (Rect.unit (s := S8x16x128x256) (k0_off54 i k) S1x1x128x256.size (k0_off54_inb i k)).toLoadRect X :=
  (View.readAt_unit a.view X (k0_off54_inb i k) (off54_eq i k j hj) (vin 6 j)).symm

theorem off32_eq (i : grid0.Coords) (k : Fin (k0_t9_loop i).trips) (j : Fin 16) (hj : j.val = 2 * k.val) : k0_off32 i k = ![7, 256 * j.val, 0] := by
  have hk : k.val < 8 := lt_of_lt_of_le k.isLt (by rw [trips9]; have := i2_lt i; omega)
  obtain ⟨j, hj'⟩ := j
  simp only at hj ⊢
  unfold k0_off32
  subst hj
  clear hj'
  generalize k.val = k at *
  interval_cases k <;> decide +kernel

theorem ld32 (i : grid0.Coords) (k : Fin (k0_t9_loop i).trips) (j : Fin 16) (hj : j.val = 2 * k.val) (a : Memref sig .tc .vmem S8x4096x128 .bf16) (X : BufTy.Contents (Elt F) a.view.ty) :
    kblk (a.view.read (Elt F) X) 7 j = View.readAt (Elt F) a.view (Rect.unit (s := S8x4096x128) (k0_off32 i k) S1x256x128.size (k0_off32_inb i k)).toLoadRect X :=
  (View.readAt_unit a.view X (k0_off32_inb i k) (off32_eq i k j hj) (kin 7 j)).symm

theorem off40_eq (i : grid0.Coords) (k : Fin (k0_t9_loop i).trips) (j : Fin 16) (hj : j.val = 2 * k.val + 1) : k0_off40 i k = ![7, 256 * j.val, 0] := by
  have hk : k.val < 8 := lt_of_lt_of_le k.isLt (by rw [trips9]; have := i2_lt i; omega)
  obtain ⟨j, hj'⟩ := j
  simp only at hj ⊢
  unfold k0_off40
  subst hj
  clear hj'
  generalize k.val = k at *
  interval_cases k <;> decide +kernel

theorem ld40 (i : grid0.Coords) (k : Fin (k0_t9_loop i).trips) (j : Fin 16) (hj : j.val = 2 * k.val + 1) (a : Memref sig .tc .vmem S8x4096x128 .bf16) (X : BufTy.Contents (Elt F) a.view.ty) :
    kblk (a.view.read (Elt F) X) 7 j = View.readAt (Elt F) a.view (Rect.unit (s := S8x4096x128) (k0_off40 i k) S1x256x128.size (k0_off40_inb i k)).toLoadRect X :=
  (View.readAt_unit a.view X (k0_off40_inb i k) (off40_eq i k j hj) (kin 7 j)).symm

theorem off55_eq (i : grid0.Coords) (k : Fin (k0_t9_loop i).trips) (j : Fin 16) (hj : j.val = 2 * k.val) : k0_off55 i k = ![7, j.val, 0, 0] := by
  have hk : k.val < 8 := lt_of_lt_of_le k.isLt (by rw [trips9]; have := i2_lt i; omega)
  obtain ⟨j, hj'⟩ := j
  simp only at hj ⊢
  unfold k0_off55
  subst hj
  clear hj'
  generalize k.val = k at *
  interval_cases k <;> decide +kernel

theorem ld55 (i : grid0.Coords) (k : Fin (k0_t9_loop i).trips) (j : Fin 16) (hj : j.val = 2 * k.val) (a : Memref sig .tc .vmem S8x16x128x256 .bf16) (X : BufTy.Contents (Elt F) a.view.ty) :
    vblk (a.view.read (Elt F) X) 7 j = View.readAt (Elt F) a.view (Rect.unit (s := S8x16x128x256) (k0_off55 i k) S1x1x128x256.size (k0_off55_inb i k)).toLoadRect X :=
  (View.readAt_unit a.view X (k0_off55_inb i k) (off55_eq i k j hj) (vin 7 j)).symm

theorem off56_eq (i : grid0.Coords) (k : Fin (k0_t9_loop i).trips) (j : Fin 16) (hj : j.val = 2 * k.val + 1) : k0_off56 i k = ![7, j.val, 0, 0] := by
  have hk : k.val < 8 := lt_of_lt_of_le k.isLt (by rw [trips9]; have := i2_lt i; omega)
  obtain ⟨j, hj'⟩ := j
  simp only at hj ⊢
  unfold k0_off56
  subst hj
  clear hj'
  generalize k.val = k at *
  interval_cases k <;> decide +kernel

theorem ld56 (i : grid0.Coords) (k : Fin (k0_t9_loop i).trips) (j : Fin 16) (hj : j.val = 2 * k.val + 1) (a : Memref sig .tc .vmem S8x16x128x256 .bf16) (X : BufTy.Contents (Elt F) a.view.ty) :
    vblk (a.view.read (Elt F) X) 7 j = View.readAt (Elt F) a.view (Rect.unit (s := S8x16x128x256) (k0_off56 i k) S1x1x128x256.size (k0_off56_inb i k)).toLoadRect X :=
  (View.readAt_unit a.view X (k0_off56_inb i k) (off56_eq i k j hj) (vin 7 j)).symm

theorem off89_eq (i : grid0.Coords) (hc : k0_cond2 i = 1#1) (j : Fin 16) (hj : j.val = (i 2).val - 1) : k0_off89 i = ![0, 256 * j.val, 0] := by
  rw [cond2_iff] at hc
  have hi := i2_lt i
  obtain ⟨j, hj'⟩ := j
  simp only at hj ⊢
  unfold k0_off89
  generalize (i 2).val = n at *
  interval_cases n <;> first | (exfalso; revert hc; decide) | (subst hj; decide +kernel)

theorem ld89 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 0 j = View.readAt (Elt F) a.view (Rect.unit (s := S8x4096x128) (k0_off89 i) S1x256x128.size (k0_off89_inb i hc)).toLoadRect X :=
  (View.readAt_unit a.view X (k0_off89_inb i hc) (off89_eq i hc j hj) (kin 0 j)).symm

theorem off97_eq (i : grid0.Coords) (hc : k0_cond2 i = 1#1) (j : Fin 16) (hj : j.val = (i 2).val - 1) : k0_off97 i = ![0, j.val, 0, 0] := by
  rw [cond2_iff] at hc
  have hi := i2_lt i
  obtain ⟨j, hj'⟩ := j
  simp only at hj ⊢
  unfold k0_off97
  generalize (i 2).val = n at *
  interval_cases n <;> first | (exfalso; revert hc; decide) | (subst hj; decide +kernel)

theorem ld97 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 0 j = View.readAt (Elt F) a.view (Rect.unit (s := S8x16x128x256) (k0_off97 i) S1x1x128x256.size (k0_off97_inb i hc)).toLoadRect X :=
  (View.readAt_unit a.view X (k0_off97_inb i hc) (off97_eq i hc j hj) (vin 0 j)).symm

theorem off105_eq (i : grid0.Coords) (j : Fin 16) (hj : j.val = (i 2).val) : k0_off105 i = ![0, 256 * j.val, 0] := by
  have hi := i2_lt i
  obtain ⟨j, hj'⟩ := j
  simp only at hj ⊢
  unfold k0_off105
  generalize (i 2).val = n at *
  interval_cases n <;> first | (exfalso; revert hc; decide) | (subst hj; decide +kernel)

theorem ld105 (i : grid0.Coords) (j : Fin 16) (hj : j.val = (i 2).val) (a : Memref sig .tc .vmem S8x4096x128 .bf16) (X : BufTy.Contents (Elt F) a.view.ty) :
    kblk (a.view.read (Elt F) X) 0 j = View.readAt (Elt F) a.view (Rect.unit (s := S8x4096x128) (k0_off105 i) S1x256x128.size (k0_off105_inb i)).toLoadRect X :=
  (View.readAt_unit a.view X (k0_off105_inb i) (off105_eq i  j hj) (kin 0 j)).symm

theorem off113_eq (i : grid0.Coords) (j : Fin 16) (hj : j.val = (i 2).val) : k0_off113 i = ![0, j.val, 0, 0] := by
  have hi := i2_lt i
  obtain ⟨j, hj'⟩ := j
  simp only at hj ⊢
  unfold k0_off113
  generalize (i 2).val = n at *
  interval_cases n <;> first | (exfalso; revert hc; decide) | (subst hj; decide +kernel)

theorem ld113 (i : grid0.Coords) (j : Fin 16) (hj : j.val = (i 2).val) (a : Memref sig .tc .vmem S8x16x128x256 .bf16) (X : BufTy.Contents (Elt F) a.view.ty) :
    vblk (a.view.read (Elt F) X) 0 j = View.readAt (Elt F) a.view (Rect.unit (s := S8x16x128x256) (k0_off113 i) S1x1x128x256.size (k0_off113_inb i)).toLoadRect X :=
  (View.readAt_unit a.view X (k0_off113_inb i) (off113_eq i  j hj) (vin 0 j)).symm

theorem off90_eq (i : grid0.Coords) (hc : k0_cond2 i = 1#1) (j : Fin 16) (hj : j.val = (i 2).val - 1) : k0_off90 i = ![1, 256 * j.val, 0] := by
  rw [cond2_iff] at hc
  have hi := i2_lt i
  obtain ⟨j, hj'⟩ := j
  simp only at hj ⊢
  unfold k0_off90
  generalize (i 2).val = n at *
  interval_cases n <;> first | (exfalso; revert hc; decide) | (subst hj; decide +kernel)

theorem ld90 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 1 j = View.readAt (Elt F) a.view (Rect.unit (s := S8x4096x128) (k0_off90 i) S1x256x128.size (k0_off90_inb i hc)).toLoadRect X :=
  (View.readAt_unit a.view X (k0_off90_inb i hc) (off90_eq i hc j hj) (kin 1 j)).symm

theorem off98_eq (i : grid0.Coords) (hc : k0_cond2 i = 1#1) (j : Fin 16) (hj : j.val = (i 2).val - 1) : k0_off98 i = ![1, j.val, 0, 0] := by
  rw [cond2_iff] at hc
  have hi := i2_lt i
  obtain ⟨j, hj'⟩ := j
  simp only at hj ⊢
  unfold k0_off98
  generalize (i 2).val = n at *
  interval_cases n <;> first | (exfalso; revert hc; decide) | (subst hj; decide +kernel)

theorem ld98 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 1 j = View.readAt (Elt F) a.view (Rect.unit (s := S8x16x128x256) (k0_off98 i) S1x1x128x256.size (k0_off98_inb i hc)).toLoadRect X :=
  (View.readAt_unit a.view X (k0_off98_inb i hc) (off98_eq i hc j hj) (vin 1 j)).symm

theorem off106_eq (i : grid0.Coords) (j : Fin 16) (hj : j.val = (i 2).val) : k0_off106 i = ![1, 256 * j.val, 0] := by
  have hi := i2_lt i
  obtain ⟨j, hj'⟩ := j
  simp only at hj ⊢
  unfold k0_off106
  generalize (i 2).val = n at *
  interval_cases n <;> first | (exfalso; revert hc; decide) | (subst hj; decide +kernel)

theorem ld106 (i : grid0.Coords) (j : Fin 16) (hj : j.val = (i 2).val) (a : Memref sig .tc .vmem S8x4096x128 .bf16) (X : BufTy.Contents (Elt F) a.view.ty) :
    kblk (a.view.read (Elt F) X) 1 j = View.readAt (Elt F) a.view (Rect.unit (s := S8x4096x128) (k0_off106 i) S1x256x128.size (k0_off106_inb i)).toLoadRect X :=
  (View.readAt_unit a.view X (k0_off106_inb i) (off106_eq i  j hj) (kin 1 j)).symm

theorem off114_eq (i : grid0.Coords) (j : Fin 16) (hj : j.val = (i 2).val) : k0_off114 i = ![1, j.val, 0, 0] := by
  have hi := i2_lt i
  obtain ⟨j, hj'⟩ := j
  simp only at hj ⊢
  unfold k0_off114
  generalize (i 2).val = n at *
  interval_cases n <;> first | (exfalso; revert hc; decide) | (subst hj; decide +kernel)

theorem ld114 (i : grid0.Coords) (j : Fin 16) (hj : j.val = (i 2).val) (a : Memref sig .tc .vmem S8x16x128x256 .bf16) (X : BufTy.Contents (Elt F) a.view.ty) :
    vblk (a.view.read (Elt F) X) 1 j = View.readAt (Elt F) a.view (Rect.unit (s := S8x16x128x256) (k0_off114 i) S1x1x128x256.size (k0_off114_inb i)).toLoadRect X :=
  (View.readAt_unit a.view X (k0_off114_inb i) (off114_eq i  j hj) (vin 1 j)).symm

theorem off91_eq (i : grid0.Coords) (hc : k0_cond2 i = 1#1) (j : Fin 16) (hj : j.val = (i 2).val - 1) : k0_off91 i = ![2, 256 * j.val, 0] := by
  rw [cond2_iff] at hc
  have hi := i2_lt i
  obtain ⟨j, hj'⟩ := j
  simp only at hj ⊢
  unfold k0_off91
  generalize (i 2).val = n at *
  interval_cases n <;> first | (exfalso; revert hc; decide) | (subst hj; decide +kernel)

theorem ld91 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 2 j = View.readAt (Elt F) a.view (Rect.unit (s := S8x4096x128) (k0_off91 i) S1x256x128.size (k0_off91_inb i hc)).toLoadRect X :=
  (View.readAt_unit a.view X (k0_off91_inb i hc) (off91_eq i hc j hj) (kin 2 j)).symm

theorem off99_eq (i : grid0.Coords) (hc : k0_cond2 i = 1#1) (j : Fin 16) (hj : j.val = (i 2).val - 1) : k0_off99 i = ![2, j.val, 0, 0] := by
  rw [cond2_iff] at hc
  have hi := i2_lt i
  obtain ⟨j, hj'⟩ := j
  simp only at hj ⊢
  unfold k0_off99
  generalize (i 2).val = n at *
  interval_cases n <;> first | (exfalso; revert hc; decide) | (subst hj; decide +kernel)

theorem ld99 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 2 j = View.readAt (Elt F) a.view (Rect.unit (s := S8x16x128x256) (k0_off99 i) S1x1x128x256.size (k0_off99_inb i hc)).toLoadRect X :=
  (View.readAt_unit a.view X (k0_off99_inb i hc) (off99_eq i hc j hj) (vin 2 j)).symm

theorem off107_eq (i : grid0.Coords) (j : Fin 16) (hj : j.val = (i 2).val) : k0_off107 i = ![2, 256 * j.val, 0] := by
  have hi := i2_lt i
  obtain ⟨j, hj'⟩ := j
  simp only at hj ⊢
  unfold k0_off107
  generalize (i 2).val = n at *
  interval_cases n <;> first | (exfalso; revert hc; decide) | (subst hj; decide +kernel)

theorem ld107 (i : grid0.Coords) (j : Fin 16) (hj : j.val = (i 2).val) (a : Memref sig .tc .vmem S8x4096x128 .bf16) (X : BufTy.Contents (Elt F) a.view.ty) :
    kblk (a.view.read (Elt F) X) 2 j = View.readAt (Elt F) a.view (Rect.unit (s := S8x4096x128) (k0_off107 i) S1x256x128.size (k0_off107_inb i)).toLoadRect X :=
  (View.readAt_unit a.view X (k0_off107_inb i) (off107_eq i  j hj) (kin 2 j)).symm

theorem off115_eq (i : grid0.Coords) (j : Fin 16) (hj : j.val = (i 2).val) : k0_off115 i = ![2, j.val, 0, 0] := by
  have hi := i2_lt i
  obtain ⟨j, hj'⟩ := j
  simp only at hj ⊢
  unfold k0_off115
  generalize (i 2).val = n at *
  interval_cases n <;> first | (exfalso; revert hc; decide) | (subst hj; decide +kernel)

theorem ld115 (i : grid0.Coords) (j : Fin 16) (hj : j.val = (i 2).val) (a : Memref sig .tc .vmem S8x16x128x256 .bf16) (X : BufTy.Contents (Elt F) a.view.ty) :
    vblk (a.view.read (Elt F) X) 2 j = View.readAt (Elt F) a.view (Rect.unit (s := S8x16x128x256) (k0_off115 i) S1x1x128x256.size (k0_off115_inb i)).toLoadRect X :=
  (View.readAt_unit a.view X (k0_off115_inb i) (off115_eq i  j hj) (vin 2 j)).symm

theorem off92_eq (i : grid0.Coords) (hc : k0_cond2 i = 1#1) (j : Fin 16) (hj : j.val = (i 2).val - 1) : k0_off92 i = ![3, 256 * j.val, 0] := by
  rw [cond2_iff] at hc
  have hi := i2_lt i
  obtain ⟨j, hj'⟩ := j
  simp only at hj ⊢
  unfold k0_off92
  generalize (i 2).val = n at *
  interval_cases n <;> first | (exfalso; revert hc; decide) | (subst hj; decide +kernel)

theorem ld92 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 3 j = View.readAt (Elt F) a.view (Rect.unit (s := S8x4096x128) (k0_off92 i) S1x256x128.size (k0_off92_inb i hc)).toLoadRect X :=
  (View.readAt_unit a.view X (k0_off92_inb i hc) (off92_eq i hc j hj) (kin 3 j)).symm

theorem off100_eq (i : grid0.Coords) (hc : k0_cond2 i = 1#1) (j : Fin 16) (hj : j.val = (i 2).val - 1) : k0_off100 i = ![3, j.val, 0, 0] := by
  rw [cond2_iff] at hc
  have hi := i2_lt i
  obtain ⟨j, hj'⟩ := j
  simp only at hj ⊢
  unfold k0_off100
  generalize (i 2).val = n at *
  interval_cases n <;> first | (exfalso; revert hc; decide) | (subst hj; decide +kernel)

theorem ld100 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 3 j = View.readAt (Elt F) a.view (Rect.unit (s := S8x16x128x256) (k0_off100 i) S1x1x128x256.size (k0_off100_inb i hc)).toLoadRect X :=
  (View.readAt_unit a.view X (k0_off100_inb i hc) (off100_eq i hc j hj) (vin 3 j)).symm

theorem off108_eq (i : grid0.Coords) (j : Fin 16) (hj : j.val = (i 2).val) : k0_off108 i = ![3, 256 * j.val, 0] := by
  have hi := i2_lt i
  obtain ⟨j, hj'⟩ := j
  simp only at hj ⊢
  unfold k0_off108
  generalize (i 2).val = n at *
  interval_cases n <;> first | (exfalso; revert hc; decide) | (subst hj; decide +kernel)

theorem ld108 (i : grid0.Coords) (j : Fin 16) (hj : j.val = (i 2).val) (a : Memref sig .tc .vmem S8x4096x128 .bf16) (X : BufTy.Contents (Elt F) a.view.ty) :
    kblk (a.view.read (Elt F) X) 3 j = View.readAt (Elt F) a.view (Rect.unit (s := S8x4096x128) (k0_off108 i) S1x256x128.size (k0_off108_inb i)).toLoadRect X :=
  (View.readAt_unit a.view X (k0_off108_inb i) (off108_eq i  j hj) (kin 3 j)).symm

theorem off116_eq (i : grid0.Coords) (j : Fin 16) (hj : j.val = (i 2).val) : k0_off116 i = ![3, j.val, 0, 0] := by
  have hi := i2_lt i
  obtain ⟨j, hj'⟩ := j
  simp only at hj ⊢
  unfold k0_off116
  generalize (i 2).val = n at *
  interval_cases n <;> first | (exfalso; revert hc; decide) | (subst hj; decide +kernel)

theorem ld116 (i : grid0.Coords) (j : Fin 16) (hj : j.val = (i 2).val) (a : Memref sig .tc .vmem S8x16x128x256 .bf16) (X : BufTy.Contents (Elt F) a.view.ty) :
    vblk (a.view.read (Elt F) X) 3 j = View.readAt (Elt F) a.view (Rect.unit (s := S8x16x128x256) (k0_off116 i) S1x1x128x256.size (k0_off116_inb i)).toLoadRect X :=
  (View.readAt_unit a.view X (k0_off116_inb i) (off116_eq i  j hj) (vin 3 j)).symm

theorem off93_eq (i : grid0.Coords) (hc : k0_cond2 i = 1#1) (j : Fin 16) (hj : j.val = (i 2).val - 1) : k0_off93 i = ![4, 256 * j.val, 0] := by
  rw [cond2_iff] at hc
  have hi := i2_lt i
  obtain ⟨j, hj'⟩ := j
  simp only at hj ⊢
  unfold k0_off93
  generalize (i 2).val = n at *
  interval_cases n <;> first | (exfalso; revert hc; decide) | (subst hj; decide +kernel)

theorem ld93 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 4 j = View.readAt (Elt F) a.view (Rect.unit (s := S8x4096x128) (k0_off93 i) S1x256x128.size (k0_off93_inb i hc)).toLoadRect X :=
  (View.readAt_unit a.view X (k0_off93_inb i hc) (off93_eq i hc j hj) (kin 4 j)).symm

theorem off101_eq (i : grid0.Coords) (hc : k0_cond2 i = 1#1) (j : Fin 16) (hj : j.val = (i 2).val - 1) : k0_off101 i = ![4, j.val, 0, 0] := by
  rw [cond2_iff] at hc
  have hi := i2_lt i
  obtain ⟨j, hj'⟩ := j
  simp only at hj ⊢
  unfold k0_off101
  generalize (i 2).val = n at *
  interval_cases n <;> first | (exfalso; revert hc; decide) | (subst hj; decide +kernel)

theorem ld101 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 4 j = View.readAt (Elt F) a.view (Rect.unit (s := S8x16x128x256) (k0_off101 i) S1x1x128x256.size (k0_off101_inb i hc)).toLoadRect X :=
  (View.readAt_unit a.view X (k0_off101_inb i hc) (off101_eq i hc j hj) (vin 4 j)).symm

theorem off109_eq (i : grid0.Coords) (j : Fin 16) (hj : j.val = (i 2).val) : k0_off109 i = ![4, 256 * j.val, 0] := by
  have hi := i2_lt i
  obtain ⟨j, hj'⟩ := j
  simp only at hj ⊢
  unfold k0_off109
  generalize (i 2).val = n at *
  interval_cases n <;> first | (exfalso; revert hc; decide) | (subst hj; decide +kernel)

theorem ld109 (i : grid0.Coords) (j : Fin 16) (hj : j.val = (i 2).val) (a : Memref sig .tc .vmem S8x4096x128 .bf16) (X : BufTy.Contents (Elt F) a.view.ty) :
    kblk (a.view.read (Elt F) X) 4 j = View.readAt (Elt F) a.view (Rect.unit (s := S8x4096x128) (k0_off109 i) S1x256x128.size (k0_off109_inb i)).toLoadRect X :=
  (View.readAt_unit a.view X (k0_off109_inb i) (off109_eq i  j hj) (kin 4 j)).symm

theorem off117_eq (i : grid0.Coords) (j : Fin 16) (hj : j.val = (i 2).val) : k0_off117 i = ![4, j.val, 0, 0] := by
  have hi := i2_lt i
  obtain ⟨j, hj'⟩ := j
  simp only at hj ⊢
  unfold k0_off117
  generalize (i 2).val = n at *
  interval_cases n <;> first | (exfalso; revert hc; decide) | (subst hj; decide +kernel)

theorem ld117 (i : grid0.Coords) (j : Fin 16) (hj : j.val = (i 2).val) (a : Memref sig .tc .vmem S8x16x128x256 .bf16) (X : BufTy.Contents (Elt F) a.view.ty) :
    vblk (a.view.read (Elt F) X) 4 j = View.readAt (Elt F) a.view (Rect.unit (s := S8x16x128x256) (k0_off117 i) S1x1x128x256.size (k0_off117_inb i)).toLoadRect X :=
  (View.readAt_unit a.view X (k0_off117_inb i) (off117_eq i  j hj) (vin 4 j)).symm

theorem off94_eq (i : grid0.Coords) (hc : k0_cond2 i = 1#1) (j : Fin 16) (hj : j.val = (i 2).val - 1) : k0_off94 i = ![5, 256 * j.val, 0] := by
  rw [cond2_iff] at hc
  have hi := i2_lt i
  obtain ⟨j, hj'⟩ := j
  simp only at hj ⊢
  unfold k0_off94
  generalize (i 2).val = n at *
  interval_cases n <;> first | (exfalso; revert hc; decide) | (subst hj; decide +kernel)

theorem ld94 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 5 j = View.readAt (Elt F) a.view (Rect.unit (s := S8x4096x128) (k0_off94 i) S1x256x128.size (k0_off94_inb i hc)).toLoadRect X :=
  (View.readAt_unit a.view X (k0_off94_inb i hc) (off94_eq i hc j hj) (kin 5 j)).symm

theorem off102_eq (i : grid0.Coords) (hc : k0_cond2 i = 1#1) (j : Fin 16) (hj : j.val = (i 2).val - 1) : k0_off102 i = ![5, j.val, 0, 0] := by
  rw [cond2_iff] at hc
  have hi := i2_lt i
  obtain ⟨j, hj'⟩ := j
  simp only at hj ⊢
  unfold k0_off102
  generalize (i 2).val = n at *
  interval_cases n <;> first | (exfalso; revert hc; decide) | (subst hj; decide +kernel)

theorem ld102 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 5 j = View.readAt (Elt F) a.view (Rect.unit (s := S8x16x128x256) (k0_off102 i) S1x1x128x256.size (k0_off102_inb i hc)).toLoadRect X :=
  (View.readAt_unit a.view X (k0_off102_inb i hc) (off102_eq i hc j hj) (vin 5 j)).symm

theorem off110_eq (i : grid0.Coords) (j : Fin 16) (hj : j.val = (i 2).val) : k0_off110 i = ![5, 256 * j.val, 0] := by
  have hi := i2_lt i
  obtain ⟨j, hj'⟩ := j
  simp only at hj ⊢
  unfold k0_off110
  generalize (i 2).val = n at *
  interval_cases n <;> first | (exfalso; revert hc; decide) | (subst hj; decide +kernel)

theorem ld110 (i : grid0.Coords) (j : Fin 16) (hj : j.val = (i 2).val) (a : Memref sig .tc .vmem S8x4096x128 .bf16) (X : BufTy.Contents (Elt F) a.view.ty) :
    kblk (a.view.read (Elt F) X) 5 j = View.readAt (Elt F) a.view (Rect.unit (s := S8x4096x128) (k0_off110 i) S1x256x128.size (k0_off110_inb i)).toLoadRect X :=
  (View.readAt_unit a.view X (k0_off110_inb i) (off110_eq i  j hj) (kin 5 j)).symm

theorem off118_eq (i : grid0.Coords) (j : Fin 16) (hj : j.val = (i 2).val) : k0_off118 i = ![5, j.val, 0, 0] := by
  have hi := i2_lt i
  obtain ⟨j, hj'⟩ := j
  simp only at hj ⊢
  unfold k0_off118
  generalize (i 2).val = n at *
  interval_cases n <;> first | (exfalso; revert hc; decide) | (subst hj; decide +kernel)

theorem ld118 (i : grid0.Coords) (j : Fin 16) (hj : j.val = (i 2).val) (a : Memref sig .tc .vmem S8x16x128x256 .bf16) (X : BufTy.Contents (Elt F) a.view.ty) :
    vblk (a.view.read (Elt F) X) 5 j = View.readAt (Elt F) a.view (Rect.unit (s := S8x16x128x256) (k0_off118 i) S1x1x128x256.size (k0_off118_inb i)).toLoadRect X :=
  (View.readAt_unit a.view X (k0_off118_inb i) (off118_eq i  j hj) (vin 5 j)).symm

theorem off95_eq (i : grid0.Coords) (hc : k0_cond2 i = 1#1) (j : Fin 16) (hj : j.val = (i 2).val - 1) : k0_off95 i = ![6, 256 * j.val, 0] := by
  rw [cond2_iff] at hc
  have hi := i2_lt i
  obtain ⟨j, hj'⟩ := j
  simp only at hj ⊢
  unfold k0_off95
  generalize (i 2).val = n at *
  interval_cases n <;> first | (exfalso; revert hc; decide) | (subst hj; decide +kernel)

theorem ld95 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 6 j = View.readAt (Elt F) a.view (Rect.unit (s := S8x4096x128) (k0_off95 i) S1x256x128.size (k0_off95_inb i hc)).toLoadRect X :=
  (View.readAt_unit a.view X (k0_off95_inb i hc) (off95_eq i hc j hj) (kin 6 j)).symm

theorem off103_eq (i : grid0.Coords) (hc : k0_cond2 i = 1#1) (j : Fin 16) (hj : j.val = (i 2).val - 1) : k0_off103 i = ![6, j.val, 0, 0] := by
  rw [cond2_iff] at hc
  have hi := i2_lt i
  obtain ⟨j, hj'⟩ := j
  simp only at hj ⊢
  unfold k0_off103
  generalize (i 2).val = n at *
  interval_cases n <;> first | (exfalso; revert hc; decide) | (subst hj; decide +kernel)

theorem ld103 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 6 j = View.readAt (Elt F) a.view (Rect.unit (s := S8x16x128x256) (k0_off103 i) S1x1x128x256.size (k0_off103_inb i hc)).toLoadRect X :=
  (View.readAt_unit a.view X (k0_off103_inb i hc) (off103_eq i hc j hj) (vin 6 j)).symm

theorem off111_eq (i : grid0.Coords) (j : Fin 16) (hj : j.val = (i 2).val) : k0_off111 i = ![6, 256 * j.val, 0] := by
  have hi := i2_lt i
  obtain ⟨j, hj'⟩ := j
  simp only at hj ⊢
  unfold k0_off111
  generalize (i 2).val = n at *
  interval_cases n <;> first | (exfalso; revert hc; decide) | (subst hj; decide +kernel)

theorem ld111 (i : grid0.Coords) (j : Fin 16) (hj : j.val = (i 2).val) (a : Memref sig .tc .vmem S8x4096x128 .bf16) (X : BufTy.Contents (Elt F) a.view.ty) :
    kblk (a.view.read (Elt F) X) 6 j = View.readAt (Elt F) a.view (Rect.unit (s := S8x4096x128) (k0_off111 i) S1x256x128.size (k0_off111_inb i)).toLoadRect X :=
  (View.readAt_unit a.view X (k0_off111_inb i) (off111_eq i  j hj) (kin 6 j)).symm

theorem off119_eq (i : grid0.Coords) (j : Fin 16) (hj : j.val = (i 2).val) : k0_off119 i = ![6, j.val, 0, 0] := by
  have hi := i2_lt i
  obtain ⟨j, hj'⟩ := j
  simp only at hj ⊢
  unfold k0_off119
  generalize (i 2).val = n at *
  interval_cases n <;> first | (exfalso; revert hc; decide) | (subst hj; decide +kernel)

theorem ld119 (i : grid0.Coords) (j : Fin 16) (hj : j.val = (i 2).val) (a : Memref sig .tc .vmem S8x16x128x256 .bf16) (X : BufTy.Contents (Elt F) a.view.ty) :
    vblk (a.view.read (Elt F) X) 6 j = View.readAt (Elt F) a.view (Rect.unit (s := S8x16x128x256) (k0_off119 i) S1x1x128x256.size (k0_off119_inb i)).toLoadRect X :=
  (View.readAt_unit a.view X (k0_off119_inb i) (off119_eq i  j hj) (vin 6 j)).symm

theorem off96_eq (i : grid0.Coords) (hc : k0_cond2 i = 1#1) (j : Fin 16) (hj : j.val = (i 2).val - 1) : k0_off96 i = ![7, 256 * j.val, 0] := by
  rw [cond2_iff] at hc
  have hi := i2_lt i
  obtain ⟨j, hj'⟩ := j
  simp only at hj ⊢
  unfold k0_off96
  generalize (i 2).val = n at *
  interval_cases n <;> first | (exfalso; revert hc; decide) | (subst hj; decide +kernel)

theorem ld96 (i : grid0.Coords) (hc : k0_cond2 i = 1#1) (j : Fin 16) (hj : j.val = (i 2).val - 1) (a : Memref sig .tc .vmem S8x4096x128 .bf16) (X : BufTy.Contents (Elt F) a.view.ty) :
    kblk (a.view.read (Elt F) X) 7 j = View.readAt (Elt F) a.view (Rect.unit (s := S8x4096x128) (k0_off96 i) S1x256x128.size (k0_off96_inb i hc)).toLoadRect X :=
  (View.readAt_unit a.view X (k0_off96_inb i hc) (off96_eq i hc j hj) (kin 7 j)).symm

theorem off104_eq (i : grid0.Coords) (hc : k0_cond2 i = 1#1) (j : Fin 16) (hj : j.val = (i 2).val - 1) : k0_off104 i = ![7, j.val, 0, 0] := by
  rw [cond2_iff] at hc
  have hi := i2_lt i
  obtain ⟨j, hj'⟩ := j
  simp only at hj ⊢
  unfold k0_off104
  generalize (i 2).val = n at *
  interval_cases n <;> first | (exfalso; revert hc; decide) | (subst hj; decide +kernel)

theorem ld104 (i : grid0.Coords) (hc : k0_cond2 i = 1#1) (j : Fin 16) (hj : j.val = (i 2).val - 1) (a : Memref sig .tc .vmem S8x16x128x256 .bf16) (X : BufTy.Contents (Elt F) a.view.ty) :
    vblk (a.view.read (Elt F) X) 7 j = View.readAt (Elt F) a.view (Rect.unit (s := S8x16x128x256) (k0_off104 i) S1x1x128x256.size (k0_off104_inb i hc)).toLoadRect X :=
  (View.readAt_unit a.view X (k0_off104_inb i hc) (off104_eq i hc j hj) (vin 7 j)).symm

theorem off112_eq (i : grid0.Coords) (j : Fin 16) (hj : j.val = (i 2).val) : k0_off112 i = ![7, 256 * j.val, 0] := by
  have hi := i2_lt i
  obtain ⟨j, hj'⟩ := j
  simp only at hj ⊢
  unfold k0_off112
  generalize (i 2).val = n at *
  interval_cases n <;> first | (exfalso; revert hc; decide) | (subst hj; decide +kernel)

theorem ld112 (i : grid0.Coords) (j : Fin 16) (hj : j.val = (i 2).val) (a : Memref sig .tc .vmem S8x4096x128 .bf16) (X : BufTy.Contents (Elt F) a.view.ty) :
    kblk (a.view.read (Elt F) X) 7 j = View.readAt (Elt F) a.view (Rect.unit (s := S8x4096x128) (k0_off112 i) S1x256x128.size (k0_off112_inb i)).toLoadRect X :=
  (View.readAt_unit a.view X (k0_off112_inb i) (off112_eq i  j hj) (kin 7 j)).symm

theorem off120_eq (i : grid0.Coords) (j : Fin 16) (hj : j.val = (i 2).val) : k0_off120 i = ![7, j.val, 0, 0] := by
  have hi := i2_lt i
  obtain ⟨j, hj'⟩ := j
  simp only at hj ⊢
  unfold k0_off120
  generalize (i 2).val = n at *
  interval_cases n <;> first | (exfalso; revert hc; decide) | (subst hj; decide +kernel)

theorem ld120 (i : grid0.Coords) (j : Fin 16) (hj : j.val = (i 2).val) (a : Memref sig .tc .vmem S8x16x128x256 .bf16) (X : BufTy.Contents (Elt F) a.view.ty) :
    vblk (a.view.read (Elt F) X) 7 j = View.readAt (Elt F) a.view (Rect.unit (s := S8x16x128x256) (k0_off120 i) S1x1x128x256.size (k0_off120_inb i)).toLoadRect X :=
  (View.readAt_unit a.view X (k0_off120_inb i) (off120_eq i  j hj) (vin 7 j)).symm

end Cert.KernelIdeal.Fox

end
-- ==== Proof.Trip.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Ops
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The carried values of the eight heads as the loop carries them. -/
def tup8 (p0 p1 p2 p3 p4 p5 p6 p7 : St F) : FVec F S1x256 .f32 × FVec F S128x256 .f32 × FVec F S1x256 .f32 × FVec F S128x256 .f32 × FVec F S1x256 .f32 × FVec F S128x256 .f32 × FVec F S1x256 .f32 × FVec F S128x256 .f32 × FVec F S1x256 .f32 × FVec F S128x256 .f32 × FVec F S1x256 .f32 × FVec F S128x256 .f32 × FVec F S1x256 .f32 × FVec F S128x256 .f32 × FVec F S1x256 .f32 × FVec F S128x256 .f32 :=
  (p0.1, p0.2, p1.1, p1.2, p2.1, p2.2, p3.1, p3.2, p4.1, p4.2, p5.1, p5.2, p6.1, p6.2, p7.1, p7.2)

set_option maxHeartbeats 4000000 in
/-- One trip of the loop over pairs of key blocks: two updates per head. -/
theorem trip9 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (arg2 : BitVec 32) (v7 v12 v17 v22 v27 v32 v37 v42 : FVec F S128x256 .bf16) (v46 : FVec F S1x256 .f32) (v47 : FVec F S128x256 .f32) (v48 : FVec F S1x256 .f32) (v49 : FVec F S128x256 .f32) (v50 : FVec F S1x256 .f32) (v51 : FVec F S128x256 .f32) (v52 : FVec F S1x256 .f32) (v53 : FVec F S128x256 .f32) (v54 : FVec F S1x256 .f32) (v55 : FVec F S128x256 .f32) (X9 : BufTy.Contents (Elt F) arg9.view.ty) (X10 : BufTy.Contents (Elt F) arg10.view.ty) (k : Fin (k0_t9_loop i).trips) (j0 j1 : Fin 16) (h0 : j0.val = 2 * k.val) (h1 : j1.val = 2 * k.val + 1) (p0 p1 p2 p3 p4 p5 p6 p7 : St F) :
    tripR_k0_t9 (F := F) Variants.none c none i arg3 harg3 arg4 harg4 arg5 harg5 arg6 harg6 arg7 harg7 arg8 harg8 arg9 harg9 arg10 harg10 arg2 v7 v12 v17 v22 v27 v32 v37 v42 v46 v47 v48 v49 v50 v51 v52 v53 v54 v55 X9 X10 k (tup8 p0 p1 p2 p3 p4 p5 p6 p7)
      = tup8 (updB (arg9.view.read (Elt F) X9) (arg10.view.read (Elt F) X10) v7 0 j1 (updB (arg9.view.read (Elt F) X9) (arg10.view.read (Elt F) X10) v7 0 j0 p0)) (updB (arg9.view.read (Elt F) X9) (arg10.view.read (Elt F) X10) v12 1 j1 (updB (arg9.view.read (Elt F) X9) (arg10.view.read (Elt F) X10) v12 1 j0 p1)) (updB (arg9.view.read (Elt F) X9) (arg10.view.read (Elt F) X10) v17 2 j1 (updB (arg9.view.read (Elt F) X9) (arg10.view.read (Elt F) X10) v17 2 j0 p2)) (updB (arg9.view.read (Elt F) X9) (arg10.view.read (Elt F) X10) v22 3 j1 (updB (arg9.view.read (Elt F) X9) (arg10.view.read (Elt F) X10) v22 3 j0 p3)) (updB (arg9.view.read (Elt F) X9) (arg10.view.read (Elt F) X10) v27 4 j1 (updB (arg9.view.read (Elt F) X9) (arg10.view.read (Elt F) X10) v27 4 j0 p4)) (updB (arg9.view.read (Elt F) X9) (arg10.view.read (Elt F) X10) v32 5 j1 (updB (arg9.view.read (Elt F) X9) (arg10.view.read (Elt F) X10) v32 5 j0 p5)) (updB (arg9.view.read (Elt F) X9) (arg10.view.read (Elt F) X10) v37 6 j1 (updB (arg9.view.read (Elt F) X9) (arg10.view.read (Elt F) X10) v37 6 j0 p6)) (updB (arg9.view.read (Elt F) X9) (arg10.view.read (Elt F) X10) v42 7 j1 (updB (arg9.view.read (Elt F) X9) (arg10.view.read (Elt F) X10) v42 7 j0 p7)) := by
  unfold updB
  rw [ld25 i k j0 h0, ld33 i k j1 h1, ld41 i k j0 h0, ld42 i k j1 h1, ld26 i k j0 h0, ld34 i k j1 h1, ld43 i k j0 h0, ld44 i k j1 h1, ld27 i k j0 h0, ld35 i k j1 h1, ld45 i k j0 h0, ld46 i k j1 h1, ld28 i k j0 h0, ld36 i k j1 h1, ld47 i k j0 h0, ld48 i k j1 h1, ld29 i k j0 h0, ld37 i k j1 h1, ld49 i k j0 h0, ld50 i k j1 h1, ld30 i k j0 h0, ld38 i k j1 h1, ld51 i k j0 h0, ld52 i k j1 h1, ld31 i k j0 h0, ld39 i k j1 h1, ld53 i k j0 h0, ld54 i k j1 h1, ld32 i k j0 h0, ld40 i k j1 h1, ld55 i k j0 h0, ld56 i k j1 h1]
  unfold tripR_k0_t9 trip_k0_t9
  rfl

/-- A head's state after the first `n` key blocks. -/
def foldB (x9 : Vec F S8x4096x128 .bf16) (x10 : Vec F S8x16x128x256 .bf16) (q : FVec F S128x256 .bf16) (h : Fin 8) : (n : ℕ) → St F → St F
  | 0, p => p
  | n + 1, p => if hn : n < 16 then updB x9 x10 q h ⟨n, hn⟩ (foldB x9 x10 q h n p) else foldB x9 x10 q h n p

theorem foldB_succ (x9 : Vec F S8x4096x128 .bf16) (x10 : Vec F S8x16x128x256 .bf16) (q : FVec F S128x256 .bf16) (h : Fin 8) (n : ℕ) (hn : n < 16) (p : St F) :
    foldB x9 x10 q h (n + 1) p = updB x9 x10 q h ⟨n, hn⟩ (foldB x9 x10 q h n p) := by
  rw [foldB]; exact dif_pos hn

/-- The loop over pairs after `k` trips: `2 k` updates per head. -/
theorem st9 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (arg2 : BitVec 32) (v7 v12 v17 v22 v27 v32 v37 v42 : FVec F S128x256 .bf16) (v46 : FVec F S1x256 .f32) (v47 : FVec F S128x256 .f32) (v48 : FVec F S1x256 .f32) (v49 : FVec F S128x256 .f32) (v50 : FVec F S1x256 .f32) (v51 : FVec F S128x256 .f32) (v52 : FVec F S1x256 .f32) (v53 : FVec F S128x256 .f32) (v54 : FVec F S1x256 .f32) (v55 : FVec F S128x256 .f32) (X9 : BufTy.Contents (Elt F) arg9.view.ty) (X10 : BufTy.Contents (Elt F) arg10.view.ty) (p0 p1 p2 p3 p4 p5 p6 p7 : St F) : ∀ k : ℕ, k ≤ (k0_t9_loop i).trips →
    st_k0_t9 (F := F) Variants.none c none i arg3 harg3 arg4 harg4 arg5 harg5 arg6 harg6 arg7 harg7 arg8 harg8 arg9 harg9 arg10 harg10 arg2 v7 v12 v17 v22 v27 v32 v37 v42 v46 v47 v48 v49 v50 v51 v52 v53 v54 v55 X9 X10 (tup8 p0 p1 p2 p3 p4 p5 p6 p7) k
      = tup8 (foldB (arg9.view.read (Elt F) X9) (arg10.view.read (Elt F) X10) v7 0 (2 * k) p0) (foldB (arg9.view.read (Elt F) X9) (arg10.view.read (Elt F) X10) v12 1 (2 * k) p1) (foldB (arg9.view.read (Elt F) X9) (arg10.view.read (Elt F) X10) v17 2 (2 * k) p2) (foldB (arg9.view.read (Elt F) X9) (arg10.view.read (Elt F) X10) v22 3 (2 * k) p3) (foldB (arg9.view.read (Elt F) X9) (arg10.view.read (Elt F) X10) v27 4 (2 * k) p4) (foldB (arg9.view.read (Elt F) X9) (arg10.view.read (Elt F) X10) v32 5 (2 * k) p5) (foldB (arg9.view.read (Elt F) X9) (arg10.view.read (Elt F) X10) v37 6 (2 * k) p6) (foldB (arg9.view.read (Elt F) X9) (arg10.view.read (Elt F) X10) v42 7 (2 * k) p7) := by
  intro k
  induction k with
  | zero => intro _; rw [st_k0_t9_zero]; rfl
  | succ k ih =>
    intro hk
    have hk8 : 2 * k + 1 < 16 := by have := trips9 i; have := i2_lt i; omega
    have e := st_k0_t9_succ (F := F) Variants.none c none i arg3 harg3 arg4 harg4 arg5 harg5 arg6 harg6 arg7 harg7 arg8 harg8 arg9 harg9 arg10 harg10 arg2 v7 v12 v17 v22 v27 v32 v37 v42 v46 v47 v48 v49 v50 v51 v52 v53 v54 v55 X9 X10 (tup8 p0 p1 p2 p3 p4 p5 p6 p7) ⟨k, hk⟩
    rw [e, ih (by omega), trip9 c i arg3 harg3 arg4 harg4 arg5 harg5 arg6 harg6 arg7 harg7 arg8 harg8 arg9 harg9 arg10 harg10 arg2 v7 v12 v17 v22 v27 v32 v37 v42 v46 v47 v48 v49 v50 v51 v52 v53 v54 v55 X9 X10 ⟨k, hk⟩ ⟨2 * k, by omega⟩ ⟨2 * k + 1, hk8⟩ rfl rfl]
    rw [show 2 * (k + 1) = 2 * k + 1 + 1 from rfl]
    simp only [foldB_succ _ _ _ _ (2 * k + 1) hk8, foldB_succ _ _ _ _ (2 * k) (show 2 * k < 16 by omega)]

end Cert.KernelIdeal.Fox

end
-- ==== Proof.Run.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Trip
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem qin (h : Fin 8) : ∀ a, (![0, 64 * h.val, 0] : Fin 3 → ℕ) a + S1x64x256.size a ≤ S1x512x256.size a := by
  intro a
  have := h.isLt
  fin_cases a <;> simp [S1x64x256, S1x512x256] <;> omega

/-- Head `h`'s rows of a query block. -/
def qrows (x : Vec F S1x512x256 .bf16) (h : Fin 8) : Vec F S1x64x256 .bf16 :=
  VecWindow.window x ![0, 64 * h.val, 0] S1x64x256.size (qin h)

/-- Head `h`'s queries, the gate's features under them. -/
def qh (x0 x1 : Vec F S1x512x256 .bf16) (h : Fin 8) : FVec F S128x256 .bf16 :=
  k0_pay177 (qrows x0 h) (qrows x1 h)

/-- Head `h`'s state after all its key blocks, the one on the diagonal last. -/
def finS (i : grid0.Coords) (x0 x1 : Vec F S1x512x256 .bf16) (x9 : Vec F S8x4096x128 .bf16) (x10 : Vec F S8x16x128x256 .bf16) (h : Fin 8) : St F :=
  updD x9 x10 (qh x0 x1 h) h ⟨(i 2).val, i2_lt i⟩ (foldB x9 x10 (qh x0 x1 h) h (i 2).val initS)

/-- The output block: two heads to a strip of 128 columns. -/
def outBlk (i : grid0.Coords) (x0 x1 : Vec F S1x512x256 .bf16) (x9 : Vec F S8x4096x128 .bf16) (x10 : Vec F S8x16x128x256 .bf16) : Vec F S256x512 .bf16 :=
  View.canon [⟨Rect.unit (s := S256x512) ![0, 384] S256x128.size inb_S256x512_S256x128_0_384, k0_pay233 (finS i x0 x1 x9 x10 6).2 (finS i x0 x1 x9 x10 7).2⟩,
    ⟨Rect.unit (s := S256x512) ![0, 256] S256x128.size inb_S256x512_S256x128_0_256, k0_pay233 (finS i x0 x1 x9 x10 4).2 (finS i x0 x1 x9 x10 5).2⟩,
    ⟨Rect.unit (s := S256x512) ![0, 128] S256x128.size inb_S256x512_S256x128_0_128, k0_pay233 (finS i x0 x1 x9 x10 2).2 (finS i x0 x1 x9 x10 3).2⟩,
    ⟨Rect.unit (s := S256x512) ![0, 0] S256x128.size inb_S256x512_S256x128_0_0, k0_pay233 (finS i x0 x1 x9 x10 0).2 (finS i x0 x1 x9 x10 1).2⟩]

theorem ldq (a : Memref sig .tc .vmem S1x512x256 .bf16) (ha : a.IsWhole) (x : Vec F S1x512x256 .bf16) (h : Fin 8) (off : Fin 3 → ℕ) (inb : ∀ a, off a + S1x64x256.size a ≤ S1x512x256.size a)
    (e : off = ![0, 64 * h.val, 0]) :
    qrows x h = View.readAt (Elt F) a.view (Rect.unit (s := S1x512x256) off S1x64x256.size inb).toLoadRect (ha.unread x) := by
  rw [View.readAt_unit a.view _ inb e (qin h), ha.read_unread]; rfl

/-- The second half of the queries is read. -/
theorem run29 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (x0 x1 : Vec F S1x512x256 .bf16) (q4 q5 q6 q7 : FVec F S128x256 .bf16) (hq4 : qh x0 x1 4 = q4) (hq5 : qh x0 x1 5 = q5) (hq6 : qh x0 x1 6 = q6) (hq7 : qh x0 x1 7 = q7) (E : Set ℕ) :
    (iprop(owns (c : Thread nD τ) arg3 fullShare x0 ∗ owns (c : Thread nD τ) arg4 fullShare x1) : sProp 𝕄) ⊢ wp frame (wpE (defs₀ (F := F)) Variants.none c none) E (k0_part29 i arg3 harg3 arg4 harg4 arg5 harg5 arg6 harg6 arg7 harg7 arg8 harg8 arg9 harg9 arg10 harg10 (k0_pay181 (qrows x0 4)))
      (fun r => iprop(⌜r = (⟨q4, q5, q6, q7, k0_pay186, (k0_pay187 (F := F)), (k0_pay188 (F := F)), (k0_pay189 (F := F)), (k0_pay190 (F := F)), (k0_pay191 (F := F)), (k0_pay192 (F := F)), (k0_pay193 (F := F)), (k0_pay194 (F := F)), (k0_pay195 (F := F)), (k0_pay196 (F := F))⟩ : (Σ' (v27 : FVec F S128x256 .bf16) (v32 : FVec F S128x256 .bf16) (v37 : FVec F S128x256 .bf16) (v42 : FVec F S128x256 .bf16) (v45 : IVec S256x256 1) (v46 : FVec F S1x256 .f32) (v47 : FVec F S128x256 .f32) (v48 : FVec F S1x256 .f32) (v49 : FVec F S128x256 .f32) (v50 : FVec F S1x256 .f32) (v51 : FVec F S128x256 .f32) (v52 : FVec F S1x256 .f32) (v53 : FVec F S128x256 .f32) (v54 : FVec F S1x256 .f32), FVec F S128x256 .f32))⌝ ∗ owns (c : Thread nD τ) arg3 fullShare x0 ∗ owns (c : Thread nD τ) arg4 fullShare x1)) := by
  simp only [k0_part29_eq_skeleton]; unfold k0_part29_skel
  unfold owns
  iintro ⟨⟨%f0, %hf0, H0⟩, ⟨%f1, %hf1, H1⟩⟩
  obtain rfl := harg3.eq_unread hf0; obtain rfl := harg4.eq_unread hf1
  sl_exec
  sl_step
  isplitr
  · ipureintro
    rw [← hq4, show (qh x0 x1 4 : FVec F S128x256 .bf16) = k0_pay177 (qrows x0 4) (qrows x1 4) from rfl, ldq arg3 harg3 x0 4 ![0, 256, 0] inb_S1x512x256_S1x64x256_0_256_0 rfl, ldq arg4 harg4 x1 4 ![0, 256, 0] inb_S1x512x256_S1x64x256_0_256_0 rfl]
    rw [← hq5, show (qh x0 x1 5 : FVec F S128x256 .bf16) = k0_pay177 (qrows x0 5) (qrows x1 5) from rfl, ldq arg3 harg3 x0 5 ![0, 320, 0] inb_S1x512x256_S1x64x256_0_320_0 rfl, ldq arg4 harg4 x1 5 ![0, 320, 0] inb_S1x512x256_S1x64x256_0_320_0 rfl]
    rw [← hq6, show (qh x0 x1 6 : FVec F S128x256 .bf16) = k0_pay177 (qrows x0 6) (qrows x1 6) from rfl, ldq arg3 harg3 x0 6 ![0, 384, 0] inb_S1x512x256_S1x64x256_0_384_0 rfl, ldq arg4 harg4 x1 6 ![0, 384, 0] inb_S1x512x256_S1x64x256_0_384_0 rfl]
    rw [← hq7, show (qh x0 x1 7 : FVec F S128x256 .bf16) = k0_pay177 (qrows x0 7) (qrows x1 7) from rfl, ldq arg3 harg3 x0 7 ![0, 448, 0] inb_S1x512x256_S1x64x256_0_448_0 rfl, ldq arg4 harg4 x1 7 ![0, 448, 0] inb_S1x512x256_S1x64x256_0_448_0 rfl]
    rw [← ldq arg3 harg3 x0 4 ![0, 256, 0] inb_S1x512x256_S1x64x256_0_256_0 rfl]
    rfl
  isplitl [H0]
  · iexists _; isplitr; · ipureintro; exact harg3.read_unread _
    iexact H0
  iexists _; isplitr; · ipureintro; exact harg4.read_unread _
  iexact H1

/-- The two loops over whole pairs of blocks. -/
theorem run30 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (arg2 : BitVec 32) (x9 : Vec F S8x4096x128 .bf16) (x10 : Vec F S8x16x128x256 .bf16) (q0 q1 q2 q3 q4 q5 q6 q7 : FVec F S128x256 .bf16) (p0 p1 p2 p3 p4 p5 p6 p7 : St F) (hp0 : foldB x9 x10 q0 0 (2 * (k0_t9_loop i).trips) initS = p0) (hp1 : foldB x9 x10 q1 1 (2 * (k0_t9_loop i).trips) initS = p1) (hp2 : foldB x9 x10 q2 2 (2 * (k0_t9_loop i).trips) initS = p2) (hp3 : foldB x9 x10 q3 3 (2 * (k0_t9_loop i).trips) initS = p3) (hp4 : foldB x9 x10 q4 4 (2 * (k0_t9_loop i).trips) initS = p4) (hp5 : foldB x9 x10 q5 5 (2 * (k0_t9_loop i).trips) initS = p5) (hp6 : foldB x9 x10 q6 6 (2 * (k0_t9_loop i).trips) initS = p6) (hp7 : foldB x9 x10 q7 7 (2 * (k0_t9_loop i).trips) initS = p7) (E : Set ℕ) :
    (iprop(owns (c : Thread nD τ) arg9 fullShare x9 ∗ owns (c : Thread nD τ) arg10 fullShare x10) : sProp 𝕄) ⊢ wp frame (wpE (defs₀ (F := F)) Variants.none c none) E (k0_part30 i arg3 harg3 arg4 harg4 arg5 harg5 arg6 harg6 arg7 harg7 arg8 harg8 arg9 harg9 arg10 harg10 arg2 q0 q1 q2 q3 q4 q5 q6 q7 (k0_pay187 (F := F)) (k0_pay188 (F := F)) (k0_pay189 (F := F)) (k0_pay190 (F := F)) (k0_pay191 (F := F)) (k0_pay192 (F := F)) (k0_pay193 (F := F)) (k0_pay194 (F := F)) (k0_pay195 (F := F)) (k0_pay196 (F := F)))
      (fun r => iprop(⌜∃ s1 s2 s3 s4, r = (⟨p0.1, p0.2, p1.1, p1.2, p2.1, p2.2, p3.1, p3.2, p4.1, p4.2, p5.1, p5.2, p6.1, p6.2, p7.1, p7.2, s1, s2, s3, s4⟩ : (Σ' (v85_0 : FVec F S1x256 .f32) (v85_1 : FVec F S128x256 .f32) (v85_2 : FVec F S1x256 .f32) (v85_3 : FVec F S128x256 .f32) (v85_4 : FVec F S1x256 .f32) (v85_5 : FVec F S128x256 .f32) (v85_6 : FVec F S1x256 .f32) (v85_7 : FVec F S128x256 .f32) (v85_8 : FVec F S1x256 .f32) (v85_9 : FVec F S128x256 .f32) (v85_10 : FVec F S1x256 .f32) (v85_11 : FVec F S128x256 .f32) (v85_12 : FVec F S1x256 .f32) (v85_13 : FVec F S128x256 .f32) (v85_14 : FVec F S1x256 .f32) (v85_15 : FVec F S128x256 .f32) (v87 : BitVec 32) (v88 : BitVec 32) (v89 : BitVec 1), BitVec 1))⌝ ∗ owns (c : Thread nD τ) arg9 fullShare x9 ∗ owns (c : Thread nD τ) arg10 fullShare x10)) := by
  simp only [k0_part30_eq_skeleton]; unfold k0_part30_skel
  unfold owns
  iintro ⟨⟨%f9, %hf9, H9⟩, ⟨%f10, %hf10, H10⟩⟩
  obtain rfl := harg9.eq_unread hf9; obtain rfl := harg10.eq_unread hf10
  sl_exec
  sl_step
  isplitr
  · ipureintro
    have e9 : (st_k0_t9 (F := F) Variants.none c none i arg3 harg3 arg4 harg4 arg5 harg5 arg6 harg6 arg7 harg7 arg8 harg8 arg9 harg9 arg10 harg10 arg2 q0 q1 q2 q3 q4 q5 q6 q7 (k0_pay187 (F := F)) (k0_pay188 (F := F)) (k0_pay189 (F := F)) (k0_pay190 (F := F)) (k0_pay191 (F := F)) (k0_pay192 (F := F)) (k0_pay193 (F := F)) (k0_pay194 (F := F)) (k0_pay195 (F := F)) (k0_pay196 (F := F)) (harg9.unread x9) (harg10.unread x10) ((k0_pay187 (F := F)), (k0_pay188 (F := F)), (k0_pay189 (F := F)), (k0_pay190 (F := F)), (k0_pay191 (F := F)), (k0_pay192 (F := F)), (k0_pay193 (F := F)), (k0_pay194 (F := F)), (k0_pay195 (F := F)), (k0_pay196 (F := F)), (k0_pay197 (F := F)), (k0_pay198 (F := F)), (k0_pay199 (F := F)), (k0_pay200 (F := F)), (k0_pay201 (F := F)), (k0_pay202 (F := F))) (k0_t9_loop i).trips) = tup8 p0 p1 p2 p3 p4 p5 p6 p7 := by
      refine (st9 c i arg3 harg3 arg4 harg4 arg5 harg5 arg6 harg6 arg7 harg7 arg8 harg8 arg9 harg9 arg10 harg10 arg2 q0 q1 q2 q3 q4 q5 q6 q7 (k0_pay187 (F := F)) (k0_pay188 (F := F)) (k0_pay189 (F := F)) (k0_pay190 (F := F)) (k0_pay191 (F := F)) (k0_pay192 (F := F)) (k0_pay193 (F := F)) (k0_pay194 (F := F)) (k0_pay195 (F := F)) (k0_pay196 (F := F)) _ _ initS initS initS initS initS initS initS initS _ le_rfl).trans ?_
      rw [harg9.read_unread, harg10.read_unread, hp0, hp1, hp2, hp3, hp4, hp5, hp6, hp7]
    have h0 : Scf.trips (k0_t10_loop i).lb (k0_t10_loop i).ub (k0_t10_loop i).st = 0 := trips10 i
    sl_unfold_words
    simp only [h0, trips10, st_k0_t10_zero]
    rw [e9]
    have fin : ∀ T, T = tup8 p0 p1 p2 p3 p4 p5 p6 p7 → ∀ a b c d, ∃ s1 s2 s3 s4, (⟨T.1, T.2.1, T.2.2.1, T.2.2.2.1, T.2.2.2.2.1, T.2.2.2.2.2.1, T.2.2.2.2.2.2.1, T.2.2.2.2.2.2.2.1, T.2.2.2.2.2.2.2.2.1, T.2.2.2.2.2.2.2.2.2.1, T.2.2.2.2.2.2.2.2.2.2.1, T.2.2.2.2.2.2.2.2.2.2.2.1, T.2.2.2.2.2.2.2.2.2.2.2.2.1, T.2.2.2.2.2.2.2.2.2.2.2.2.2.1, T.2.2.2.2.2.2.2.2.2.2.2.2.2.2.1, T.2.2.2.2.2.2.2.2.2.2.2.2.2.2.2, a, b, c, d⟩ : (Σ' (v85_0 : FVec F S1x256 .f32) (v85_1 : FVec F S128x256 .f32) (v85_2 : FVec F S1x256 .f32) (v85_3 : FVec F S128x256 .f32) (v85_4 : FVec F S1x256 .f32) (v85_5 : FVec F S128x256 .f32) (v85_6 : FVec F S1x256 .f32) (v85_7 : FVec F S128x256 .f32) (v85_8 : FVec F S1x256 .f32) (v85_9 : FVec F S128x256 .f32) (v85_10 : FVec F S1x256 .f32) (v85_11 : FVec F S128x256 .f32) (v85_12 : FVec F S1x256 .f32) (v85_13 : FVec F S128x256 .f32) (v85_14 : FVec F S1x256 .f32) (v85_15 : FVec F S128x256 .f32) (v87 : BitVec 32) (v88 : BitVec 32) (v89 : BitVec 1), BitVec 1)) = (⟨p0.1, p0.2, p1.1, p1.2, p2.1, p2.2, p3.1, p3.2, p4.1, p4.2, p5.1, p5.2, p6.1, p6.2, p7.1, p7.2, s1, s2, s3, s4⟩ : (Σ' (v85_0 : FVec F S1x256 .f32) (v85_1 : FVec F S128x256 .f32) (v85_2 : FVec F S1x256 .f32) (v85_3 : FVec F S128x256 .f32) (v85_4 : FVec F S1x256 .f32) (v85_5 : FVec F S128x256 .f32) (v85_6 : FVec F S1x256 .f32) (v85_7 : FVec F S128x256 .f32) (v85_8 : FVec F S1x256 .f32) (v85_9 : FVec F S128x256 .f32) (v85_10 : FVec F S1x256 .f32) (v85_11 : FVec F S128x256 .f32) (v85_12 : FVec F S1x256 .f32) (v85_13 : FVec F S128x256 .f32) (v85_14 : FVec F S1x256 .f32) (v85_15 : FVec F S128x256 .f32) (v87 : BitVec 32) (v88 : BitVec 32) (v89 : BitVec 1), BitVec 1)) := by
      rintro _ rfl a b c d
      exact ⟨a, b, c, d, rfl⟩
    exact fin _ rfl _ _ _ _
  isplitl [H9]
  · iexists _; isplitr; · ipureintro; exact harg9.read_unread _
    iexact H9
  iexists _; isplitr; · ipureintro; exact harg10.read_unread _
  iexact H10

/-- The output block through the loop's last carried values. -/
theorem runOdd_out (i : grid0.Coords) (hc2 : k0_cond2 i = 1#1) (x0 x1 : Vec F S1x512x256 .bf16) (x9 : Vec F S8x4096x128 .bf16) (x10 : Vec F S8x16x128x256 .bf16)
    (q0 q1 q2 q3 q4 q5 q6 q7 : FVec F S128x256 .bf16) (hq0 : qh x0 x1 0 = q0) (hq1 : qh x0 x1 1 = q1) (hq2 : qh x0 x1 2 = q2) (hq3 : qh x0 x1 3 = q3) (hq4 : qh x0 x1 4 = q4) (hq5 : qh x0 x1 5 = q5) (hq6 : qh x0 x1 6 = q6) (hq7 : qh x0 x1 7 = q7) (p0 p1 p2 p3 p4 p5 p6 p7 : St F) (hp0 : foldB x9 x10 q0 0 (2 * (k0_t9_loop i).trips) initS = p0) (hp1 : foldB x9 x10 q1 1 (2 * (k0_t9_loop i).trips) initS = p1) (hp2 : foldB x9 x10 q2 2 (2 * (k0_t9_loop i).trips) initS = p2) (hp3 : foldB x9 x10 q3 3 (2 * (k0_t9_loop i).trips) initS = p3) (hp4 : foldB x9 x10 q4 4 (2 * (k0_t9_loop i).trips) initS = p4) (hp5 : foldB x9 x10 q5 5 (2 * (k0_t9_loop i).trips) initS = p5) (hp6 : foldB x9 x10 q6 6 (2 * (k0_t9_loop i).trips) initS = p6) (hp7 : foldB x9 x10 q7 7 (2 * (k0_t9_loop i).trips) initS = p7) :
    outBlk i x0 x1 x9 x10 = View.canon [⟨Rect.unit (s := S256x512) ![0, 384] S256x128.size inb_S256x512_S256x128_0_384, k0_pay233 (updD x9 x10 q6 6 ⟨(i 2).val, i2_lt i⟩ (updB x9 x10 q6 6 ⟨(i 2).val - 1, by have := i2_lt i; omega⟩ p6)).2 (updD x9 x10 q7 7 ⟨(i 2).val, i2_lt i⟩ (updB x9 x10 q7 7 ⟨(i 2).val - 1, by have := i2_lt i; omega⟩ p7)).2⟩,
    ⟨Rect.unit (s := S256x512) ![0, 256] S256x128.size inb_S256x512_S256x128_0_256, k0_pay233 (updD x9 x10 q4 4 ⟨(i 2).val, i2_lt i⟩ (updB x9 x10 q4 4 ⟨(i 2).val - 1, by have := i2_lt i; omega⟩ p4)).2 (updD x9 x10 q5 5 ⟨(i 2).val, i2_lt i⟩ (updB x9 x10 q5 5 ⟨(i 2).val - 1, by have := i2_lt i; omega⟩ p5)).2⟩,
    ⟨Rect.unit (s := S256x512) ![0, 128] S256x128.size inb_S256x512_S256x128_0_128, k0_pay233 (updD x9 x10 q2 2 ⟨(i 2).val, i2_lt i⟩ (updB x9 x10 q2 2 ⟨(i 2).val - 1, by have := i2_lt i; omega⟩ p2)).2 (updD x9 x10 q3 3 ⟨(i 2).val, i2_lt i⟩ (updB x9 x10 q3 3 ⟨(i 2).val - 1, by have := i2_lt i; omega⟩ p3)).2⟩,
    ⟨Rect.unit (s := S256x512) ![0, 0] S256x128.size inb_S256x512_S256x128_0_0, k0_pay233 (updD x9 x10 q0 0 ⟨(i 2).val, i2_lt i⟩ (updB x9 x10 q0 0 ⟨(i 2).val - 1, by have := i2_lt i; omega⟩ p0)).2 (updD x9 x10 q1 1 ⟨(i 2).val, i2_lt i⟩ (updB x9 x10 q1 1 ⟨(i 2).val - 1, by have := i2_lt i; omega⟩ p1)).2⟩] := by
  have ht : 2 * (k0_t9_loop i).trips = (i 2).val - 1 := by rw [trips9]; rw [cond2_iff] at hc2; omega
  rw [ht] at hp0 hp1 hp2 hp3 hp4 hp5 hp6 hp7
  have hs : ∀ (q : FVec F S128x256 .bf16) (h : Fin 8), foldB x9 x10 q h (i 2).val initS = updB x9 x10 q h ⟨(i 2).val - 1, by have := i2_lt i; omega⟩ (foldB x9 x10 q h ((i 2).val - 1) initS) := by
    intro q h
    have := i2_lt i
    rw [cond2_iff] at hc2
    rw [← foldB_succ]; congr 1; omega
  unfold outBlk finS
  simp only [hs, hq0, hp0, hq1, hp1, hq2, hp2, hq3, hp3, hq4, hp4, hq5, hp5, hq6, hp6, hq7, hp7]

set_option maxHeartbeats 4000000 in
theorem runOdd (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc2 : k0_cond2 i = 1#1)
    (x0 : Vec F S1x512x256 .bf16) (x1 : Vec F S1x512x256 .bf16) (x2 : Vec F S4096x512 .bf16) (x3 : Vec F S4096x512 .bf16) (x4 : Vec F S16x512x256 .bf16) (x9 : Vec F S8x4096x128 .bf16) (x10 : Vec F S8x16x128x256 .bf16) (S0 : sProp 𝕄)
    (h28 : ∀ E : Set ℕ, S0 ⊢ wp frame (wpE (defs₀ (F := F)) Variants.none c none) E (k0_part28 i arg3 harg3 arg4 harg4 arg5 harg5 arg6 harg6 arg7 harg7 arg8 harg8 arg9 harg9 arg10 harg10)
      (fun r => iprop(⌜r = (⟨BitVec.ofNat 32 (i 2).val, (qh x0 x1 0), (qh x0 x1 1), (qh x0 x1 2), (qh x0 x1 3), k0_pay181 (qrows x0 4)⟩ : (Σ' (arg2 : BitVec 32) (v7 : FVec F S128x256 .bf16) (v12 : FVec F S128x256 .bf16) (v17 : FVec F S128x256 .bf16) (v22 : FVec F S128x256 .bf16), FVec F S64x256 .bf16))⌝ ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare x9 ∗ owns (c : Thread nD τ) arg10 fullShare x10))) :
    ∀ (E : Set ℕ) (K : PUnit → sProp 𝕄),
      iprop(S0 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
             ∗ owns (c : Thread nD τ) arg8 fullShare (outBlk i x0 x1 x9 x10) ∗ owns (c : Thread nD τ) arg9 fullShare x9 ∗ owns (c : Thread nD τ) arg10 fullShare x10) -∗ K ⟨⟩))
        ⊢ wp frame (wpE (defs₀ (F := F)) Variants.none c none) E (cc0_fox_attention i arg3 harg3 arg4 harg4 arg5 harg5 arg6 harg6 arg7 harg7 arg8 harg8 arg9 harg9 arg10 harg10) K := by
  intro E K
  obtain ⟨q0, hq0⟩ : ∃ q, qh x0 x1 0 = q := ⟨_, rfl⟩
  obtain ⟨q1, hq1⟩ : ∃ q, qh x0 x1 1 = q := ⟨_, rfl⟩
  obtain ⟨q2, hq2⟩ : ∃ q, qh x0 x1 2 = q := ⟨_, rfl⟩
  obtain ⟨q3, hq3⟩ : ∃ q, qh x0 x1 3 = q := ⟨_, rfl⟩
  obtain ⟨q4, hq4⟩ : ∃ q, qh x0 x1 4 = q := ⟨_, rfl⟩
  obtain ⟨q5, hq5⟩ : ∃ q, qh x0 x1 5 = q := ⟨_, rfl⟩
  obtain ⟨q6, hq6⟩ : ∃ q, qh x0 x1 6 = q := ⟨_, rfl⟩
  obtain ⟨q7, hq7⟩ : ∃ q, qh x0 x1 7 = q := ⟨_, rfl⟩
  obtain ⟨p0, hp0⟩ : ∃ p, foldB x9 x10 q0 0 (2 * (k0_t9_loop i).trips) initS = p := ⟨_, rfl⟩
  obtain ⟨p1, hp1⟩ : ∃ p, foldB x9 x10 q1 1 (2 * (k0_t9_loop i).trips) initS = p := ⟨_, rfl⟩
  obtain ⟨p2, hp2⟩ : ∃ p, foldB x9 x10 q2 2 (2 * (k0_t9_loop i).trips) initS = p := ⟨_, rfl⟩
  obtain ⟨p3, hp3⟩ : ∃ p, foldB x9 x10 q3 3 (2 * (k0_t9_loop i).trips) initS = p := ⟨_, rfl⟩
  obtain ⟨p4, hp4⟩ : ∃ p, foldB x9 x10 q4 4 (2 * (k0_t9_loop i).trips) initS = p := ⟨_, rfl⟩
  obtain ⟨p5, hp5⟩ : ∃ p, foldB x9 x10 q5 5 (2 * (k0_t9_loop i).trips) initS = p := ⟨_, rfl⟩
  obtain ⟨p6, hp6⟩ : ∃ p, foldB x9 x10 q6 6 (2 * (k0_t9_loop i).trips) initS = p := ⟨_, rfl⟩
  obtain ⟨p7, hp7⟩ : ∃ p, foldB x9 x10 q7 7 (2 * (k0_t9_loop i).trips) initS = p := ⟨_, rfl⟩
  have hOut := runOdd_out i hc2 x0 x1 x9 x10 q0 q1 q2 q3 q4 q5 q6 q7 hq0 hq1 hq2 hq3 hq4 hq5 hq6 hq7 p0 p1 p2 p3 p4 p5 p6 p7 hp0 hp1 hp2 hp3 hp4 hp5 hp6 hp7
  simp only [cc0_fox_attention_eq_skeleton]; unfold cc0_fox_attention_skel
  rw [wp_bind]
  iintro ⟨HS, H5, Hk⟩
  iapply (wp_wand_r Idealize.ShloMosaic.frame (wpE (defs₀ (F := F)) Variants.none (c : Thread nD τ) none) E)
  isplitl [HS]
  · iapply (h28 E)
    iexact HS
  iintro %r ⟨%hr, H0, H1, H2, H3, H4, H9, H10⟩
  rw [hq0, hq1, hq2, hq3] at hr
  subst hr
  dsimp only
  rw [wp_bind]
  iapply (wp_wand_r Idealize.ShloMosaic.frame (wpE (defs₀ (F := F)) Variants.none (c : Thread nD τ) none) E)
  isplitl [H0 H1]
  · iapply (run29 c i arg3 harg3 arg4 harg4 arg5 harg5 arg6 harg6 arg7 harg7 arg8 harg8 arg9 harg9 arg10 harg10 x0 x1 q4 q5 q6 q7 hq4 hq5 hq6 hq7 E)
    isplitl [H0]; · iexact H0
    iexact H1
  iintro %r ⟨%hr, H0, H1⟩
  subst hr
  dsimp only
  rw [wp_bind]
  iapply (wp_wand_r Idealize.ShloMosaic.frame (wpE (defs₀ (F := F)) Variants.none (c : Thread nD τ) none) E)
  isplitl [H9 H10]
  · iapply (run30 c i arg3 harg3 arg4 harg4 arg5 harg5 arg6 harg6 arg7 harg7 arg8 harg8 arg9 harg9 arg10 harg10 _ x9 x10 q0 q1 q2 q3 q4 q5 q6 q7 p0 p1 p2 p3 p4 p5 p6 p7 hp0 hp1 hp2 hp3 hp4 hp5 hp6 hp7 E)
    isplitl [H9]; · iexact H9
    iexact H10
  iintro %r ⟨%hr, H9, H10⟩
  obtain ⟨s1, s2, s3, s4, hr⟩ := hr
  subst hr
  dsimp only
  rw [hOut]
  clear hOut hq0 hp0 hq1 hp1 hq2 hp2 hq3 hp3 hq4 hp4 hq5 hp5 hq6 hp6 hq7 hp7 h28
  unfold owns
  icases H5 with ⟨%d5, %f5, -, H5⟩
  icases H9 with ⟨%f9, %hf9, HS0⟩
  icases H10 with ⟨%f10, %hf10, HS1⟩
  obtain rfl := harg9.eq_unread hf9; obtain rfl := harg10.eq_unread hf10
  simp only [k0_part24_eq_skeleton, k0_part25_eq_skeleton, k0_part26_eq_skeleton, k0_part27_eq_skeleton, k0_part31_eq_skeleton, k0_part32_eq_skeleton, k0_part33_eq_skeleton, k0_part34_eq_skeleton, k0_part35_eq_skeleton, k0_part36_eq_skeleton]
  sl_exec (disch := sl_exact hc2)
  sl_step
  iapply Hk
  isplitl [H0]; · iexact H0
  isplitl [H1]; · iexact H1
  isplitl [H2]; · iexact H2
  isplitl [H3]; · iexact H3
  isplitl [H4]; · iexact H4
  isplitl [H5]
  · iexists _; isplitr; swap; · iexact H5
    ipureintro
    refine (View.read_writes_eq_canon _ _ _ ?_).trans ?_
    · intro y; exact View.cover_of_tiled (s := S256x512) _ S256x128.size (by rfl) y
    unfold updD updB
    have e0 := ld89 i hc2 ⟨(i 2).val - 1, by have := i2_lt i; omega⟩ rfl arg9 (harg9.unread x9); rw [harg9.read_unread] at e0
    have e1 := ld97 i hc2 ⟨(i 2).val - 1, by have := i2_lt i; omega⟩ rfl arg10 (harg10.unread x10); rw [harg10.read_unread] at e1
    have e2 := ld105 i ⟨(i 2).val, i2_lt i⟩ rfl arg9 (harg9.unread x9); rw [harg9.read_unread] at e2
    have e3 := ld113 i ⟨(i 2).val, i2_lt i⟩ rfl arg10 (harg10.unread x10); rw [harg10.read_unread] at e3
    have e4 := ld90 i hc2 ⟨(i 2).val - 1, by have := i2_lt i; omega⟩ rfl arg9 (harg9.unread x9); rw [harg9.read_unread] at e4
    have e5 := ld98 i hc2 ⟨(i 2).val - 1, by have := i2_lt i; omega⟩ rfl arg10 (harg10.unread x10); rw [harg10.read_unread] at e5
    have e6 := ld106 i ⟨(i 2).val, i2_lt i⟩ rfl arg9 (harg9.unread x9); rw [harg9.read_unread] at e6
    have e7 := ld114 i ⟨(i 2).val, i2_lt i⟩ rfl arg10 (harg10.unread x10); rw [harg10.read_unread] at e7
    have e8 := ld91 i hc2 ⟨(i 2).val - 1, by have := i2_lt i; omega⟩ rfl arg9 (harg9.unread x9); rw [harg9.read_unread] at e8
    have e9 := ld99 i hc2 ⟨(i 2).val - 1, by have := i2_lt i; omega⟩ rfl arg10 (harg10.unread x10); rw [harg10.read_unread] at e9
    have e10 := ld107 i ⟨(i 2).val, i2_lt i⟩ rfl arg9 (harg9.unread x9); rw [harg9.read_unread] at e10
    have e11 := ld115 i ⟨(i 2).val, i2_lt i⟩ rfl arg10 (harg10.unread x10); rw [harg10.read_unread] at e11
    have e12 := ld92 i hc2 ⟨(i 2).val - 1, by have := i2_lt i; omega⟩ rfl arg9 (harg9.unread x9); rw [harg9.read_unread] at e12
    have e13 := ld100 i hc2 ⟨(i 2).val - 1, by have := i2_lt i; omega⟩ rfl arg10 (harg10.unread x10); rw [harg10.read_unread] at e13
    have e14 := ld108 i ⟨(i 2).val, i2_lt i⟩ rfl arg9 (harg9.unread x9); rw [harg9.read_unread] at e14
    have e15 := ld116 i ⟨(i 2).val, i2_lt i⟩ rfl arg10 (harg10.unread x10); rw [harg10.read_unread] at e15
    have e16 := ld93 i hc2 ⟨(i 2).val - 1, by have := i2_lt i; omega⟩ rfl arg9 (harg9.unread x9); rw [harg9.read_unread] at e16
    have e17 := ld101 i hc2 ⟨(i 2).val - 1, by have := i2_lt i; omega⟩ rfl arg10 (harg10.unread x10); rw [harg10.read_unread] at e17
    have e18 := ld109 i ⟨(i 2).val, i2_lt i⟩ rfl arg9 (harg9.unread x9); rw [harg9.read_unread] at e18
    have e19 := ld117 i ⟨(i 2).val, i2_lt i⟩ rfl arg10 (harg10.unread x10); rw [harg10.read_unread] at e19
    have e20 := ld94 i hc2 ⟨(i 2).val - 1, by have := i2_lt i; omega⟩ rfl arg9 (harg9.unread x9); rw [harg9.read_unread] at e20
    have e21 := ld102 i hc2 ⟨(i 2).val - 1, by have := i2_lt i; omega⟩ rfl arg10 (harg10.unread x10); rw [harg10.read_unread] at e21
    have e22 := ld110 i ⟨(i 2).val, i2_lt i⟩ rfl arg9 (harg9.unread x9); rw [harg9.read_unread] at e22
    have e23 := ld118 i ⟨(i 2).val, i2_lt i⟩ rfl arg10 (harg10.unread x10); rw [harg10.read_unread] at e23
    have e24 := ld95 i hc2 ⟨(i 2).val - 1, by have := i2_lt i; omega⟩ rfl arg9 (harg9.unread x9); rw [harg9.read_unread] at e24
    have e25 := ld103 i hc2 ⟨(i 2).val - 1, by have := i2_lt i; omega⟩ rfl arg10 (harg10.unread x10); rw [harg10.read_unread] at e25
    have e26 := ld111 i ⟨(i 2).val, i2_lt i⟩ rfl arg9 (harg9.unread x9); rw [harg9.read_unread] at e26
    have e27 := ld119 i ⟨(i 2).val, i2_lt i⟩ rfl arg10 (harg10.unread x10); rw [harg10.read_unread] at e27
    have e28 := ld96 i hc2 ⟨(i 2).val - 1, by have := i2_lt i; omega⟩ rfl arg9 (harg9.unread x9); rw [harg9.read_unread] at e28
    have e29 := ld104 i hc2 ⟨(i 2).val - 1, by have := i2_lt i; omega⟩ rfl arg10 (harg10.unread x10); rw [harg10.read_unread] at e29
    have e30 := ld112 i ⟨(i 2).val, i2_lt i⟩ rfl arg9 (harg9.unread x9); rw [harg9.read_unread] at e30
    have e31 := ld120 i ⟨(i 2).val, i2_lt i⟩ rfl arg10 (harg10.unread x10); rw [harg10.read_unread] at e31
    rw [e0, e1, e2, e3, e4, e5, e6, e7, e8, e9, e10, e11, e12, e13, e14, e15, e16, e17, e18, e19, e20, e21, e22, e23, e24, e25, e26, e27, e28, e29, e30, e31]
    rfl
  isplitl [HS0]
  · iexists _; isplitr; swap; · iexact HS0
    ipureintro; exact harg9.read_unread _
  iexists _; isplitr; swap; · iexact HS1
  ipureintro; exact harg10.read_unread _

/-- The output block through the loop's last carried values. -/
theorem runEven_out (i : grid0.Coords) (hc2 : ¬ k0_cond2 i = 1#1) (x0 x1 : Vec F S1x512x256 .bf16) (x9 : Vec F S8x4096x128 .bf16) (x10 : Vec F S8x16x128x256 .bf16)
    (q0 q1 q2 q3 q4 q5 q6 q7 : FVec F S128x256 .bf16) (hq0 : qh x0 x1 0 = q0) (hq1 : qh x0 x1 1 = q1) (hq2 : qh x0 x1 2 = q2) (hq3 : qh x0 x1 3 = q3) (hq4 : qh x0 x1 4 = q4) (hq5 : qh x0 x1 5 = q5) (hq6 : qh x0 x1 6 = q6) (hq7 : qh x0 x1 7 = q7) (p0 p1 p2 p3 p4 p5 p6 p7 : St F) (hp0 : foldB x9 x10 q0 0 (2 * (k0_t9_loop i).trips) initS = p0) (hp1 : foldB x9 x10 q1 1 (2 * (k0_t9_loop i).trips) initS = p1) (hp2 : foldB x9 x10 q2 2 (2 * (k0_t9_loop i).trips) initS = p2) (hp3 : foldB x9 x10 q3 3 (2 * (k0_t9_loop i).trips) initS = p3) (hp4 : foldB x9 x10 q4 4 (2 * (k0_t9_loop i).trips) initS = p4) (hp5 : foldB x9 x10 q5 5 (2 * (k0_t9_loop i).trips) initS = p5) (hp6 : foldB x9 x10 q6 6 (2 * (k0_t9_loop i).trips) initS = p6) (hp7 : foldB x9 x10 q7 7 (2 * (k0_t9_loop i).trips) initS = p7) :
    outBlk i x0 x1 x9 x10 = View.canon [⟨Rect.unit (s := S256x512) ![0, 384] S256x128.size inb_S256x512_S256x128_0_384, k0_pay233 (updD x9 x10 q6 6 ⟨(i 2).val, i2_lt i⟩ p6).2 (updD x9 x10 q7 7 ⟨(i 2).val, i2_lt i⟩ p7).2⟩,
    ⟨Rect.unit (s := S256x512) ![0, 256] S256x128.size inb_S256x512_S256x128_0_256, k0_pay233 (updD x9 x10 q4 4 ⟨(i 2).val, i2_lt i⟩ p4).2 (updD x9 x10 q5 5 ⟨(i 2).val, i2_lt i⟩ p5).2⟩,
    ⟨Rect.unit (s := S256x512) ![0, 128] S256x128.size inb_S256x512_S256x128_0_128, k0_pay233 (updD x9 x10 q2 2 ⟨(i 2).val, i2_lt i⟩ p2).2 (updD x9 x10 q3 3 ⟨(i 2).val, i2_lt i⟩ p3).2⟩,
    ⟨Rect.unit (s := S256x512) ![0, 0] S256x128.size inb_S256x512_S256x128_0_0, k0_pay233 (updD x9 x10 q0 0 ⟨(i 2).val, i2_lt i⟩ p0).2 (updD x9 x10 q1 1 ⟨(i 2).val, i2_lt i⟩ p1).2⟩] := by
  have ht : 2 * (k0_t9_loop i).trips = (i 2).val := by rw [trips9]; rw [cond2_iff] at hc2; omega
  rw [ht] at hp0 hp1 hp2 hp3 hp4 hp5 hp6 hp7
  unfold outBlk finS
  simp only [hq0, hp0, hq1, hp1, hq2, hp2, hq3, hp3, hq4, hp4, hq5, hp5, hq6, hp6, hq7, hp7]

set_option maxHeartbeats 4000000 in
theorem runEven (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc2 : ¬ k0_cond2 i = 1#1)
    (x0 : Vec F S1x512x256 .bf16) (x1 : Vec F S1x512x256 .bf16) (x2 : Vec F S4096x512 .bf16) (x3 : Vec F S4096x512 .bf16) (x4 : Vec F S16x512x256 .bf16) (x9 : Vec F S8x4096x128 .bf16) (x10 : Vec F S8x16x128x256 .bf16) (S0 : sProp 𝕄)
    (h28 : ∀ E : Set ℕ, S0 ⊢ wp frame (wpE (defs₀ (F := F)) Variants.none c none) E (k0_part28 i arg3 harg3 arg4 harg4 arg5 harg5 arg6 harg6 arg7 harg7 arg8 harg8 arg9 harg9 arg10 harg10)
      (fun r => iprop(⌜r = (⟨BitVec.ofNat 32 (i 2).val, (qh x0 x1 0), (qh x0 x1 1), (qh x0 x1 2), (qh x0 x1 3), k0_pay181 (qrows x0 4)⟩ : (Σ' (arg2 : BitVec 32) (v7 : FVec F S128x256 .bf16) (v12 : FVec F S128x256 .bf16) (v17 : FVec F S128x256 .bf16) (v22 : FVec F S128x256 .bf16), FVec F S64x256 .bf16))⌝ ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare x9 ∗ owns (c : Thread nD τ) arg10 fullShare x10))) :
    ∀ (E : Set ℕ) (K : PUnit → sProp 𝕄),
      iprop(S0 ∗ (∃ d, owns (c : Thread nD τ) arg8 fullShare d)
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
             ∗ owns (c : Thread nD τ) arg8 fullShare (outBlk i x0 x1 x9 x10) ∗ owns (c : Thread nD τ) arg9 fullShare x9 ∗ owns (c : Thread nD τ) arg10 fullShare x10) -∗ K ⟨⟩))
        ⊢ wp frame (wpE (defs₀ (F := F)) Variants.none c none) E (cc0_fox_attention i arg3 harg3 arg4 harg4 arg5 harg5 arg6 harg6 arg7 harg7 arg8 harg8 arg9 harg9 arg10 harg10) K := by
  intro E K
  obtain ⟨q0, hq0⟩ : ∃ q, qh x0 x1 0 = q := ⟨_, rfl⟩
  obtain ⟨q1, hq1⟩ : ∃ q, qh x0 x1 1 = q := ⟨_, rfl⟩
  obtain ⟨q2, hq2⟩ : ∃ q, qh x0 x1 2 = q := ⟨_, rfl⟩
  obtain ⟨q3, hq3⟩ : ∃ q, qh x0 x1 3 = q := ⟨_, rfl⟩
  obtain ⟨q4, hq4⟩ : ∃ q, qh x0 x1 4 = q := ⟨_, rfl⟩
  obtain ⟨q5, hq5⟩ : ∃ q, qh x0 x1 5 = q := ⟨_, rfl⟩
  obtain ⟨q6, hq6⟩ : ∃ q, qh x0 x1 6 = q := ⟨_, rfl⟩
  obtain ⟨q7, hq7⟩ : ∃ q, qh x0 x1 7 = q := ⟨_, rfl⟩
  obtain ⟨p0, hp0⟩ : ∃ p, foldB x9 x10 q0 0 (2 * (k0_t9_loop i).trips) initS = p := ⟨_, rfl⟩
  obtain ⟨p1, hp1⟩ : ∃ p, foldB x9 x10 q1 1 (2 * (k0_t9_loop i).trips) initS = p := ⟨_, rfl⟩
  obtain ⟨p2, hp2⟩ : ∃ p, foldB x9 x10 q2 2 (2 * (k0_t9_loop i).trips) initS = p := ⟨_, rfl⟩
  obtain ⟨p3, hp3⟩ : ∃ p, foldB x9 x10 q3 3 (2 * (k0_t9_loop i).trips) initS = p := ⟨_, rfl⟩
  obtain ⟨p4, hp4⟩ : ∃ p, foldB x9 x10 q4 4 (2 * (k0_t9_loop i).trips) initS = p := ⟨_, rfl⟩
  obtain ⟨p5, hp5⟩ : ∃ p, foldB x9 x10 q5 5 (2 * (k0_t9_loop i).trips) initS = p := ⟨_, rfl⟩
  obtain ⟨p6, hp6⟩ : ∃ p, foldB x9 x10 q6 6 (2 * (k0_t9_loop i).trips) initS = p := ⟨_, rfl⟩
  obtain ⟨p7, hp7⟩ : ∃ p, foldB x9 x10 q7 7 (2 * (k0_t9_loop i).trips) initS = p := ⟨_, rfl⟩
  have hOut := runEven_out i hc2 x0 x1 x9 x10 q0 q1 q2 q3 q4 q5 q6 q7 hq0 hq1 hq2 hq3 hq4 hq5 hq6 hq7 p0 p1 p2 p3 p4 p5 p6 p7 hp0 hp1 hp2 hp3 hp4 hp5 hp6 hp7
  simp only [cc0_fox_attention_eq_skeleton]; unfold cc0_fox_attention_skel
  rw [wp_bind]
  iintro ⟨HS, H5, Hk⟩
  iapply (wp_wand_r Idealize.ShloMosaic.frame (wpE (defs₀ (F := F)) Variants.none (c : Thread nD τ) none) E)
  isplitl [HS]
  · iapply (h28 E)
    iexact HS
  iintro %r ⟨%hr, H0, H1, H2, H3, H4, H9, H10⟩
  rw [hq0, hq1, hq2, hq3] at hr
  subst hr
  dsimp only
  rw [wp_bind]
  iapply (wp_wand_r Idealize.ShloMosaic.frame (wpE (defs₀ (F := F)) Variants.none (c : Thread nD τ) none) E)
  isplitl [H0 H1]
  · iapply (run29 c i arg3 harg3 arg4 harg4 arg5 harg5 arg6 harg6 arg7 harg7 arg8 harg8 arg9 harg9 arg10 harg10 x0 x1 q4 q5 q6 q7 hq4 hq5 hq6 hq7 E)
    isplitl [H0]; · iexact H0
    iexact H1
  iintro %r ⟨%hr, H0, H1⟩
  subst hr
  dsimp only
  rw [wp_bind]
  iapply (wp_wand_r Idealize.ShloMosaic.frame (wpE (defs₀ (F := F)) Variants.none (c : Thread nD τ) none) E)
  isplitl [H9 H10]
  · iapply (run30 c i arg3 harg3 arg4 harg4 arg5 harg5 arg6 harg6 arg7 harg7 arg8 harg8 arg9 harg9 arg10 harg10 _ x9 x10 q0 q1 q2 q3 q4 q5 q6 q7 p0 p1 p2 p3 p4 p5 p6 p7 hp0 hp1 hp2 hp3 hp4 hp5 hp6 hp7 E)
    isplitl [H9]; · iexact H9
    iexact H10
  iintro %r ⟨%hr, H9, H10⟩
  obtain ⟨s1, s2, s3, s4, hr⟩ := hr
  subst hr
  dsimp only
  rw [hOut]
  clear hOut hq0 hp0 hq1 hp1 hq2 hp2 hq3 hp3 hq4 hp4 hq5 hp5 hq6 hp6 hq7 hp7 h28
  unfold owns
  icases H5 with ⟨%d5, %f5, -, H5⟩
  icases H9 with ⟨%f9, %hf9, HS0⟩
  icases H10 with ⟨%f10, %hf10, HS1⟩
  obtain rfl := harg9.eq_unread hf9; obtain rfl := harg10.eq_unread hf10
  simp only [k0_part24_eq_skeleton, k0_part25_eq_skeleton, k0_part26_eq_skeleton, k0_part27_eq_skeleton, k0_part31_eq_skeleton, k0_part32_eq_skeleton, k0_part33_eq_skeleton, k0_part34_eq_skeleton, k0_part35_eq_skeleton, k0_part36_eq_skeleton]
  sl_exec (disch := sl_exact hc2)
  sl_step
  iapply Hk
  isplitl [H0]; · iexact H0
  isplitl [H1]; · iexact H1
  isplitl [H2]; · iexact H2
  isplitl [H3]; · iexact H3
  isplitl [H4]; · iexact H4
  isplitl [H5]
  · iexists _; isplitr; swap; · iexact H5
    ipureintro
    refine (View.read_writes_eq_canon _ _ _ ?_).trans ?_
    · intro y; exact View.cover_of_tiled (s := S256x512) _ S256x128.size (by rfl) y
    unfold updD
    have e0 := ld105 i ⟨(i 2).val, i2_lt i⟩ rfl arg9 (harg9.unread x9); rw [harg9.read_unread] at e0
    have e1 := ld113 i ⟨(i 2).val, i2_lt i⟩ rfl arg10 (harg10.unread x10); rw [harg10.read_unread] at e1
    have e2 := ld106 i ⟨(i 2).val, i2_lt i⟩ rfl arg9 (harg9.unread x9); rw [harg9.read_unread] at e2
    have e3 := ld114 i ⟨(i 2).val, i2_lt i⟩ rfl arg10 (harg10.unread x10); rw [harg10.read_unread] at e3
    have e4 := ld107 i ⟨(i 2).val, i2_lt i⟩ rfl arg9 (harg9.unread x9); rw [harg9.read_unread] at e4
    have e5 := ld115 i ⟨(i 2).val, i2_lt i⟩ rfl arg10 (harg10.unread x10); rw [harg10.read_unread] at e5
    have e6 := ld108 i ⟨(i 2).val, i2_lt i⟩ rfl arg9 (harg9.unread x9); rw [harg9.read_unread] at e6
    have e7 := ld116 i ⟨(i 2).val, i2_lt i⟩ rfl arg10 (harg10.unread x10); rw [harg10.read_unread] at e7
    have e8 := ld109 i ⟨(i 2).val, i2_lt i⟩ rfl arg9 (harg9.unread x9); rw [harg9.read_unread] at e8
    have e9 := ld117 i ⟨(i 2).val, i2_lt i⟩ rfl arg10 (harg10.unread x10); rw [harg10.read_unread] at e9
    have e10 := ld110 i ⟨(i 2).val, i2_lt i⟩ rfl arg9 (harg9.unread x9); rw [harg9.read_unread] at e10
    have e11 := ld118 i ⟨(i 2).val, i2_lt i⟩ rfl arg10 (harg10.unread x10); rw [harg10.read_unread] at e11
    have e12 := ld111 i ⟨(i 2).val, i2_lt i⟩ rfl arg9 (harg9.unread x9); rw [harg9.read_unread] at e12
    have e13 := ld119 i ⟨(i 2).val, i2_lt i⟩ rfl arg10 (harg10.unread x10); rw [harg10.read_unread] at e13
    have e14 := ld112 i ⟨(i 2).val, i2_lt i⟩ rfl arg9 (harg9.unread x9); rw [harg9.read_unread] at e14
    have e15 := ld120 i ⟨(i 2).val, i2_lt i⟩ rfl arg10 (harg10.unread x10); rw [harg10.read_unread] at e15
    rw [e0, e1, e2, e3, e4, e5, e6, e7, e8, e9, e10, e11, e12, e13, e14, e15]
    rfl
  isplitl [HS0]
  · iexists _; isplitr; swap; · iexact HS0
    ipureintro; exact harg9.read_unread _
  iexists _; isplitr; swap; · iexact HS1
  ipureintro; exact harg10.read_unread _

end Cert.KernelIdeal.Fox

end
-- ==== Proof.Fill.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Run
public import Idealize.ShloMosaic.Lib.ValueLayout
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The key scratch: row `j` of head `h` is key `j`'s 64 columns and then the gate's 64 features of key `j`. -/
def kaug (x2 x3 : Vec F S4096x512 .bf16) : Vec F S8x4096x128 .bf16 := fun y =>
  if (y 2).val < 64 then x2 (ix2 (n0 := 4096) (n1 := 512) ⟨(y 1).val, (y 1).isLt⟩ ⟨(64 * (y 0).val + (y 2).val) % 512, Nat.mod_lt _ (by decide)⟩)
  else x3 (ix2 (n0 := 4096) (n1 := 512) ⟨(y 1).val, (y 1).isLt⟩ ⟨(64 * (y 0).val + ((y 2).val - 64)) % 512, Nat.mod_lt _ (by decide)⟩)

/-- The value scratch: under head `h`'s 64 rows of values in block `j`, a row of ones and 63 of zeros. -/
def vaug (x4 : Vec F S16x512x256 .bf16) : Vec F S8x16x128x256 .bf16 := fun y =>
  if (y 2).val < 64 then x4 (ix3 (n0 := 16) (n1 := 512) (n2 := 256) ⟨(y 1).val, (y 1).isLt⟩ ⟨(64 * (y 0).val + (y 2).val) % 512, Nat.mod_lt _ (by decide)⟩ ⟨(y 3).val, (y 3).isLt⟩)
  else (k0_pay3 (F := F)) (ix2 (n0 := 64) (n1 := 256) ⟨((y 2).val - 64) % 64, Nat.mod_lt _ (by decide)⟩ ⟨(y 3).val, (y 3).isLt⟩)

/-- A cast of a shape to itself changes nothing. -/
theorem cast_self {α : Type} {s : Shape} (x : s.Idx → α) (h : s.ShapeCasts s) : shapeCast s x h = x :=
  funext fun j => shapeCast_apply x h j j rfl

/-- The keys' half of a head is stored as the scratch says. -/
theorem kpieceL (h : Fin 8) (x2 x3 : Vec F S4096x512 .bf16) (a : Memref sig .tc .vmem S4096x512 .bf16) (ha : a.IsWhole)
    (off5 : Fin 2 → ℕ) (e5 : off5 = ![0, 64 * h.val]) (inb5 : ∀ a, off5 a + S4096x64.size a ≤ S4096x512.size a)
    (off9 : Fin 3 → ℕ) (e9 : off9 = ![h.val, 0, 0]) (inb9 : ∀ a, off9 a + S1x4096x64.size a ≤ S8x4096x128.size a) (x : S1x4096x64.Idx) :
    k0_pay174 (View.readAt (Elt F) a.view (Rect.unit (s := S4096x512) off5 S4096x64.size inb5).toLoadRect (ha.unread x2)) x
      = kaug x2 x3 ((Rect.unit (s := S8x4096x128) off9 S1x4096x64.size inb9).emb x) := by
  subst e5 e9
  rw [View.readAt_unit a.view _ inb5 rfl inb5, ha.read_unread]
  obtain ⟨u, i, j, rfl⟩ : ∃ u i j, x = ix3 (n0 := 1) (n1 := 4096) (n2 := 64) u i j := ⟨_, _, _, eq_ix3 x⟩
  unfold k0_pay174
  rw [cast_self]
  refine (shapeCast_ab_1ab_apply _ _ u i j).trans ?_
  have hu := u.isLt
  have hj := j.isLt
  have hh := h.isLt
  unfold kaug VecWindow.window
  rw [if_pos (by rw [Rect.emb_apply]; show 0 + 1 * j.val < 64; omega)]
  congr 1
  funext t
  apply Fin.ext
  match t with
  | ⟨0, _⟩ => show 0 + 1 * i.val = 0 + 1 * i.val; rfl
  | ⟨1, _⟩ => show 64 * h.val + 1 * j.val = (64 * (h.val + 1 * u.val) + (0 + 1 * j.val)) % 512; omega

/-- The gate's half of a head is stored as the scratch says. -/
theorem kpieceR (h : Fin 8) (x2 x3 : Vec F S4096x512 .bf16) (a : Memref sig .tc .vmem S4096x512 .bf16) (ha : a.IsWhole)
    (off5 : Fin 2 → ℕ) (e5 : off5 = ![0, 64 * h.val]) (inb5 : ∀ a, off5 a + S4096x64.size a ≤ S4096x512.size a)
    (off9 : Fin 3 → ℕ) (e9 : off9 = ![h.val, 0, 64]) (inb9 : ∀ a, off9 a + S1x4096x64.size a ≤ S8x4096x128.size a) (x : S1x4096x64.Idx) :
    k0_pay174 (View.readAt (Elt F) a.view (Rect.unit (s := S4096x512) off5 S4096x64.size inb5).toLoadRect (ha.unread x3)) x
      = kaug x2 x3 ((Rect.unit (s := S8x4096x128) off9 S1x4096x64.size inb9).emb x) := by
  subst e5 e9
  rw [View.readAt_unit a.view _ inb5 rfl inb5, ha.read_unread]
  obtain ⟨u, i, j, rfl⟩ : ∃ u i j, x = ix3 (n0 := 1) (n1 := 4096) (n2 := 64) u i j := ⟨_, _, _, eq_ix3 x⟩
  unfold k0_pay174
  rw [cast_self]
  refine (shapeCast_ab_1ab_apply _ _ u i j).trans ?_
  have hu := u.isLt
  have hj := j.isLt
  have hh := h.isLt
  unfold kaug VecWindow.window
  rw [if_neg (by rw [Rect.emb_apply]; show ¬ (64 + 1 * j.val < 64); omega)]
  congr 1
  funext t
  apply Fin.ext
  match t with
  | ⟨0, _⟩ => show 0 + 1 * i.val = 0 + 1 * i.val; rfl
  | ⟨1, _⟩ => show 64 * h.val + 1 * j.val = (64 * (h.val + 1 * u.val) + (64 + 1 * j.val - 64)) % 512; omega

theorem vwin (h : Fin 8) (k : Fin 16) : ∀ a, (![k.val, 64 * h.val, 0] : Fin 3 → ℕ) a + S1x64x256.size a ≤ S16x512x256.size a := by
  intro a
  have := h.isLt
  have := k.isLt
  fin_cases a <;> simp [S1x64x256, S16x512x256] <;> omega
theorem vtop (h : Fin 8) (k : Fin 16) : ∀ a, (![h.val, k.val, 0, 0] : Fin 4 → ℕ) a + S1x1x64x256.size a ≤ S8x16x128x256.size a := by
  intro a
  have := h.isLt
  have := k.isLt
  fin_cases a <;> simp [S1x1x64x256, S8x16x128x256] <;> omega
theorem vbot (h : Fin 8) (k : Fin 16) : ∀ a, (![h.val, k.val, 64, 0] : Fin 4 → ℕ) a + S1x1x64x256.size a ≤ S8x16x128x256.size a := by
  intro a
  have := h.isLt
  have := k.isLt
  fin_cases a <;> simp [S1x1x64x256, S8x16x128x256] <;> omega

/-- What one trip of a head's loop over the value blocks stores. -/
def vpieces (x4 : Vec F S16x512x256 .bf16) (h : Fin 8) (k : Fin 16) : List (View.Piece (Elt F) S8x16x128x256 .bf16) :=
  [⟨Rect.unit (s := S8x16x128x256) ![h.val, k.val, 64, 0] S1x1x64x256.size (vbot h k), k0_pay176 (k0_pay3 (F := F))⟩,
   ⟨Rect.unit (s := S8x16x128x256) ![h.val, k.val, 0, 0] S1x1x64x256.size (vtop h k), k0_pay175 (VecWindow.window x4 ![k.val, 64 * h.val, 0] S1x64x256.size (vwin h k))⟩]

theorem piece_off {s : Shape} {e : EltTy} {off off' : Fin s.rank → ℕ} (eo : off = off') (sz : Fin s.rank → ℕ) (inb : ∀ a, off a + sz a ≤ s.size a) (inb' : ∀ a, off' a + sz a ≤ s.size a)
    (w w' : (Rect.unit off sz inb).shape.Idx → Elt F e) (hw : w = w') : (⟨Rect.unit off sz inb, w⟩ : View.Piece (Elt F) s e) = ⟨Rect.unit off' sz inb', w'⟩ := by
  subst eo hw; rfl

/-- Each of a trip's two pieces holds what the scratch is to hold. -/
theorem vpieces_ok (x4 : Vec F S16x512x256 .bf16) (h : Fin 8) (k : Fin 16) : ∀ p ∈ vpieces x4 h k, ∀ x, p.2 x = vaug x4 (p.1.emb x) := by
  have hh := h.isLt
  have hk := k.isLt
  unfold vpieces
  intro p hp x
  rcases List.mem_cons.mp hp with rfl | hp
  · obtain ⟨u, w, i, j, rfl⟩ : ∃ u w i j, x = ix4 (n0 := 1) (n1 := 1) (n2 := 64) (n3 := 256) u w i j := ⟨_, _, _, _, eq_ix4 x⟩
    have hi := i.isLt
    have hj := j.isLt
    have hu := u.isLt
    have hw := w.isLt
    dsimp only
    unfold k0_pay176
    refine (shapeCast_apply _ _ _ (ix2 i j) ?_).trans ?_
    · rw [Shape.rowMajor_val_four, Shape.rowMajor_val_two]
      show i.val * 256 + j.val = ((u.val * 1 + w.val) * 64 + i.val) * 256 + j.val
      omega
    unfold vaug
    rw [if_neg (by rw [Rect.emb_apply]; show ¬ (64 + 1 * i.val < 64); omega)]
    congr 1
    funext t
    apply Fin.ext
    match t with
    | ⟨0, _⟩ => show i.val = (64 + 1 * i.val - 64) % 64; omega
    | ⟨1, _⟩ => show j.val = 0 + 1 * j.val; omega
  · obtain rfl := List.mem_singleton.mp hp
    obtain ⟨u, w, i, j, rfl⟩ : ∃ u w i j, x = ix4 (n0 := 1) (n1 := 1) (n2 := 64) (n3 := 256) u w i j := ⟨_, _, _, _, eq_ix4 x⟩
    have hi := i.isLt
    have hj := j.isLt
    have hu := u.isLt
    have hw := w.isLt
    dsimp only
    unfold k0_pay175
    refine (shapeCast_apply _ _ _ (ix2 i j) ?_).trans ?_
    · rw [Shape.rowMajor_val_four, Shape.rowMajor_val_two]
      show i.val * 256 + j.val = ((u.val * 1 + w.val) * 64 + i.val) * 256 + j.val
      omega
    refine (shapeCast_1ab_ab_apply _ _ i j).trans ?_
    unfold vaug VecWindow.window
    rw [if_pos (by rw [Rect.emb_apply]; show 0 + 1 * i.val < 64; omega)]
    congr 1
    funext t
    apply Fin.ext
    match t with
    | ⟨0, _⟩ => show k.val + 1 * 0 = k.val + 1 * w.val; omega
    | ⟨1, _⟩ => show 64 * h.val + 1 * i.val = (64 * (h.val + 1 * u.val) + (0 + 1 * i.val)) % 512; omega
    | ⟨2, _⟩ => show 0 + 1 * j.val = 0 + 1 * j.val; rfl

/-- A trip's two pieces cover its block. -/
theorem vpieces_cover (x4 : Vec F S16x512x256 .bf16) (h : Fin 8) (k : Fin 16) (y : S8x16x128x256.Idx) (y0 : (y 0).val = h.val) (y1 : (y 1).val = k.val) :
    ∃ p ∈ vpieces x4 h k, y ∈ p.1.set := by
  have h2 : (y 2).val < 128 := (y 2).isLt
  have h3 : (y 3).val < 256 := (y 3).isLt
  unfold vpieces
  by_cases hy : (y 2).val < 64
  · refine ⟨_, List.mem_cons_of_mem _ (List.mem_singleton.mpr rfl), ?_⟩
    rw [← Rect.map_emb_univ, Finset.mem_map]
    refine ⟨ix4 (n0 := 1) (n1 := 1) (n2 := 64) (n3 := 256) 0 0 ⟨(y 2).val, hy⟩ ⟨(y 3).val, h3⟩, Finset.mem_univ _, ?_⟩
    funext t
    apply Fin.ext
    match t with
    | ⟨0, _⟩ => show h.val + 1 * 0 = (y 0).val; omega
    | ⟨1, _⟩ => show k.val + 1 * 0 = (y 1).val; omega
    | ⟨2, _⟩ => show 0 + 1 * (y 2).val = (y 2).val; omega
    | ⟨3, _⟩ => show 0 + 1 * (y 3).val = (y 3).val; omega
  · refine ⟨_, List.mem_cons_self, ?_⟩
    rw [← Rect.map_emb_univ, Finset.mem_map]
    refine ⟨ix4 (n0 := 1) (n1 := 1) (n2 := 64) (n3 := 256) 0 0 ⟨(y 2).val - 64, by omega⟩ ⟨(y 3).val, h3⟩, Finset.mem_univ _, ?_⟩
    funext t
    apply Fin.ext
    match t with
    | ⟨0, _⟩ => show h.val + 1 * 0 = (y 0).val; omega
    | ⟨1, _⟩ => show k.val + 1 * 0 = (y 1).val; omega
    | ⟨2, _⟩ => show 64 + 1 * ((y 2).val - 64) = (y 2).val; omega
    | ⟨3, _⟩ => show 0 + 1 * (y 3).val = (y 3).val; omega

/-- What a list of stores says of head `h`: every store agrees with the scratch, and the head's blocks are covered. -/
def Fills (x4 : Vec F S16x512x256 .bf16) (h : Fin 8) (L : List (View.Piece (Elt F) S8x16x128x256 .bf16)) : Prop :=
  (∀ p ∈ L, ∀ x, p.2 x = vaug x4 (p.1.emb x)) ∧ ∀ y : S8x16x128x256.Idx, (y 0).val = h.val → ∃ p ∈ L, y ∈ p.1.set

/-- The stores of a head's sixteen trips fill the head. -/
theorem fills_of (x4 : Vec F S16x512x256 .bf16) (h : Fin 8) (pb : ℕ → List (View.Piece (Elt F) S8x16x128x256 .bf16)) (h0 : pb 0 = [])
    (hs : ∀ k : Fin 16, pb (k.val + 1) = vpieces x4 h k ++ pb k.val) : Fills x4 h (pb 16) := by
  have key : ∀ n, n ≤ 16 → (∀ p ∈ pb n, ∀ x, p.2 x = vaug x4 (p.1.emb x)) ∧ ∀ y : S8x16x128x256.Idx, (y 0).val = h.val → (y 1).val < n → ∃ p ∈ pb n, y ∈ p.1.set := by
    intro n
    induction n with
    | zero => intro _; rw [h0]; exact ⟨fun p hp => absurd hp List.not_mem_nil, fun y _ hy => absurd hy (Nat.not_lt_zero _)⟩
    | succ n ih =>
      intro hn
      obtain ⟨ia, ib⟩ := ih (by omega)
      have e := hs ⟨n, by omega⟩
      dsimp only at e
      rw [e]
      refine ⟨fun p hp x => ?_, fun y y0 y1 => ?_⟩
      · rcases List.mem_append.mp hp with hp | hp
        · exact vpieces_ok x4 h _ p hp x
        · exact ia p hp x
      · by_cases hy : (y 1).val = n
        · obtain ⟨p, hp, hm⟩ := vpieces_cover x4 h ⟨n, by omega⟩ y y0 hy
          exact ⟨p, List.mem_append_left _ hp, hm⟩
        · obtain ⟨p, hp, hm⟩ := ib y y0 (by omega)
          exact ⟨p, List.mem_append_right _ hp, hm⟩
  obtain ⟨ka, kb⟩ := key 16 le_rfl
  exact ⟨ka, fun y y0 => kb y y0 (y 1).isLt⟩

theorem fill1 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 0 (pb_k0_t1 (F := F) Variants.none c none i arg3 harg3 arg4 harg4 arg5 harg5 arg6 harg6 arg7 harg7 arg8 harg8 arg9 harg9 arg10 harg10 hc1  X7 (Scf.trips k0_t1_loop.lb k0_t1_loop.ub k0_t1_loop.st)) := by
  have ht : k0_t1_loop.trips = 16 := by decide +kernel
  show Fills _ _ (pb_k0_t1 (F := F) Variants.none c none i arg3 harg3 arg4 harg4 arg5 harg5 arg6 harg6 arg7 harg7 arg8 harg8 arg9 harg9 arg10 harg10 hc1  X7 k0_t1_loop.trips)
  rw [ht]
  refine fills_of _ 0 (fun n => pb_k0_t1 (F := F) Variants.none c none i arg3 harg3 arg4 harg4 arg5 harg5 arg6 harg6 arg7 harg7 arg8 harg8 arg9 harg9 arg10 harg10 hc1  X7 n) rfl fun k => ?_
  have hk : k.val < k0_t1_loop.trips := by rw [ht]; exact k.isLt
  refine (pb_k0_t1_succ (F := F) Variants.none c none i arg3 harg3 arg4 harg4 arg5 harg5 arg6 harg6 arg7 harg7 arg8 harg8 arg9 harg9 arg10 harg10 hc1  X7 ⟨k.val, hk⟩).trans ?_
  congr 1
  unfold tripL_k0_t1 trip_k0_t1 vpieces
  have e1 : VecWindow.window (arg7.view.read (Elt F) X7) ![k.val, 64 * (0 : Fin 8).val, 0] S1x64x256.size (vwin 0 k) = View.readAt (Elt F) arg7.view (Rect.unit (s := S16x512x256) (k0_off1 ⟨k.val, hk⟩) S1x64x256.size (k0_off1_inb i ⟨k.val, hk⟩ hc1)).toLoadRect X7 :=
    (View.readAt_unit arg7.view X7 (k0_off1_inb i ⟨k.val, hk⟩ hc1) (k0_off1_eq ⟨k.val, hk⟩) (vwin 0 k)).symm
  have e2 : k0_off3 ⟨k.val, hk⟩ = ![(0 : Fin 8).val, k.val, 64, 0] := k0_off3_eq ⟨k.val, hk⟩
  have e3 : k0_off2 ⟨k.val, hk⟩ = ![(0 : Fin 8).val, k.val, 0, 0] := k0_off2_eq ⟨k.val, hk⟩
  rw [e1]
  have d2 := piece_off (F := F) (s := S8x16x128x256) (e := .bf16) e2 S1x1x64x256.size (k0_off3_inb i ⟨k.val, hk⟩ hc1) (vbot 0 k) _ (k0_pay176 (k0_pay3 (F := F))) rfl
  have d3 := piece_off (F := F) (s := S8x16x128x256) (e := .bf16) e3 S1x1x64x256.size (k0_off2_inb i ⟨k.val, hk⟩ hc1) (vtop 0 k) _ (k0_pay175 (View.readAt (Elt F) arg7.view (Rect.unit (s := S16x512x256) (k0_off1 ⟨k.val, hk⟩) S1x64x256.size (k0_off1_inb i ⟨k.val, hk⟩ hc1)).toLoadRect X7)) rfl
  rw [← d2, ← d3]
  all_goals rfl

theorem fill2 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 1 (pb_k0_t2 (F := F) Variants.none c none i arg3 harg3 arg4 harg4 arg5 harg5 arg6 harg6 arg7 harg7 arg8 harg8 arg9 harg9 arg10 harg10 hc1 (k0_pay3 (F := F)) X7 (Scf.trips k0_t2_loop.lb k0_t2_loop.ub k0_t2_loop.st)) := by
  have ht : k0_t2_loop.trips = 16 := by decide +kernel
  show Fills _ _ (pb_k0_t2 (F := F) Variants.none c none i arg3 harg3 arg4 harg4 arg5 harg5 arg6 harg6 arg7 harg7 arg8 harg8 arg9 harg9 arg10 harg10 hc1 (k0_pay3 (F := F)) X7 k0_t2_loop.trips)
  rw [ht]
  refine fills_of _ 1 (fun n => pb_k0_t2 (F := F) Variants.none c none i arg3 harg3 arg4 harg4 arg5 harg5 arg6 harg6 arg7 harg7 arg8 harg8 arg9 harg9 arg10 harg10 hc1 (k0_pay3 (F := F)) X7 n) rfl fun k => ?_
  have hk : k.val < k0_t2_loop.trips := by rw [ht]; exact k.isLt
  refine (pb_k0_t2_succ (F := F) Variants.none c none i arg3 harg3 arg4 harg4 arg5 harg5 arg6 harg6 arg7 harg7 arg8 harg8 arg9 harg9 arg10 harg10 hc1 (k0_pay3 (F := F)) X7 ⟨k.val, hk⟩).trans ?_
  congr 1
  unfold tripL_k0_t2 trip_k0_t2 vpieces
  have e1 : VecWindow.window (arg7.view.read (Elt F) X7) ![k.val, 64 * (1 : Fin 8).val, 0] S1x64x256.size (vwin 1 k) = View.readAt (Elt F) arg7.view (Rect.unit (s := S16x512x256) (k0_off4 ⟨k.val, hk⟩) S1x64x256.size (k0_off4_inb i ⟨k.val, hk⟩ hc1)).toLoadRect X7 :=
    (View.readAt_unit arg7.view X7 (k0_off4_inb i ⟨k.val, hk⟩ hc1) (k0_off4_eq ⟨k.val, hk⟩) (vwin 1 k)).symm
  have e2 : k0_off6 ⟨k.val, hk⟩ = ![(1 : Fin 8).val, k.val, 64, 0] := k0_off6_eq ⟨k.val, hk⟩
  have e3 : k0_off5 ⟨k.val, hk⟩ = ![(1 : Fin 8).val, k.val, 0, 0] := k0_off5_eq ⟨k.val, hk⟩
  rw [e1]
  have d2 := piece_off (F := F) (s := S8x16x128x256) (e := .bf16) e2 S1x1x64x256.size (k0_off6_inb i ⟨k.val, hk⟩ hc1) (vbot 1 k) _ (k0_pay176 (k0_pay3 (F := F))) rfl
  have d3 := piece_off (F := F) (s := S8x16x128x256) (e := .bf16) e3 S1x1x64x256.size (k0_off5_inb i ⟨k.val, hk⟩ hc1) (vtop 1 k) _ (k0_pay175 (View.readAt (Elt F) arg7.view (Rect.unit (s := S16x512x256) (k0_off4 ⟨k.val, hk⟩) S1x64x256.size (k0_off4_inb i ⟨k.val, hk⟩ hc1)).toLoadRect X7)) rfl
  rw [← d2, ← d3]
  all_goals rfl

theorem fill3 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 2 (pb_k0_t3 (F := F) Variants.none c none i arg3 harg3 arg4 harg4 arg5 harg5 arg6 harg6 arg7 harg7 arg8 harg8 arg9 harg9 arg10 harg10 hc1 (k0_pay3 (F := F)) X7 (Scf.trips k0_t3_loop.lb k0_t3_loop.ub k0_t3_loop.st)) := by
  have ht : k0_t3_loop.trips = 16 := by decide +kernel
  show Fills _ _ (pb_k0_t3 (F := F) Variants.none c none i arg3 harg3 arg4 harg4 arg5 harg5 arg6 harg6 arg7 harg7 arg8 harg8 arg9 harg9 arg10 harg10 hc1 (k0_pay3 (F := F)) X7 k0_t3_loop.trips)
  rw [ht]
  refine fills_of _ 2 (fun n => pb_k0_t3 (F := F) Variants.none c none i arg3 harg3 arg4 harg4 arg5 harg5 arg6 harg6 arg7 harg7 arg8 harg8 arg9 harg9 arg10 harg10 hc1 (k0_pay3 (F := F)) X7 n) rfl fun k => ?_
  have hk : k.val < k0_t3_loop.trips := by rw [ht]; exact k.isLt
  refine (pb_k0_t3_succ (F := F) Variants.none c none i arg3 harg3 arg4 harg4 arg5 harg5 arg6 harg6 arg7 harg7 arg8 harg8 arg9 harg9 arg10 harg10 hc1 (k0_pay3 (F := F)) X7 ⟨k.val, hk⟩).trans ?_
  congr 1
  unfold tripL_k0_t3 trip_k0_t3 vpieces
  have e1 : VecWindow.window (arg7.view.read (Elt F) X7) ![k.val, 64 * (2 : Fin 8).val, 0] S1x64x256.size (vwin 2 k) = View.readAt (Elt F) arg7.view (Rect.unit (s := S16x512x256) (k0_off7 ⟨k.val, hk⟩) S1x64x256.size (k0_off7_inb i ⟨k.val, hk⟩ hc1)).toLoadRect X7 :=
    (View.readAt_unit arg7.view X7 (k0_off7_inb i ⟨k.val, hk⟩ hc1) (k0_off7_eq ⟨k.val, hk⟩) (vwin 2 k)).symm
  have e2 : k0_off9 ⟨k.val, hk⟩ = ![(2 : Fin 8).val, k.val, 64, 0] := k0_off9_eq ⟨k.val, hk⟩
  have e3 : k0_off8 ⟨k.val, hk⟩ = ![(2 : Fin 8).val, k.val, 0, 0] := k0_off8_eq ⟨k.val, hk⟩
  rw [e1]
  have d2 := piece_off (F := F) (s := S8x16x128x256) (e := .bf16) e2 S1x1x64x256.size (k0_off9_inb i ⟨k.val, hk⟩ hc1) (vbot 2 k) _ (k0_pay176 (k0_pay3 (F := F))) rfl
  have d3 := piece_off (F := F) (s := S8x16x128x256) (e := .bf16) e3 S1x1x64x256.size (k0_off8_inb i ⟨k.val, hk⟩ hc1) (vtop 2 k) _ (k0_pay175 (View.readAt (Elt F) arg7.view (Rect.unit (s := S16x512x256) (k0_off7 ⟨k.val, hk⟩) S1x64x256.size (k0_off7_inb i ⟨k.val, hk⟩ hc1)).toLoadRect X7)) rfl
  rw [← d2, ← d3]
  all_goals rfl

theorem fill4 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 3 (pb_k0_t4 (F := F) Variants.none c none i arg3 harg3 arg4 harg4 arg5 harg5 arg6 harg6 arg7 harg7 arg8 harg8 arg9 harg9 arg10 harg10 hc1 (k0_pay3 (F := F)) 0#32 1#32 X7 (Scf.trips k0_t4_loop.lb k0_t4_loop.ub k0_t4_loop.st)) := by
  have ht : k0_t4_loop.trips = 16 := by decide +kernel
  show Fills _ _ (pb_k0_t4 (F := F) Variants.none c none i arg3 harg3 arg4 harg4 arg5 harg5 arg6 harg6 arg7 harg7 arg8 harg8 arg9 harg9 arg10 harg10 hc1 (k0_pay3 (F := F)) 0#32 1#32 X7 k0_t4_loop.trips)
  rw [ht]
  refine fills_of _ 3 (fun n => pb_k0_t4 (F := F) Variants.none c none i arg3 harg3 arg4 harg4 arg5 harg5 arg6 harg6 arg7 harg7 arg8 harg8 arg9 harg9 arg10 harg10 hc1 (k0_pay3 (F := F)) 0#32 1#32 X7 n) rfl fun k => ?_
  have hk : k.val < k0_t4_loop.trips := by rw [ht]; exact k.isLt
  refine (pb_k0_t4_succ (F := F) Variants.none c none i arg3 harg3 arg4 harg4 arg5 harg5 arg6 harg6 arg7 harg7 arg8 harg8 arg9 harg9 arg10 harg10 hc1 (k0_pay3 (F := F)) 0#32 1#32 X7 ⟨k.val, hk⟩).trans ?_
  congr 1
  unfold tripL_k0_t4 trip_k0_t4 vpieces
  have e1 : VecWindow.window (arg7.view.read (Elt F) X7) ![k.val, 64 * (3 : Fin 8).val, 0] S1x64x256.size (vwin 3 k) = View.readAt (Elt F) arg7.view (Rect.unit (s := S16x512x256) (k0_off10 ⟨k.val, hk⟩) S1x64x256.size (k0_off10_inb i ⟨k.val, hk⟩ hc1)).toLoadRect X7 :=
    (View.readAt_unit arg7.view X7 (k0_off10_inb i ⟨k.val, hk⟩ hc1) (k0_off10_eq ⟨k.val, hk⟩) (vwin 3 k)).symm
  have e2 : k0_off12 ⟨k.val, hk⟩ = ![(3 : Fin 8).val, k.val, 64, 0] := k0_off12_eq ⟨k.val, hk⟩
  have e3 : k0_off11 ⟨k.val, hk⟩ = ![(3 : Fin 8).val, k.val, 0, 0] := k0_off11_eq ⟨k.val, hk⟩
  rw [e1]
  have d2 := piece_off (F := F) (s := S8x16x128x256) (e := .bf16) e2 S1x1x64x256.size (k0_off12_inb i ⟨k.val, hk⟩ hc1) (vbot 3 k) _ (k0_pay176 (k0_pay3 (F := F))) rfl
  have d3 := piece_off (F := F) (s := S8x16x128x256) (e := .bf16) e3 S1x1x64x256.size (k0_off11_inb i ⟨k.val, hk⟩ hc1) (vtop 3 k) _ (k0_pay175 (View.readAt (Elt F) arg7.view (Rect.unit (s := S16x512x256) (k0_off10 ⟨k.val, hk⟩) S1x64x256.size (k0_off10_inb i ⟨k.val, hk⟩ hc1)).toLoadRect X7)) rfl
  rw [← d2, ← d3]
  all_goals rfl

theorem fill5 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 4 (pb_k0_t5 (F := F) Variants.none c none i arg3 harg3 arg4 harg4 arg5 harg5 arg6 harg6 arg7 harg7 arg8 harg8 arg9 harg9 arg10 harg10 hc1 (k0_pay3 (F := F)) 0#32 1#32 X7 (Scf.trips k0_t5_loop.lb k0_t5_loop.ub k0_t5_loop.st)) := by
  have ht : k0_t5_loop.trips = 16 := by decide +kernel
  show Fills _ _ (pb_k0_t5 (F := F) Variants.none c none i arg3 harg3 arg4 harg4 arg5 harg5 arg6 harg6 arg7 harg7 arg8 harg8 arg9 harg9 arg10 harg10 hc1 (k0_pay3 (F := F)) 0#32 1#32 X7 k0_t5_loop.trips)
  rw [ht]
  refine fills_of _ 4 (fun n => pb_k0_t5 (F := F) Variants.none c none i arg3 harg3 arg4 harg4 arg5 harg5 arg6 harg6 arg7 harg7 arg8 harg8 arg9 harg9 arg10 harg10 hc1 (k0_pay3 (F := F)) 0#32 1#32 X7 n) rfl fun k => ?_
  have hk : k.val < k0_t5_loop.trips := by rw [ht]; exact k.isLt
  refine (pb_k0_t5_succ (F := F) Variants.none c none i arg3 harg3 arg4 harg4 arg5 harg5 arg6 harg6 arg7 harg7 arg8 harg8 arg9 harg9 arg10 harg10 hc1 (k0_pay3 (F := F)) 0#32 1#32 X7 ⟨k.val, hk⟩).trans ?_
  congr 1
  unfold tripL_k0_t5 trip_k0_t5 vpieces
  have e1 : VecWindow.window (arg7.view.read (Elt F) X7) ![k.val, 64 * (4 : Fin 8).val, 0] S1x64x256.size (vwin 4 k) = View.readAt (Elt F) arg7.view (Rect.unit (s := S16x512x256) (k0_off13 ⟨k.val, hk⟩) S1x64x256.size (k0_off13_inb i ⟨k.val, hk⟩ hc1)).toLoadRect X7 :=
    (View.readAt_unit arg7.view X7 (k0_off13_inb i ⟨k.val, hk⟩ hc1) (k0_off13_eq ⟨k.val, hk⟩) (vwin 4 k)).symm
  have e2 : k0_off15 ⟨k.val, hk⟩ = ![(4 : Fin 8).val, k.val, 64, 0] := k0_off15_eq ⟨k.val, hk⟩
  have e3 : k0_off14 ⟨k.val, hk⟩ = ![(4 : Fin 8).val, k.val, 0, 0] := k0_off14_eq ⟨k.val, hk⟩
  rw [e1]
  have d2 := piece_off (F := F) (s := S8x16x128x256) (e := .bf16) e2 S1x1x64x256.size (k0_off15_inb i ⟨k.val, hk⟩ hc1) (vbot 4 k) _ (k0_pay176 (k0_pay3 (F := F))) rfl
  have d3 := piece_off (F := F) (s := S8x16x128x256) (e := .bf16) e3 S1x1x64x256.size (k0_off14_inb i ⟨k.val, hk⟩ hc1) (vtop 4 k) _ (k0_pay175 (View.readAt (Elt F) arg7.view (Rect.unit (s := S16x512x256) (k0_off13 ⟨k.val, hk⟩) S1x64x256.size (k0_off13_inb i ⟨k.val, hk⟩ hc1)).toLoadRect X7)) rfl
  rw [← d2, ← d3]
  all_goals rfl

theorem fill6 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 5 (pb_k0_t6 (F := F) Variants.none c none i arg3 harg3 arg4 harg4 arg5 harg5 arg6 harg6 arg7 harg7 arg8 harg8 arg9 harg9 arg10 harg10 hc1 (k0_pay3 (F := F)) 0#32 1#32 X7 (Scf.trips k0_t6_loop.lb k0_t6_loop.ub k0_t6_loop.st)) := by
  have ht : k0_t6_loop.trips = 16 := by decide +kernel
  show Fills _ _ (pb_k0_t6 (F := F) Variants.none c none i arg3 harg3 arg4 harg4 arg5 harg5 arg6 harg6 arg7 harg7 arg8 harg8 arg9 harg9 arg10 harg10 hc1 (k0_pay3 (F := F)) 0#32 1#32 X7 k0_t6_loop.trips)
  rw [ht]
  refine fills_of _ 5 (fun n => pb_k0_t6 (F := F) Variants.none c none i arg3 harg3 arg4 harg4 arg5 harg5 arg6 harg6 arg7 harg7 arg8 harg8 arg9 harg9 arg10 harg10 hc1 (k0_pay3 (F := F)) 0#32 1#32 X7 n) rfl fun k => ?_
  have hk : k.val < k0_t6_loop.trips := by rw [ht]; exact k.isLt
  refine (pb_k0_t6_succ (F := F) Variants.none c none i arg3 harg3 arg4 harg4 arg5 harg5 arg6 harg6 arg7 harg7 arg8 harg8 arg9 harg9 arg10 harg10 hc1 (k0_pay3 (F := F)) 0#32 1#32 X7 ⟨k.val, hk⟩).trans ?_
  congr 1
  unfold tripL_k0_t6 trip_k0_t6 vpieces
  have e1 : VecWindow.window (arg7.view.read (Elt F) X7) ![k.val, 64 * (5 : Fin 8).val, 0] S1x64x256.size (vwin 5 k) = View.readAt (Elt F) arg7.view (Rect.unit (s := S16x512x256) (k0_off16 ⟨k.val, hk⟩) S1x64x256.size (k0_off16_inb i ⟨k.val, hk⟩ hc1)).toLoadRect X7 :=
    (View.readAt_unit arg7.view X7 (k0_off16_inb i ⟨k.val, hk⟩ hc1) (k0_off16_eq ⟨k.val, hk⟩) (vwin 5 k)).symm
  have e2 : k0_off18 ⟨k.val, hk⟩ = ![(5 : Fin 8).val, k.val, 64, 0] := k0_off18_eq ⟨k.val, hk⟩
  have e3 : k0_off17 ⟨k.val, hk⟩ = ![(5 : Fin 8).val, k.val, 0, 0] := k0_off17_eq ⟨k.val, hk⟩
  rw [e1]
  have d2 := piece_off (F := F) (s := S8x16x128x256) (e := .bf16) e2 S1x1x64x256.size (k0_off18_inb i ⟨k.val, hk⟩ hc1) (vbot 5 k) _ (k0_pay176 (k0_pay3 (F := F))) rfl
  have d3 := piece_off (F := F) (s := S8x16x128x256) (e := .bf16) e3 S1x1x64x256.size (k0_off17_inb i ⟨k.val, hk⟩ hc1) (vtop 5 k) _ (k0_pay175 (View.readAt (Elt F) arg7.view (Rect.unit (s := S16x512x256) (k0_off16 ⟨k.val, hk⟩) S1x64x256.size (k0_off16_inb i ⟨k.val, hk⟩ hc1)).toLoadRect X7)) rfl
  rw [← d2, ← d3]
  all_goals rfl

theorem fill7 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 6 (pb_k0_t7 (F := F) Variants.none c none i arg3 harg3 arg4 harg4 arg5 harg5 arg6 harg6 arg7 harg7 arg8 harg8 arg9 harg9 arg10 harg10 hc1 (k0_pay3 (F := F)) X7 (Scf.trips k0_t7_loop.lb k0_t7_loop.ub k0_t7_loop.st)) := by
  have ht : k0_t7_loop.trips = 16 := by decide +kernel
  show Fills _ _ (pb_k0_t7 (F := F) Variants.none c none i arg3 harg3 arg4 harg4 arg5 harg5 arg6 harg6 arg7 harg7 arg8 harg8 arg9 harg9 arg10 harg10 hc1 (k0_pay3 (F := F)) X7 k0_t7_loop.trips)
  rw [ht]
  refine fills_of _ 6 (fun n => pb_k0_t7 (F := F) Variants.none c none i arg3 harg3 arg4 harg4 arg5 harg5 arg6 harg6 arg7 harg7 arg8 harg8 arg9 harg9 arg10 harg10 hc1 (k0_pay3 (F := F)) X7 n) rfl fun k => ?_
  have hk : k.val < k0_t7_loop.trips := by rw [ht]; exact k.isLt
  refine (pb_k0_t7_succ (F := F) Variants.none c none i arg3 harg3 arg4 harg4 arg5 harg5 arg6 harg6 arg7 harg7 arg8 harg8 arg9 harg9 arg10 harg10 hc1 (k0_pay3 (F := F)) X7 ⟨k.val, hk⟩).trans ?_
  congr 1
  unfold tripL_k0_t7 trip_k0_t7 vpieces
  have e1 : VecWindow.window (arg7.view.read (Elt F) X7) ![k.val, 64 * (6 : Fin 8).val, 0] S1x64x256.size (vwin 6 k) = View.readAt (Elt F) arg7.view (Rect.unit (s := S16x512x256) (k0_off19 ⟨k.val, hk⟩) S1x64x256.size (k0_off19_inb i ⟨k.val, hk⟩ hc1)).toLoadRect X7 :=
    (View.readAt_unit arg7.view X7 (k0_off19_inb i ⟨k.val, hk⟩ hc1) (k0_off19_eq ⟨k.val, hk⟩) (vwin 6 k)).symm
  have e2 : k0_off21 ⟨k.val, hk⟩ = ![(6 : Fin 8).val, k.val, 64, 0] := k0_off21_eq ⟨k.val, hk⟩
  have e3 : k0_off20 ⟨k.val, hk⟩ = ![(6 : Fin 8).val, k.val, 0, 0] := k0_off20_eq ⟨k.val, hk⟩
  rw [e1]
  have d2 := piece_off (F := F) (s := S8x16x128x256) (e := .bf16) e2 S1x1x64x256.size (k0_off21_inb i ⟨k.val, hk⟩ hc1) (vbot 6 k) _ (k0_pay176 (k0_pay3 (F := F))) rfl
  have d3 := piece_off (F := F) (s := S8x16x128x256) (e := .bf16) e3 S1x1x64x256.size (k0_off20_inb i ⟨k.val, hk⟩ hc1) (vtop 6 k) _ (k0_pay175 (View.readAt (Elt F) arg7.view (Rect.unit (s := S16x512x256) (k0_off19 ⟨k.val, hk⟩) S1x64x256.size (k0_off19_inb i ⟨k.val, hk⟩ hc1)).toLoadRect X7)) rfl
  rw [← d2, ← d3]
  all_goals rfl

theorem fill8 (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1) (X7 : BufTy.Contents (Elt F) arg7.view.ty) :
    Fills (arg7.view.read (Elt F) X7) 7 (pb_k0_t8 (F := F) Variants.none c none i arg3 harg3 arg4 harg4 arg5 harg5 arg6 harg6 arg7 harg7 arg8 harg8 arg9 harg9 arg10 harg10 hc1 (k0_pay3 (F := F)) X7 (Scf.trips k0_t8_loop.lb k0_t8_loop.ub k0_t8_loop.st)) := by
  have ht : k0_t8_loop.trips = 16 := by decide +kernel
  show Fills _ _ (pb_k0_t8 (F := F) Variants.none c none i arg3 harg3 arg4 harg4 arg5 harg5 arg6 harg6 arg7 harg7 arg8 harg8 arg9 harg9 arg10 harg10 hc1 (k0_pay3 (F := F)) X7 k0_t8_loop.trips)
  rw [ht]
  refine fills_of _ 7 (fun n => pb_k0_t8 (F := F) Variants.none c none i arg3 harg3 arg4 harg4 arg5 harg5 arg6 harg6 arg7 harg7 arg8 harg8 arg9 harg9 arg10 harg10 hc1 (k0_pay3 (F := F)) X7 n) rfl fun k => ?_
  have hk : k.val < k0_t8_loop.trips := by rw [ht]; exact k.isLt
  refine (pb_k0_t8_succ (F := F) Variants.none c none i arg3 harg3 arg4 harg4 arg5 harg5 arg6 harg6 arg7 harg7 arg8 harg8 arg9 harg9 arg10 harg10 hc1 (k0_pay3 (F := F)) X7 ⟨k.val, hk⟩).trans ?_
  congr 1
  unfold tripL_k0_t8 trip_k0_t8 vpieces
  have e1 : VecWindow.window (arg7.view.read (Elt F) X7) ![k.val, 64 * (7 : Fin 8).val, 0] S1x64x256.size (vwin 7 k) = View.readAt (Elt F) arg7.view (Rect.unit (s := S16x512x256) (k0_off22 ⟨k.val, hk⟩) S1x64x256.size (k0_off22_inb i ⟨k.val, hk⟩ hc1)).toLoadRect X7 :=
    (View.readAt_unit arg7.view X7 (k0_off22_inb i ⟨k.val, hk⟩ hc1) (k0_off22_eq ⟨k.val, hk⟩) (vwin 7 k)).symm
  have e2 : k0_off24 ⟨k.val, hk⟩ = ![(7 : Fin 8).val, k.val, 64, 0] := k0_off24_eq ⟨k.val, hk⟩
  have e3 : k0_off23 ⟨k.val, hk⟩ = ![(7 : Fin 8).val, k.val, 0, 0] := k0_off23_eq ⟨k.val, hk⟩
  rw [e1]
  have d2 := piece_off (F := F) (s := S8x16x128x256) (e := .bf16) e2 S1x1x64x256.size (k0_off24_inb i ⟨k.val, hk⟩ hc1) (vbot 7 k) _ (k0_pay176 (k0_pay3 (F := F))) rfl
  have d3 := piece_off (F := F) (s := S8x16x128x256) (e := .bf16) e3 S1x1x64x256.size (k0_off23_inb i ⟨k.val, hk⟩ hc1) (vtop 7 k) _ (k0_pay175 (View.readAt (Elt F) arg7.view (Rect.unit (s := S16x512x256) (k0_off22 ⟨k.val, hk⟩) S1x64x256.size (k0_off22_inb i ⟨k.val, hk⟩ hc1)).toLoadRect X7)) rfl
  rw [← d2, ← d3]
  all_goals rfl

end Cert.KernelIdeal.Fox

end
-- ==== Proof.Start.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Fill
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The stores of the eight heads' loops together hold the value scratch. -/
theorem fills_all (x4 : Vec F S16x512x256 .bf16) (L : Fin 8 → List (View.Piece (Elt F) S8x16x128x256 .bf16)) (hL : ∀ h, Fills x4 h (L h))
    (v : View sig .tc .vmem S8x16x128x256 .bf16) (f : BufTy.Contents (Elt F) v.ty) :
    v.read (Elt F) (v.writes (Elt F) f (L 7 ++ (L 6 ++ (L 5 ++ (L 4 ++ (L 3 ++ (L 2 ++ (L 1 ++ L 0)))))))) = vaug x4 := by
  funext y
  refine View.read_writes_apply_of_pieces v f (vaug x4) _ ?_ y ?_
  · intro p hp
    simp only [List.mem_append] at hp
    rcases hp with hp | hp | hp | hp | hp | hp | hp | hp
    exacts [(hL _).1 p hp, (hL _).1 p hp, (hL _).1 p hp, (hL _).1 p hp, (hL _).1 p hp, (hL _).1 p hp, (hL _).1 p hp, (hL _).1 p hp]
  · obtain ⟨p, hp, hm⟩ := (hL ⟨(y 0).val, (y 0).isLt⟩).2 y rfl
    refine ⟨p, ?_, hm⟩
    generalize (⟨(y 0).val, (y 0).isLt⟩ : Fin 8) = h at hp
    simp only [List.mem_append]
    fin_cases h
    exacts [.inr (.inr (.inr (.inr (.inr (.inr (.inr hp)))))), .inr (.inr (.inr (.inr (.inr (.inr (.inl hp)))))), .inr (.inr (.inr (.inr (.inr (.inl hp))))),
      .inr (.inr (.inr (.inr (.inl hp)))), .inr (.inr (.inr (.inl hp))), .inr (.inr (.inl hp)), .inr (.inl hp), .inl hp]

set_option maxHeartbeats 4000000 in
/-- Past the first query block the scratch is left as it was. -/
theorem run28B (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : ¬ k0_cond1 i = 1#1)
    (x0 : Vec F S1x512x256 .bf16) (x1 : Vec F S1x512x256 .bf16) (x2 : Vec F S4096x512 .bf16) (x3 : Vec F S4096x512 .bf16) (x4 : Vec F S16x512x256 .bf16) (x9 : Vec F S8x4096x128 .bf16) (x10 : Vec F S8x16x128x256 .bf16) (E : Set ℕ) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare x9 ∗ owns (c : Thread nD τ) arg10 fullShare x10) : sProp 𝕄)
    ⊢ wp frame (wpE (defs₀ (F := F)) Variants.none c none) E (k0_part28 i arg3 harg3 arg4 harg4 arg5 harg5 arg6 harg6 arg7 harg7 arg8 harg8 arg9 harg9 arg10 harg10)
      (fun r => iprop(⌜r = (⟨BitVec.ofNat 32 (i 2).val, qh x0 x1 0, qh x0 x1 1, qh x0 x1 2, qh x0 x1 3, k0_pay181 (qrows x0 4)⟩ : (Σ' (arg2 : BitVec 32) (v7 : FVec F S128x256 .bf16) (v12 : FVec F S128x256 .bf16) (v17 : FVec F S128x256 .bf16) (v22 : FVec F S128x256 .bf16), FVec F S64x256 .bf16))⌝ ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare x9 ∗ owns (c : Thread nD τ) arg10 fullShare x10)) := by
  unfold owns
  iintro ⟨⟨%f0, %hf0, H0⟩, ⟨%f1, %hf1, H1⟩, ⟨%f2, %hf2, H2⟩, ⟨%f3, %hf3, H3⟩, ⟨%f4, %hf4, H4⟩, HS0, HS1⟩
  obtain rfl := harg3.eq_unread hf0; obtain rfl := harg4.eq_unread hf1; obtain rfl := harg5.eq_unread hf2; obtain rfl := harg6.eq_unread hf3; obtain rfl := harg7.eq_unread hf4
  simp only [k0_part28_eq_skeleton]; unfold k0_part28_skel
  simp only [k0_part1_eq_skeleton, k0_part2_eq_skeleton, k0_part3_eq_skeleton]
  sl_exec (disch := sl_exact hc1)
  sl_step
  isplitr
  · ipureintro
    unfold qh
    rw [ldq arg3 harg3 x0 0 ![0, 0, 0] inb_S1x512x256_S1x64x256_0_0_0 rfl, ldq arg4 harg4 x1 0 ![0, 0, 0] inb_S1x512x256_S1x64x256_0_0_0 rfl,
      ldq arg3 harg3 x0 1 ![0, 64, 0] inb_S1x512x256_S1x64x256_0_64_0 rfl, ldq arg4 harg4 x1 1 ![0, 64, 0] inb_S1x512x256_S1x64x256_0_64_0 rfl,
      ldq arg3 harg3 x0 2 ![0, 128, 0] inb_S1x512x256_S1x64x256_0_128_0 rfl, ldq arg4 harg4 x1 2 ![0, 128, 0] inb_S1x512x256_S1x64x256_0_128_0 rfl,
      ldq arg3 harg3 x0 3 ![0, 192, 0] inb_S1x512x256_S1x64x256_0_192_0 rfl, ldq arg4 harg4 x1 3 ![0, 192, 0] inb_S1x512x256_S1x64x256_0_192_0 rfl,
      ldq arg3 harg3 x0 4 ![0, 256, 0] inb_S1x512x256_S1x64x256_0_256_0 rfl]
    rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]; · iexact HS0
  iexact HS1

set_option maxHeartbeats 4000000 in
/-- At the first query block the scratch is filled from the keys, the gate's features and the values. -/
theorem run28A (c : Dev nD) (i : grid0.Coords) (arg3 : Memref sig .tc .vmem S1x512x256 .bf16) (harg3 : arg3.IsWhole) (arg4 : Memref sig .tc .vmem S1x512x256 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S16x512x256 .bf16) (harg7 : arg7.IsWhole) (arg8 : Memref sig .tc .vmem S256x512 .bf16) (harg8 : arg8.IsWhole) (arg9 : Memref sig .tc .vmem S8x4096x128 .bf16) (harg9 : arg9.IsWhole) (arg10 : Memref sig .tc .vmem S8x16x128x256 .bf16) (harg10 : arg10.IsWhole) (hc1 : k0_cond1 i = 1#1)
    (x0 : Vec F S1x512x256 .bf16) (x1 : Vec F S1x512x256 .bf16) (x2 : Vec F S4096x512 .bf16) (x3 : Vec F S4096x512 .bf16) (x4 : Vec F S16x512x256 .bf16) (E : Set ℕ) :
    (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ x, owns (c : Thread nD τ) arg9 fullShare x) ∗ (∃ x, owns (c : Thread nD τ) arg10 fullShare x)) : sProp 𝕄)
    ⊢ wp frame (wpE (defs₀ (F := F)) Variants.none c none) E (k0_part28 i arg3 harg3 arg4 harg4 arg5 harg5 arg6 harg6 arg7 harg7 arg8 harg8 arg9 harg9 arg10 harg10)
      (fun r => iprop(⌜r = (⟨BitVec.ofNat 32 (i 2).val, qh x0 x1 0, qh x0 x1 1, qh x0 x1 2, qh x0 x1 3, k0_pay181 (qrows x0 4)⟩ : (Σ' (arg2 : BitVec 32) (v7 : FVec F S128x256 .bf16) (v12 : FVec F S128x256 .bf16) (v17 : FVec F S128x256 .bf16) (v22 : FVec F S128x256 .bf16), FVec F S64x256 .bf16))⌝ ∗ owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg9 fullShare (kaug x2 x3) ∗ owns (c : Thread nD τ) arg10 fullShare (vaug x4))) := by
  unfold owns
  iintro ⟨⟨%f0, %hf0, H0⟩, ⟨%f1, %hf1, H1⟩, ⟨%f2, %hf2, H2⟩, ⟨%f3, %hf3, H3⟩, ⟨%f4, %hf4, H4⟩, ⟨%d9, %X9, -, HS0⟩, ⟨%d10, %X10, -, HS1⟩⟩
  obtain rfl := harg3.eq_unread hf0; obtain rfl := harg4.eq_unread hf1; obtain rfl := harg5.eq_unread hf2; obtain rfl := harg6.eq_unread hf3; obtain rfl := harg7.eq_unread hf4
  simp only [k0_part28_eq_skeleton]; unfold k0_part28_skel
  simp only [k0_part1_eq_skeleton, k0_part2_eq_skeleton, k0_part3_eq_skeleton]
  sl_exec (disch := sl_exact hc1)
  sl_step
  isplitr
  · ipureintro
    unfold qh
    rw [ldq arg3 harg3 x0 0 ![0, 0, 0] inb_S1x512x256_S1x64x256_0_0_0 rfl, ldq arg4 harg4 x1 0 ![0, 0, 0] inb_S1x512x256_S1x64x256_0_0_0 rfl,
      ldq arg3 harg3 x0 1 ![0, 64, 0] inb_S1x512x256_S1x64x256_0_64_0 rfl, ldq arg4 harg4 x1 1 ![0, 64, 0] inb_S1x512x256_S1x64x256_0_64_0 rfl,
      ldq arg3 harg3 x0 2 ![0, 128, 0] inb_S1x512x256_S1x64x256_0_128_0 rfl, ldq arg4 harg4 x1 2 ![0, 128, 0] inb_S1x512x256_S1x64x256_0_128_0 rfl,
      ldq arg3 harg3 x0 3 ![0, 192, 0] inb_S1x512x256_S1x64x256_0_192_0 rfl, ldq arg4 harg4 x1 3 ![0, 192, 0] inb_S1x512x256_S1x64x256_0_192_0 rfl,
      ldq arg3 harg3 x0 4 ![0, 256, 0] inb_S1x512x256_S1x64x256_0_256_0 rfl]
    rfl
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HS0]
  · iexists _; isplitr; swap; · iexact HS0
    ipureintro
    funext y
    refine View.read_writes_apply_of_pieces arg9.view _ (kaug x2 x3) _ ?_ y ?_
    · sl_unfold_words
      refine List.forall_mem_cons.mpr ⟨kpieceR 7 x2 x3 arg6 harg6 _ rfl _ _ rfl inb_S8x4096x128_S1x4096x64_7_0_64, ?_⟩
      refine List.forall_mem_cons.mpr ⟨kpieceL 7 x2 x3 arg5 harg5 _ rfl _ _ rfl inb_S8x4096x128_S1x4096x64_7_0_0, ?_⟩
      refine List.forall_mem_cons.mpr ⟨kpieceR 6 x2 x3 arg6 harg6 _ rfl _ _ rfl inb_S8x4096x128_S1x4096x64_6_0_64, ?_⟩
      refine List.forall_mem_cons.mpr ⟨kpieceL 6 x2 x3 arg5 harg5 _ rfl _ _ rfl inb_S8x4096x128_S1x4096x64_6_0_0, ?_⟩
      refine List.forall_mem_cons.mpr ⟨kpieceR 5 x2 x3 arg6 harg6 _ rfl _ _ rfl inb_S8x4096x128_S1x4096x64_5_0_64, ?_⟩
      refine List.forall_mem_cons.mpr ⟨kpieceL 5 x2 x3 arg5 harg5 _ rfl _ _ rfl inb_S8x4096x128_S1x4096x64_5_0_0, ?_⟩
      refine List.forall_mem_cons.mpr ⟨kpieceR 4 x2 x3 arg6 harg6 _ rfl _ _ rfl inb_S8x4096x128_S1x4096x64_4_0_64, ?_⟩
      refine List.forall_mem_cons.mpr ⟨kpieceL 4 x2 x3 arg5 harg5 _ rfl _ _ rfl inb_S8x4096x128_S1x4096x64_4_0_0, ?_⟩
      refine List.forall_mem_cons.mpr ⟨kpieceR 3 x2 x3 arg6 harg6 _ rfl _ _ rfl inb_S8x4096x128_S1x4096x64_3_0_64, ?_⟩
      refine List.forall_mem_cons.mpr ⟨kpieceL 3 x2 x3 arg5 harg5 _ rfl _ _ rfl inb_S8x4096x128_S1x4096x64_3_0_0, ?_⟩
      refine List.forall_mem_cons.mpr ⟨kpieceR 2 x2 x3 arg6 harg6 _ rfl _ _ rfl inb_S8x4096x128_S1x4096x64_2_0_64, ?_⟩
      refine List.forall_mem_cons.mpr ⟨kpieceL 2 x2 x3 arg5 harg5 _ rfl _ _ rfl inb_S8x4096x128_S1x4096x64_2_0_0, ?_⟩
      refine List.forall_mem_cons.mpr ⟨kpieceR 1 x2 x3 arg6 harg6 _ rfl _ _ rfl inb_S8x4096x128_S1x4096x64_1_0_64, ?_⟩
      refine List.forall_mem_cons.mpr ⟨kpieceL 1 x2 x3 arg5 harg5 _ rfl _ _ rfl inb_S8x4096x128_S1x4096x64_1_0_0, ?_⟩
      refine List.forall_mem_cons.mpr ⟨kpieceR 0 x2 x3 arg6 harg6 _ rfl _ _ rfl inb_S8x4096x128_S1x4096x64_0_0_64, ?_⟩
      refine List.forall_mem_cons.mpr ⟨kpieceL 0 x2 x3 arg5 harg5 _ rfl _ _ rfl inb_S8x4096x128_S1x4096x64_0_0_0, ?_⟩
      exact fun p hp => absurd hp List.not_mem_nil
    · exact View.cover_of_tiled (s := S8x4096x128) _ S1x4096x64.size (by rfl) y
  · iexists _; isplitr; swap; · iexact HS1
    ipureintro
    refine Eq.trans ?_ (congrArg vaug (harg7.read_unread x4))
    exact fills_all _ (fun h => match h with
      | ⟨0, _⟩ => pb_k0_t1 (F := F) Variants.none c none i arg3 harg3 arg4 harg4 arg5 harg5 arg6 harg6 arg7 harg7 arg8 harg8 arg9 harg9 arg10 harg10 hc1  (harg7.unread x4) (Scf.trips k0_t1_loop.lb k0_t1_loop.ub k0_t1_loop.st)
      | ⟨1, _⟩ => pb_k0_t2 (F := F) Variants.none c none i arg3 harg3 arg4 harg4 arg5 harg5 arg6 harg6 arg7 harg7 arg8 harg8 arg9 harg9 arg10 harg10 hc1 (k0_pay3 (F := F)) (harg7.unread x4) (Scf.trips k0_t2_loop.lb k0_t2_loop.ub k0_t2_loop.st)
      | ⟨2, _⟩ => pb_k0_t3 (F := F) Variants.none c none i arg3 harg3 arg4 harg4 arg5 harg5 arg6 harg6 arg7 harg7 arg8 harg8 arg9 harg9 arg10 harg10 hc1 (k0_pay3 (F := F)) (harg7.unread x4) (Scf.trips k0_t3_loop.lb k0_t3_loop.ub k0_t3_loop.st)
      | ⟨3, _⟩ => pb_k0_t4 (F := F) Variants.none c none i arg3 harg3 arg4 harg4 arg5 harg5 arg6 harg6 arg7 harg7 arg8 harg8 arg9 harg9 arg10 harg10 hc1 (k0_pay3 (F := F)) 0#32 1#32 (harg7.unread x4) (Scf.trips k0_t4_loop.lb k0_t4_loop.ub k0_t4_loop.st)
      | ⟨4, _⟩ => pb_k0_t5 (F := F) Variants.none c none i arg3 harg3 arg4 harg4 arg5 harg5 arg6 harg6 arg7 harg7 arg8 harg8 arg9 harg9 arg10 harg10 hc1 (k0_pay3 (F := F)) 0#32 1#32 (harg7.unread x4) (Scf.trips k0_t5_loop.lb k0_t5_loop.ub k0_t5_loop.st)
      | ⟨5, _⟩ => pb_k0_t6 (F := F) Variants.none c none i arg3 harg3 arg4 harg4 arg5 harg5 arg6 harg6 arg7 harg7 arg8 harg8 arg9 harg9 arg10 harg10 hc1 (k0_pay3 (F := F)) 0#32 1#32 (harg7.unread x4) (Scf.trips k0_t6_loop.lb k0_t6_loop.ub k0_t6_loop.st)
      | ⟨6, _⟩ => pb_k0_t7 (F := F) Variants.none c none i arg3 harg3 arg4 harg4 arg5 harg5 arg6 harg6 arg7 harg7 arg8 harg8 arg9 harg9 arg10 harg10 hc1 (k0_pay3 (F := F)) (harg7.unread x4) (Scf.trips k0_t7_loop.lb k0_t7_loop.ub k0_t7_loop.st)
      | ⟨7, _⟩ => pb_k0_t8 (F := F) Variants.none c none i arg3 harg3 arg4 harg4 arg5 harg5 arg6 harg6 arg7 harg7 arg8 harg8 arg9 harg9 arg10 harg10 hc1 (k0_pay3 (F := F)) (harg7.unread x4) (Scf.trips k0_t8_loop.lb k0_t8_loop.ub k0_t8_loop.st))
      (fun h => match h with
      | ⟨0, _⟩ => fill1 c i arg3 harg3 arg4 harg4 arg5 harg5 arg6 harg6 arg7 harg7 arg8 harg8 arg9 harg9 arg10 harg10 hc1 _
      | ⟨1, _⟩ => fill2 c i arg3 harg3 arg4 harg4 arg5 harg5 arg6 harg6 arg7 harg7 arg8 harg8 arg9 harg9 arg10 harg10 hc1 _
      | ⟨2, _⟩ => fill3 c i arg3 harg3 arg4 harg4 arg5 harg5 arg6 harg6 arg7 harg7 arg8 harg8 arg9 harg9 arg10 harg10 hc1 _
      | ⟨3, _⟩ => fill4 c i arg3 harg3 arg4 harg4 arg5 harg5 arg6 harg6 arg7 harg7 arg8 harg8 arg9 harg9 arg10 harg10 hc1 _
      | ⟨4, _⟩ => fill5 c i arg3 harg3 arg4 harg4 arg5 harg5 arg6 harg6 arg7 harg7 arg8 harg8 arg9 harg9 arg10 harg10 hc1 _
      | ⟨5, _⟩ => fill6 c i arg3 harg3 arg4 harg4 arg5 harg5 arg6 harg6 arg7 harg7 arg8 harg8 arg9 harg9 arg10 harg10 hc1 _
      | ⟨6, _⟩ => fill7 c i arg3 harg3 arg4 harg4 arg5 harg5 arg6 harg6 arg7 harg7 arg8 harg8 arg9 harg9 arg10 harg10 hc1 _
      | ⟨7, _⟩ => fill8 c i arg3 harg3 arg4 harg4 arg5 harg5 arg6 harg6 arg7 harg7 arg8 harg8 arg9 harg9 arg10 harg10 hc1 _) _ _

end Cert.KernelIdeal.Fox

end
-- ==== Proof.Launch.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.Start
public import Idealize.ShloMosaic.Lib.Claim
@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The staging buffer window 0 uses at a point. -/
abbrev ms0_0 (t : Fin cfg0.N) : Memref sig .tc .vmem S1x512x256 .bf16 := win0_0.stage (cfg0.slots t 0)
/-- The staging buffer window 1 uses at a point. -/
abbrev ms0_1 (t : Fin cfg0.N) : Memref sig .tc .vmem S1x512x256 .bf16 := win0_1.stage (cfg0.slots t 1)
/-- The staging buffer window 2 uses at a point. -/
abbrev ms0_2 (t : Fin cfg0.N) : Memref sig .tc .vmem S4096x512 .bf16 := win0_2.stage (cfg0.slots t 2)
/-- The staging buffer window 3 uses at a point. -/
abbrev ms0_3 (t : Fin cfg0.N) : Memref sig .tc .vmem S4096x512 .bf16 := win0_3.stage (cfg0.slots t 3)
/-- The staging buffer window 4 uses at a point. -/
abbrev ms0_4 (t : Fin cfg0.N) : Memref sig .tc .vmem S16x512x256 .bf16 := win0_4.stage (cfg0.slots t 4)
/-- The staging buffer window 5 uses at a point. -/
abbrev ms0_5 (t : Fin cfg0.N) : Memref sig .tc .vmem S256x512 .bf16 := win0_5.stage (cfg0.slots t 5)
/-- The key scratch and the value scratch, as whole buffers. -/
abbrev scM0_0 : Memref sig .tc .vmem S8x4096x128 .bf16 := Memref.whole cc0_scratch0
abbrev scM0_1 : Memref sig .tc .vmem S8x16x128x256 .bf16 := Memref.whole cc0_scratch1

/-- What the kernel may keep between points, with nothing said of it: the two scratch buffers at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The five input blocks of a point, at their plain shapes. -/
def blk0 (c : Dev nD) (t : Fin cfg0.N) : Vec F S1x512x256 .bf16 := iblk m c 0 t
def blk1 (c : Dev nD) (t : Fin cfg0.N) : Vec F S1x512x256 .bf16 := iblk m c 1 t
def blk2 (c : Dev nD) (t : Fin cfg0.N) : Vec F S4096x512 .bf16 := iblk m c 2 t
def blk3 (c : Dev nD) (t : Fin cfg0.N) : Vec F S4096x512 .bf16 := iblk m c 3 t
def blk4 (c : Dev nD) (t : Fin cfg0.N) : Vec F S16x512x256 .bf16 := iblk m c 4 t

/-- The two scratch buffers as the points of one batch and head group see them. -/
def scr (c : Dev nD) (t : Fin cfg0.N) : sProp 𝕄 :=
  iprop(iprop(owns (c : Thread nD τ) scM0_0 fullShare (kaug (blk2 m c t) (blk3 m c t)) ∗ owns (c : Thread nD τ) scM0_1 fullShare (vaug (blk4 m c t)))
    ∗ (∃ r, prngReg c r))

/-- What is kept before the point numbered n: nothing is known before the first one, and afterwards the two scratch
    buffers hold the previous point's keys and values. -/
def PhiS (c : Dev nD) : (n : ℕ) → n ≤ cfg0.N → sProp 𝕄
  | 0, _ => Pipeline.ΦA spec0 c
  | n + 1, h => scr m c ⟨n, h⟩

/-- The block the kernel leaves in the output window at a point. -/
def outAt (c : Dev nD) (t : Fin cfg0.N) : Vec F S256x512 .bf16 :=
  outBlk (grid0.coords t) (blk0 m c t) (blk1 m c t) (kaug (blk2 m c t) (blk3 m c t)) (vaug (blk4 m c t))

/-- What each window holds after each point, and what is kept between points. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => outAt m c t
  Φ t := PhiS m c t.val (Nat.le_of_lt_succ t.isLt)
  q _ := fullShare
  owed _ := 0

/-- The arrays start at what the host operations left in them. -/
theorem A_eq (c : Dev nD) (w : Fin cfg0.W) : (dats m 0 c).A w = V m c (Pipeline.arrRef spec0 w) := by
  dsimp only [dats]

/-- What each window holds after a point. -/
theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = blk2 m c t := by dsimp only [dats]
theorem after0_3 (c : Dev nD) (t : Fin cfg0.N) : (dats m 0 c).after 3 t = blk3 m c t := by dsimp only [dats]
theorem after0_4 (c : Dev nD) (t : Fin cfg0.N) : (dats m 0 c).after 4 t = blk4 m c t := by dsimp only [dats]
theorem after0_5 (c : Dev nD) (t : Fin cfg0.N) : (dats m 0 c).after 5 t = outAt m c t := by dsimp only [dats]

/-- Each input window holds its block when a point starts. -/
theorem before0_0 (c : Dev nD) (t : Fin cfg0.N) (d) : (dats m 0 c).before 0 t d = blk0 m c t :=
  before0_0_of m (dats m 0 c) (A_eq m c 0) (after0_0 m c) t d
theorem before0_1 (c : Dev nD) (t : Fin cfg0.N) (d) : (dats m 0 c).before 1 t d = blk1 m c t :=
  before0_1_of m (dats m 0 c) (A_eq m c 1) (after0_1 m c) t d
theorem before0_2 (c : Dev nD) (t : Fin cfg0.N) (d) : (dats m 0 c).before 2 t d = blk2 m c t :=
  before0_2_of m (dats m 0 c) (A_eq m c 2) (after0_2 m c) t d
theorem before0_3 (c : Dev nD) (t : Fin cfg0.N) (d) : (dats m 0 c).before 3 t d = blk3 m c t :=
  before0_3_of m (dats m 0 c) (A_eq m c 3) (after0_3 m c) t d
theorem before0_4 (c : Dev nD) (t : Fin cfg0.N) (d) : (dats m 0 c).before 4 t d = blk4 m c t :=
  before0_4_of m (dats m 0 c) (A_eq m c 4) (after0_4 m c) t d

/-- Inside one batch and head group the key, key feature and value blocks are those of the point before. -/
theorem blk2_prev (c : Dev nD) (n : ℕ) (h : n + 1 < cfg0.N) (hn : ¬ (n + 1) % 16 = 0) :
    blk2 m c ⟨n + 1, h⟩ = blk2 m c ⟨n, Nat.lt_of_succ_lt h⟩ := by
  have hf : (cfg0.win 2).fetch ⟨n + 1, h⟩ = false := by
    rw [← Bool.not_eq_true]; exact fun e => hn ((fetch0_2 ⟨n + 1, h⟩).mp e)
  have hix := ((cfg0.win 2).index_eq_of_fetch rfl ⟨n + 1, h⟩ hf).2
  have e := (dats m 0 c).fetched_congr 2 (t := ⟨n + 1, h⟩) (t' := ⟨n, Nat.lt_of_succ_lt h⟩) hix rfl (blk2 m c ⟨n, Nat.lt_of_succ_lt h⟩)
  have g : ∀ t : Fin cfg0.N, ∀ d, (dats m 0 c).fetched 2 t d = blk2 m c t := fun t d => by
    unfold blk2
    unfold Dat.fetched Dat.blockOf iblk; rw [A_eq]; try rfl
  rw [g, g] at e
  exact e
theorem blk3_prev (c : Dev nD) (n : ℕ) (h : n + 1 < cfg0.N) (hn : ¬ (n + 1) % 16 = 0) :
    blk3 m c ⟨n + 1, h⟩ = blk3 m c ⟨n, Nat.lt_of_succ_lt h⟩ := by
  have hf : (cfg0.win 3).fetch ⟨n + 1, h⟩ = false := by
    rw [← Bool.not_eq_true]; exact fun e => hn ((fetch0_3 ⟨n + 1, h⟩).mp e)
  have hix := ((cfg0.win 3).index_eq_of_fetch rfl ⟨n + 1, h⟩ hf).2
  have e := (dats m 0 c).fetched_congr 3 (t := ⟨n + 1, h⟩) (t' := ⟨n, Nat.lt_of_succ_lt h⟩) hix rfl (blk3 m c ⟨n, Nat.lt_of_succ_lt h⟩)
  have g : ∀ t : Fin cfg0.N, ∀ d, (dats m 0 c).fetched 3 t d = blk3 m c t := fun t d => by
    unfold blk3
    unfold Dat.fetched Dat.blockOf iblk; rw [A_eq]; try rfl
  rw [g, g] at e
  exact e
theorem blk4_prev (c : Dev nD) (n : ℕ) (h : n + 1 < cfg0.N) (hn : ¬ (n + 1) % 16 = 0) :
    blk4 m c ⟨n + 1, h⟩ = blk4 m c ⟨n, Nat.lt_of_succ_lt h⟩ := by
  have hf : (cfg0.win 4).fetch ⟨n + 1, h⟩ = false := by
    rw [← Bool.not_eq_true]; exact fun e => hn ((fetch0_4 ⟨n + 1, h⟩).mp e)
  have hix := ((cfg0.win 4).index_eq_of_fetch rfl ⟨n + 1, h⟩ hf).2
  have e := (dats m 0 c).fetched_congr 4 (t := ⟨n + 1, h⟩) (t' := ⟨n, Nat.lt_of_succ_lt h⟩) hix rfl (blk4 m c ⟨n, Nat.lt_of_succ_lt h⟩)
  have g : ∀ t : Fin cfg0.N, ∀ d, (dats m 0 c).fetched 4 t d = blk4 m c t := fun t d => by
    unfold blk4
    unfold Dat.fetched Dat.blockOf iblk; rw [A_eq]; try rfl
  rw [g, g] at e
  exact e

/-- Before any point the scratch buffers hold something. -/
theorem PhiS_any (c : Dev nD) (n : ℕ) (h : n ≤ cfg0.N) : PhiS m c n h ⊢ Pipeline.ΦA spec0 c := by
  cases n with
  | zero => exact .rfl
  | succ n =>
    rw [PhiA0_eq]
    show scr m c ⟨n, h⟩ ⊢ _
    unfold scr
    iintro ⟨⟨H0, H1⟩, Hg⟩
    isplitl [H0 H1]
    · isplitl [H0]
      · iexists _; iexact H0
      iexists _; iexact H1
    iexact Hg

/-- Inside one batch and head group the scratch buffers hold this point's own keys and values. -/
theorem PhiS_same (c : Dev nD) (t : Fin cfg0.N) (h : ¬ t.val % 16 = 0) : PhiS m c t.val (Nat.le_of_lt t.isLt) = scr m c t := by
  obtain ⟨n, ht⟩ := t
  cases n with
  | zero => exact absurd rfl h
  | succ n =>
    show scr m c ⟨n, _⟩ = _
    unfold scr
    rw [blk2_prev m c n ht h, blk3_prev m c n ht h, blk4_prev m c n ht h]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem Phi_succ (c : Dev nD) (t : Fin cfg0.N) : (dats m 0 c).Φ t.succ = scr m c t := by
  dsimp only [dats]; rfl

/-- The third grid coordinate of a point. -/
theorem coord2 (t : Fin cfg0.N) : (grid0.coords t 2).val = t.val % 16 := by
  have e2 : (grid0.coords t 2).val = t.val / 1 % 16 := Pipeline.Grid.coords_val t 2 (by decide) rfl
  rw [e2, Nat.div_one]

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the first of a batch and head group fills the scratch buffers, the others find them filled;
    the pending single block is there at the odd query blocks only. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [Phi_castSucc, Phi_succ,
    show (dats m 0 c).owesAt () t.succ = (dats m 0 c).owesAt () t.castSucc from rfl,
    after0_0, after0_1, after0_2, after0_3, after0_4, after0_5]
  by_cases h0 : t.val % 16 = 0
  · refine (sep_mono (PhiS_any m c _ _) .rfl).trans ?_
    rw [PhiA0_eq]
    unfold scr
    have hc1 : k0_cond1 (grid0.coords t) = 1#1 := (cond1_iff _).mpr ((coord2 t).trans h0)
    have hc2 : ¬ k0_cond2 (grid0.coords t) = 1#1 := fun h => by have := (cond2_iff _).mp h; rw [coord2] at this; omega
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((runEven c (grid0.coords t) _ _ _ _ _ _ _ _ _ _ _ _ _ _ _ _ hc2 (blk0 m c t) (blk1 m c t) (blk2 m c t) (blk3 m c t) (blk4 m c t)
      (kaug (blk2 m c t) (blk3 m c t)) (vaug (blk4 m c t)) _
      (fun E => run28A c (grid0.coords t) _ _ _ _ _ _ _ _ _ _ _ _ _ _ _ _ hc1 (blk0 m c t) (blk1 m c t) (blk2 m c t) (blk3 m c t) (blk4 m c t) E)) Set.univ _)
    isplitl [H0 H1 H2 H3 H4 HS0 HS1]
    · isplitl [H0]; · iexact H0
      isplitl [H1]; · iexact H1
      isplitl [H2]; · iexact H2
      isplitl [H3]; · iexact H3
      isplitl [H4]; · iexact H4
      isplitl [HS0]; · iexact HS0
      iexact HS1
    isplitl [H5]; · iexists _; iexact H5
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS_same m c t h0]
    unfold scr
    have hc1 : ¬ k0_cond1 (grid0.coords t) = 1#1 := fun h => h0 ((coord2 t).symm.trans ((cond1_iff _).mp h))
    by_cases h1 : t.val % 2 = 1
    · have hc2 : k0_cond2 (grid0.coords t) = 1#1 := (cond2_iff _).mpr (by rw [coord2]; omega)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runOdd c (grid0.coords t) _ _ _ _ _ _ _ _ _ _ _ _ _ _ _ _ hc2 (blk0 m c t) (blk1 m c t) (blk2 m c t) (blk3 m c t) (blk4 m c t)
        (kaug (blk2 m c t) (blk3 m c t)) (vaug (blk4 m c t)) _
        (fun E => run28B c (grid0.coords t) _ _ _ _ _ _ _ _ _ _ _ _ _ _ _ _ hc1 (blk0 m c t) (blk1 m c t) (blk2 m c t) (blk3 m c t) (blk4 m c t) _ _ E)) Set.univ _)
      isplitl [H0 H1 H2 H3 H4 HS0 HS1]
      · isplitl [H0]; · iexact H0
        isplitl [H1]; · iexact H1
        isplitl [H2]; · iexact H2
        isplitl [H3]; · iexact H3
        isplitl [H4]; · iexact H4
        isplitl [HS0]; · iexact HS0
        iexact HS1
      isplitl [H5]; · iexists _; iexact H5
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc2 : ¬ k0_cond2 (grid0.coords t) = 1#1 := fun h => by have := (cond2_iff _).mp h; rw [coord2] at this; omega
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((runEven c (grid0.coords t) _ _ _ _ _ _ _ _ _ _ _ _ _ _ _ _ hc2 (blk0 m c t) (blk1 m c t) (blk2 m c t) (blk3 m c t) (blk4 m c t)
        (kaug (blk2 m c t) (blk3 m c t)) (vaug (blk4 m c t)) _
        (fun E => run28B c (grid0.coords t) _ _ _ _ _ _ _ _ _ _ _ _ _ _ _ _ hc1 (blk0 m c t) (blk1 m c t) (blk2 m c t) (blk3 m c t) (blk4 m c t) _ _ E)) Set.univ _)
      isplitl [H0 H1 H2 H3 H4 HS0 HS1]
      · isplitl [H0]; · iexact H0
        isplitl [H1]; · iexact H1
        isplitl [H2]; · iexact H2
        isplitl [H3]; · iexact H3
        isplitl [H4]; · iexact H4
        isplitl [HS0]; · iexact HS0
        iexact HS1
      isplitl [H5]; · iexists _; iexact H5
      iintro ⟨H0, H1, H2, H3, H4, H5, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The pipeline calls the kernel's body at a point's own buffers. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: it ends with every input array as the host left it, the output array holding every point's block, and
    every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => by rw [show (dats m 0 c).Φ (Fin.last (cfgs 0).N) = PhiS m c (Fin.last cfg0.N).val (Nat.le_of_lt_succ (Fin.last cfg0.N).isLt) from by dsimp only [dats]]; exact PhiS_any m c _ _)

/-- The launch without the semaphores: what every array holds at the end. -/
theorem run_main : θ_run defs (onTc (τ := τ) (main (F := F))) (s₀ m ρ) (Pipeline.FramePost cfgs (dats m) 0 (V m)) :=
  (θ_run defs _ _).mono (fun _ h => h.1) (run_main_quiescent m ρ)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.KernelIdeal.Fox

end
-- ==== Proof.KernelFrame.lean ====
module

public import proofs.«01_k».proof.Defs
public import proofs.«01_k».proof.Proof.Launch
public import proofs.«01_k».proof.Proof.Gen.Kernel
public import Idealize.ShloMosaic.Lib.Claim
public import Idealize.ShloMosaic.Lib.Tactic

@[expose] public section

set_option maxRecDepth 16384

noncomputable section

namespace Cert.KernelIdeal.Fox

open Idealize.ShloMosaic Idealize.ShloMosaic.Tactic Idealize.SL.Sem

/-- A reading of the named constant at the machine's own floats: the pattern it replaced. -/
@[reducible] def bitsNamed : Named Bits := ⟨fun _ _ {_} bits => Scalar.ofBits _ bits⟩

/-- The kernel as printed ends with its arguments unchanged and every semaphore at zero: it is the text of the idealized
    kernel with the mask constant read as its own pattern. -/
theorem frame_kernel : Cert.quiescent_Kernel (hKernel := Cert.Kernel.Gen.facts) := by
  intro m g _
  letI := bitsNamed
  have h := frame (F := Bits) m g
  refine cast ?_ h
  sl_kernel_rfl

end Cert.KernelIdeal.Fox

end
-- ==== Proof.Soft.lean ====
/- Softmax-weighted sums over the extended reals: a sum taken a block of keys at a time, rescaled whenever the running
   maximum grows, is the sum taken at once; and dividing the sum is summing the divided weights. -/
module

public import Idealize.ShloMosaic.PureOps.Ideal
@[expose] public section

set_option maxRecDepth 16384

noncomputable section

namespace Cert.Soft

open Idealize.ShloMosaic
open scoped BigOperators

/-- A sum may be scaled term by term, when the factor is a nonnegative real. -/
theorem mul_sum {ι : Type} (S : Finset ι) (f : ι → EReal) {c : EReal} (h0 : 0 ≤ c) (ht : c ≠ ⊤) :
    c * ∑ j ∈ S, f j = ∑ j ∈ S, c * f j := by
  classical
  induction S using Finset.induction_on with
  | empty => simp
  | insert a S ha ih => rw [Finset.sum_insert ha, Finset.sum_insert ha, EReal.left_distrib_of_nonneg_of_ne_top h0 ht, ih]

/-- The sum of reals is the real sum. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- An exponential is never negative. -/
theorem exp_nonneg (x : EReal) : 0 ≤ Ideal.exp x := by
  induction x with
  | bot => simp
  | top => simp
  | coe r => rw [Ideal.exp_coe]; exact_mod_cast (Real.exp_pos r).le

/-- The exponential of a difference is finite when the difference is not positive. -/
theorem exp_sub_ne_top {x y : EReal} (h : x ≤ y) : Ideal.exp (x - y) ≠ ⊤ := by
  induction x with
  | bot => simp [EReal.bot_sub]
  | top =>
    rw [top_le_iff] at h
    subst h; decide
  | coe r =>
    induction y with
    | bot => simp at h
    | top => simp
    | coe s => rw [← EReal.coe_sub, Ideal.exp_coe]; exact EReal.coe_ne_top _

/-- Rescaling from one maximum to a greater one. -/
theorem exp_mul_exp {s m n : EReal} (h1 : s ≤ m) (h2 : m ≤ n) :
    Ideal.exp (m - n) * Ideal.exp (s - m) = Ideal.exp (s - n) := by
  induction n with
  | bot =>
    have hm : m = ⊥ := le_bot_iff.1 h2
    subst hm
    have hs : s = ⊥ := le_bot_iff.1 h1
    subst hs; simp [EReal.bot_sub]
  | top => simp [EReal.sub_top]
  | coe n =>
    induction m with
    | top => simp at h2
    | bot =>
      have hs : s = ⊥ := le_bot_iff.1 h1
      subst hs; simp [EReal.bot_sub]
    | coe m =>
      induction s with
      | top => simp at h1
      | bot => simp [EReal.bot_sub]
      | coe s =>
        rw [← EReal.coe_sub, ← EReal.coe_sub, ← EReal.coe_sub, Ideal.exp_coe, Ideal.exp_coe, Ideal.exp_coe, ← EReal.coe_mul, ← Real.exp_add]
        congr 2; ring

/-- The greatest of the first `n` scores. -/
def mx (s : ℕ → EReal) (n : ℕ) : EReal := (Finset.range n).sup s

/-- The first `n` values, weighted by the exponentials of the scores below `M`, summed. -/
def ws (s v : ℕ → EReal) (M : EReal) (n : ℕ) : EReal := ∑ j ∈ Finset.range n, v j * Ideal.exp (s j - M)

/-- A maximum folded over `n` numbers is their greatest. -/
theorem fold_max (n : ℕ) (f : Fin n → EReal) : Finset.univ.fold max ⊥ f = Finset.univ.sup f := rfl

theorem sup_fin (n : ℕ) (s : ℕ → EReal) : (Finset.univ : Finset (Fin n)).sup (fun k => s k.val) = mx s n := by
  apply le_antisymm
  · exact Finset.sup_le fun k _ => Finset.le_sup (f := s) (Finset.mem_range.2 k.isLt)
  · exact Finset.sup_le fun k hk => Finset.le_sup (f := fun k : Fin n => s k.val) (Finset.mem_univ ⟨k, Finset.mem_range.1 hk⟩)

theorem mx_zero (s : ℕ → EReal) : mx s 0 = ⊥ := rfl

theorem ws_zero (s v : ℕ → EReal) (M : EReal) : ws s v M 0 = 0 := rfl

theorem le_mx {s : ℕ → EReal} {n j : ℕ} (h : j < n) : s j ≤ mx s n := Finset.le_sup (Finset.mem_range.2 h)

theorem mx_mono (s : ℕ → EReal) {a b : ℕ} (h : a ≤ b) : mx s a ≤ mx s b :=
  Finset.sup_mono (Finset.range_mono h)

/-- The maximum after a further block. -/
theorem mx_step (s : ℕ → EReal) (a b : ℕ) :
    max (mx s a) (Finset.univ.sup fun k : Fin b => s (a + k.val)) = mx s (a + b) := by
  apply le_antisymm
  · refine max_le (mx_mono s (Nat.le_add_right a b)) (Finset.sup_le fun k _ => le_mx (by have := k.isLt; omega))
  · refine Finset.sup_le fun j hj => ?_
    have hj := Finset.mem_range.1 hj
    rcases Nat.lt_or_ge j a with h | h
    · exact le_max_of_le_left (le_mx h)
    · refine le_max_of_le_right ?_
      have := Finset.le_sup (f := fun k : Fin b => s (a + k.val)) (Finset.mem_univ ⟨j - a, by omega⟩)
      simpa [Nat.add_sub_cancel' h] using this

/-- The weighted sum after a further block: the sum so far rescaled to the new maximum, and the block's terms. -/
theorem ws_step (s v : ℕ → EReal) (a b : ℕ) :
    Ideal.exp (mx s a - mx s (a + b)) * ws s v (mx s a) a + ∑ k : Fin b, v (a + k.val) * Ideal.exp (s (a + k.val) - mx s (a + b))
      = ws s v (mx s (a + b)) (a + b) := by
  have hle := mx_mono s (Nat.le_add_right a b)
  unfold ws
  rw [mul_sum _ _ (exp_nonneg _) (exp_sub_ne_top hle), Finset.sum_range_add, ← Fin.sum_univ_eq_sum_range (fun k => v (a + k) * Ideal.exp (s (a + k) - mx s (a + b)))]
  refine congrArg (· + _) (Finset.sum_congr rfl fun j hj => ?_)
  rw [mul_left_comm, exp_mul_exp (le_mx (Finset.mem_range.1 hj)) hle]

/-- Scores of minus infinity past the first `n` do not change the maximum. -/
theorem mx_tail {s : ℕ → EReal} {n N : ℕ} (h : n ≤ N) (hs : ∀ j, n ≤ j → s j = ⊥) : mx s N = mx s n := by
  refine le_antisymm (Finset.sup_le fun j _ => ?_) (mx_mono s h)
  rcases Nat.lt_or_ge j n with hj | hj
  · exact le_mx hj
  · rw [hs j hj]; exact bot_le

/-- The attention of one query, computed as the kernel does, is the attention as the reference states it: `s` the
    scores, `n` of the `N` keys visited, the others masked, and some visited score finite with none infinite. -/
theorem attend {s : ℕ → EReal} (v : ℕ → EReal) {n N : ℕ} (h : n ≤ N) (hs : ∀ j, n ≤ j → s j = ⊥)
    (hreal : ∀ j, s j ≠ ⊤) (hone : ∃ j, j < n ∧ s j ≠ ⊥) :
    Ideal.div (ws s v (mx s n) n) (ws s (fun _ => 1) (mx s n) n)
      = ∑ j : Fin N, v j.val * Ideal.div (Ideal.exp (s j.val - mx s N)) (∑ i : Fin N, Ideal.exp (s i.val - mx s N)) := by
  have hM := mx_tail h hs
  obtain ⟨j0, hj0, hb0⟩ := hone
  have hMt : mx s n ≠ ⊤ := by
    have : mx s n < ⊤ := (Finset.sup_lt_iff (by simp)).2 fun j _ => lt_top_iff_ne_top.2 (hreal j)
    exact this.ne
  have hMb : mx s n ≠ ⊥ := fun e => hb0 (le_bot_iff.1 (e ▸ le_mx hj0))
  obtain ⟨M, hMc⟩ : ∃ M : ℝ, mx s n = M := ⟨(mx s n).toReal, (EReal.coe_toReal hMt hMb).symm⟩
  have htail : ∀ j, n ≤ j → Ideal.exp (s j - mx s n) = 0 := fun j hj => by rw [hs j hj, EReal.bot_sub]; rfl
  -- each weight is a nonnegative real, so the total is a positive real
  have hw : ∀ j, ∃ r : ℝ, 0 ≤ r ∧ (s j ≠ ⊥ → 0 < r) ∧ Ideal.exp (s j - mx s n) = (r : EReal) := fun j => by
    rw [hMc]
    have := hreal j
    generalize s j = x at *
    induction x with
    | bot => exact ⟨0, le_rfl, fun h => absurd rfl h, by rw [EReal.bot_sub]; rfl⟩
    | top => exact absurd rfl this
    | coe x => exact ⟨_, (Real.exp_pos _).le, fun _ => Real.exp_pos _, by rw [← EReal.coe_sub, Ideal.exp_coe]⟩
  choose w hw0 hwp hwe using hw
  have hL : ws s (fun _ => 1) (mx s n) n = ((∑ j ∈ Finset.range n, w j : ℝ) : EReal) := by
    unfold ws
    rw [coe_sum]
    exact Finset.sum_congr rfl fun j _ => by rw [one_mul, hwe]
  have hpos : 0 < ∑ j ∈ Finset.range n, w j :=
    Finset.sum_pos' (fun j _ => hw0 j) ⟨j0, Finset.mem_range.2 hj0, hwp j0 hb0⟩
  have hcut : ∀ f : ℕ → EReal, (∀ j, n ≤ j → f j = 0) → ∑ j : Fin N, f j.val = ∑ j ∈ Finset.range n, f j := fun f hf => by
    rw [Fin.sum_univ_eq_sum_range f N]
    exact (Finset.sum_subset (Finset.range_mono h) fun j _ hj => hf j (by simpa using hj)).symm
  have hL' : ∑ i : Fin N, Ideal.exp (s i.val - mx s n) = ws s (fun _ => 1) (mx s n) n := by
    rw [hcut (fun j => Ideal.exp (s j - mx s n)) htail]
    unfold ws
    simp only [one_mul]
  rw [hM, hL', hL]
  generalize ∑ j ∈ Finset.range n, w j = L at hpos
  have hdiv : ∀ x : EReal, Ideal.div x (L : EReal) = ((1 / L : ℝ) : EReal) * x := fun x => by
    rw [Ideal.div_coe hpos.ne', mul_comm]
  simp only [hdiv]
  have hc0 : (0 : EReal) ≤ ((1 / L : ℝ) : EReal) := by exact_mod_cast (one_div_pos.2 hpos).le
  rw [hcut (fun j => v j * (((1 / L : ℝ) : EReal) * Ideal.exp (s j - mx s n))) fun j hj => by rw [htail j hj, mul_zero, mul_zero]]
  unfold ws
  rw [mul_sum _ _ hc0 (EReal.coe_ne_top _)]
  exact Finset.sum_congr rfl fun j _ => mul_left_comm _ _ _

end Cert.Soft

end
-- ==== Proof.Step.lean ====
/- One update of a head's running maximum and running sums at the ideal instance, by coordinates. -/
module

public import proofs.«01_k».proof.Proof.Run
public import proofs.«01_k».proof.Proof.Soft
public import Idealize.ShloMosaic.Lib.Pointwise
public import Idealize.ShloMosaic.PureOps.Ideal
@[expose] public section

set_option maxRecDepth 16384

noncomputable section

namespace Cert.KernelIdeal.Fox

open Idealize.ShloMosaic Idealize.ShloMosaic.TcCoe
open Cert.KernelIdeal Cert.KernelIdeal.Gen
open Cert.Soft

/-- The pattern the maximum starts from is minus infinity. -/
theorem ofBits_neg_inf : Ideal.ofBits FTy.f32 4286578688#32 = ⊥ := by
  unfold Ideal.ofBits Ideal.ieee
  simp

/-- A score is the product of a key row and a query column. -/
theorem score_at (k : Vec Ideal S1x256x128 .bf16) (q : FVec Ideal S128x256 .bf16) (r c : Fin 256) :
    score k q (ix2 r c) = ∑ d : Fin 128, (show EReal from k (ix3 0 r d)) * q (ix2 d c) := by
  pointwise [score]

/-- The diagonal block keeps the scores of the keys up to the query. -/
theorem masked_at (s : FVec Ideal S256x256 .f32) (r c : Fin 256) :
    masked s (ix2 r c) = if r.val ≤ c.val then s (ix2 r c) else ⊥ := by
  pointwise [masked, k0_pay186]
  rw [WordCmp.cmpi_sle_ofNat (by omega) (by omega)]
  pointwise
  rfl

/-- The new maximum at a column. -/
theorem newM_at (s : FVec Ideal S256x256 .f32) (m : FVec Ideal S1x256 .f32) (c : Fin 256) :
    newM s m (ix2 0 c) = max (m (ix2 0 c)) (Finset.univ.sup fun k : Fin 256 => s (ix2 k c)) := by
  pointwise [newM]
  rw [ofBits_neg_inf]
  rfl

/-- The new sums at a row and column. -/
theorem newA_at (s : FVec Ideal S256x256 .f32) (v : Vec Ideal S1x1x128x256 .bf16) (m : FVec Ideal S1x256 .f32) (a : FVec Ideal S128x256 .f32)
    (r : Fin 128) (c : Fin 256) :
    newA s v m a (ix2 r c) = Ideal.exp (m (ix2 0 c) - newM s m (ix2 0 c)) * a (ix2 r c)
      + ∑ k : Fin 256, (show EReal from v (ix4 0 0 r k)) * Ideal.exp (s (ix2 k c) - newM s m (ix2 0 c)) := by
  pointwise [newA]

theorem kblk_at (x : Vec Ideal S8x4096x128 .bf16) (h : Fin 8) (j : Fin 16) (r : Fin 256) (d : Fin 128) :
    kblk x h j (ix3 0 r d) = x (ix3 h (⟨256 * j.val + r.val, by omega⟩ : Fin 4096) d) := by
  unfold kblk VecWindow.window
  refine congrArg x ?_
  idx_ext

theorem vblk_at (x : Vec Ideal S8x16x128x256 .bf16) (h : Fin 8) (j : Fin 16) (r : Fin 128) (d : Fin 256) :
    vblk x h j (ix4 0 0 r d) = x (ix4 h j r d) := by
  unfold vblk VecWindow.window
  refine congrArg x ?_
  idx_ext

theorem initS_at (r : Fin 128) (c : Fin 256) : (initS (F := Ideal)).1 (ix2 0 c) = ⊥ ∧ (initS (F := Ideal)).2 (ix2 r c) = 0 := by
  constructor
  · pointwise [initS]
    rfl
  · pointwise [initS]

/-- One update at a column: if the running maximum and sums are those of the first `a` keys, they become those of the
    first `a + 256`. `S` are the scores of the column, `V r` the values of row `r`. -/
theorem upd_at (s : FVec Ideal S256x256 .f32) (v : Vec Ideal S1x1x128x256 .bf16) (p : St Ideal) (c : Fin 256) (S : ℕ → EReal)
    (V : Fin 128 → ℕ → EReal) (a : ℕ) (hs : ∀ k : Fin 256, s (ix2 k c) = S (a + k.val))
    (hv : ∀ (r : Fin 128) (k : Fin 256), v (ix4 0 0 r k) = V r (a + k.val)) (hm : p.1 (ix2 0 c) = mx S a)
    (ha : ∀ r : Fin 128, p.2 (ix2 r c) = ws S (V r) (mx S a) a) :
    (upd s v p).1 (ix2 0 c) = mx S (a + 256) ∧ ∀ r : Fin 128, (upd s v p).2 (ix2 r c) = ws S (V r) (mx S (a + 256)) (a + 256) := by
  have hM : newM s p.1 (ix2 0 c) = mx S (a + 256) := by
    rw [newM_at, hm, ← mx_step S a 256]
    simp only [hs]
  refine ⟨hM, fun r => ?_⟩
  show newA s v p.1 p.2 (ix2 r c) = _
  rw [newA_at, hM, hm, ha, ← ws_step S (V r) a 256]
  refine Ideal.add_congr rfl (Finset.sum_congr rfl fun k _ => ?_)
  rw [hs]
  exact congrArg (· * _) (hv r k)

/-- The scores of column `c` against head `h`'s keys. -/
def scoreOf (x9 : Vec Ideal S8x4096x128 .bf16) (q : FVec Ideal S128x256 .bf16) (h : Fin 8) (c : Fin 256) (j : ℕ) : EReal :=
  ∑ d : Fin 128, (show EReal from x9 (ix3 h (⟨j % 4096, Nat.mod_lt _ (by decide)⟩ : Fin 4096) d)) * q (ix2 d c)

/-- The scores of the query at column `c` of block `n`, minus infinity past the query. -/
def causal (x9 : Vec Ideal S8x4096x128 .bf16) (q : FVec Ideal S128x256 .bf16) (h : Fin 8) (n : ℕ) (c : Fin 256) (j : ℕ) : EReal :=
  if j ≤ 256 * n + c.val then scoreOf x9 q h c j else ⊥

/-- Row `r` of head `h`'s values at key `j`. -/
def valOf (x10 : Vec Ideal S8x16x128x256 .bf16) (h : Fin 8) (r : Fin 128) (j : ℕ) : EReal :=
  x10 (ix4 h (⟨j / 256 % 16, Nat.mod_lt _ (by decide)⟩ : Fin 16) r (⟨j % 256, Nat.mod_lt _ (by decide)⟩ : Fin 256))

theorem score_kblk (x9 : Vec Ideal S8x4096x128 .bf16) (q : FVec Ideal S128x256 .bf16) (h : Fin 8) (j : Fin 16) (r c : Fin 256) :
    score (kblk x9 h j) q (ix2 r c) = scoreOf x9 q h c (256 * j.val + r.val) := by
  rw [score_at]
  unfold scoreOf
  refine Finset.sum_congr rfl fun d _ => congrArg (· * _) ?_
  refine (kblk_at x9 h j r d).trans (congrArg (fun z : Fin 4096 => x9 (ix3 h z d)) (Fin.ext ?_))
  show 256 * j.val + r.val = (256 * j.val + r.val) % 4096
  omega

theorem val_vblk (x10 : Vec Ideal S8x16x128x256 .bf16) (h : Fin 8) (j : Fin 16) (r : Fin 128) (k : Fin 256) :
    vblk x10 h j (ix4 0 0 r k) = valOf x10 h r (256 * j.val + k.val) := by
  rw [vblk_at]
  unfold valOf
  have h1 : j = (⟨(256 * j.val + k.val) / 256 % 16, Nat.mod_lt _ (by decide)⟩ : Fin 16) := Fin.ext (by show j.val = (256 * j.val + k.val) / 256 % 16; omega)
  have h2 : k = (⟨(256 * j.val + k.val) % 256, Nat.mod_lt _ (by decide)⟩ : Fin 256) := Fin.ext (by show k.val = (256 * j.val + k.val) % 256; omega)
  rw [← h1, ← h2]

/-- The blocks before the diagonal. -/
theorem foldB_at (x9 : Vec Ideal S8x4096x128 .bf16) (x10 : Vec Ideal S8x16x128x256 .bf16) (q : FVec Ideal S128x256 .bf16) (h : Fin 8) (c : Fin 256)
    (N : ℕ) (hN : N < 16) : ∀ n : ℕ, n ≤ N →
    (foldB x9 x10 q h n initS).1 (ix2 0 c) = mx (causal x9 q h N c) (256 * n)
      ∧ ∀ r : Fin 128, (foldB x9 x10 q h n initS).2 (ix2 r c) = ws (causal x9 q h N c) (valOf x10 h r) (mx (causal x9 q h N c) (256 * n)) (256 * n)
  | 0, _ => ⟨(initS_at 0 c).1, fun r => (initS_at r c).2⟩
  | n + 1, hn => by
    obtain ⟨h1, h2⟩ := foldB_at x9 x10 q h c N hN n (by omega)
    rw [foldB_succ x9 x10 q h n (by omega), Nat.mul_succ]
    refine upd_at _ _ _ c (causal x9 q h N c) (valOf x10 h) (256 * n) (fun k => ?_) (fun r k => val_vblk x10 h ⟨n, by omega⟩ r k) h1 h2
    rw [score_kblk]
    unfold causal
    rw [if_pos (by have := k.isLt; omega)]

/-- All blocks of a query block, the one on the diagonal last. -/
theorem updD_at (x9 : Vec Ideal S8x4096x128 .bf16) (x10 : Vec Ideal S8x16x128x256 .bf16) (q : FVec Ideal S128x256 .bf16) (h : Fin 8) (c : Fin 256)
    (N : Fin 16) (r : Fin 128) :
    (updD x9 x10 q h N (foldB x9 x10 q h N.val initS)).2 (ix2 r c)
      = ws (causal x9 q h N.val c) (valOf x10 h r) (mx (causal x9 q h N.val c) (256 * N.val + 256)) (256 * N.val + 256) := by
  obtain ⟨h1, h2⟩ := foldB_at x9 x10 q h c N.val N.isLt N.val le_rfl
  refine (upd_at _ _ _ c (causal x9 q h N.val c) (valOf x10 h) (256 * N.val) (fun k => ?_) (fun r k => val_vblk x10 h N r k) h1 h2).2 r
  rw [masked_at, score_kblk]
  unfold causal
  simp only [Nat.add_le_add_iff_left]

end Cert.KernelIdeal.Fox

end
-- ==== Proof.Out.lean ====
/- The output block at the ideal instance, by coordinates: each head's weighted values divided by its sum of weights. -/
module

public import proofs.«01_k».proof.Proof.Step
public import Idealize.ShloMosaic.Lib.Pipeline.ValueKit
@[expose] public section

set_option maxRecDepth 16384

noncomputable section

namespace Cert.KernelIdeal.Fox

open Idealize.ShloMosaic Idealize.ShloMosaic.TcCoe
open Cert.KernelIdeal Cert.KernelIdeal.Gen
open Cert.Soft

/-- A strip holds one head's quotients and then the next head's. -/
theorem strip_at (a b : FVec Ideal S128x256 .f32) (c : Fin 256) (y : Fin 128) :
    k0_pay233 a b (ix2 c y) = if h : y.val < 64 then Ideal.div (a (ix2 (⟨y.val, by omega⟩ : Fin 128) c)) (a (ix2 64 c))
      else Ideal.div (b (ix2 (⟨y.val - 64, by omega⟩ : Fin 128) c)) (b (ix2 64 c)) := by
  pointwise [k0_pay233]

/-- A strip of the block, by the block's own columns: `A` and `B` are the strip's two heads. -/
theorem strip_head (T : Fin 8 → St Ideal) (A B : Fin 8) (hB : B.val = A.val + 1) (x : S256x128.Idx) (c : Fin 256) (y : Fin 512)
    (h0 : c.val = (x 0).val) (h1 : y.val = 64 * A.val + (x 1).val) :
    k0_pay233 (T A).2 (T B).2 x
      = Ideal.div ((T (⟨y.val / 64, by omega⟩ : Fin 8)).2 (ix2 (⟨y.val % 64, by omega⟩ : Fin 128) c)) ((T (⟨y.val / 64, by omega⟩ : Fin 8)).2 (ix2 64 c)) := by
  obtain ⟨x0, x1, rfl⟩ : ∃ (x0 : Fin 256) (x1 : Fin 128), x = ix2 x0 x1 := ⟨x 0, x 1, eq_ix2 x⟩
  obtain rfl : c = x0 := Fin.ext h0
  have h1' : y.val = 64 * A.val + x1.val := h1
  rw [strip_at]
  split
  · rename_i hlt
    have e1 : (⟨y.val / 64, by omega⟩ : Fin 8) = A := Fin.ext (by show y.val / 64 = A.val; omega)
    have e2 : (⟨y.val % 64, by omega⟩ : Fin 128) = ⟨x1.val, by omega⟩ := Fin.ext (by show y.val % 64 = x1.val; omega)
    rw [e1, e2]
  · rename_i hlt
    have e1 : (⟨y.val / 64, by omega⟩ : Fin 8) = B := Fin.ext (by show y.val / 64 = B.val; have := x1.isLt; omega)
    have e2 : (⟨y.val % 64, by omega⟩ : Fin 128) = ⟨x1.val - 64, by omega⟩ := Fin.ext (by show y.val % 64 = x1.val - 64; have := x1.isLt; omega)
    rw [e1, e2]

/-- Column `64 h + d` of the output block is head `h`'s row `d` divided by its sum of weights. -/
theorem outBlk_at (i : grid0.Coords) (x0 x1 : Vec Ideal S1x512x256 .bf16) (x9 : Vec Ideal S8x4096x128 .bf16) (x10 : Vec Ideal S8x16x128x256 .bf16)
    (c : Fin 256) (y : Fin 512) :
    outBlk i x0 x1 x9 x10 (ix2 c y)
      = Ideal.div ((finS i x0 x1 x9 x10 (⟨y.val / 64, by omega⟩ : Fin 8)).2 (ix2 (⟨y.val % 64, by omega⟩ : Fin 128) c))
        ((finS i x0 x1 x9 x10 (⟨y.val / 64, by omega⟩ : Fin 8)).2 (ix2 64 c)) := by
  unfold outBlk
  canon_tiles x h
  · exact strip_head (finS i x0 x1 x9 x10) 6 7 rfl x c y h0 h1
  · exact strip_head (finS i x0 x1 x9 x10) 4 5 rfl x c y h0 h1
  · exact strip_head (finS i x0 x1 x9 x10) 2 3 rfl x c y h0 h1
  · exact strip_head (finS i x0 x1 x9 x10) 0 1 rfl x c y h0 (h1.trans (Nat.zero_add _).symm)

end Cert.KernelIdeal.Fox

end
-- ==== Proof.Blocks.lean ====
/- What each point's blocks are at the ideal instance, in terms of the arguments. -/
module

public import proofs.«01_k».proof.Proof.Launch
public import proofs.«01_k».proof.Proof.Out
public import Idealize.ShloMosaic.Lib.Pipeline.ValueKit
public import Idealize.ShloMosaic.Lib.Claim
@[expose] public section

set_option maxRecDepth 16384

noncomputable section

namespace Cert.KernelIdeal.Fox

open Idealize.ShloMosaic Idealize.ShloMosaic.TcCoe
open Cert.KernelIdeal Cert.KernelIdeal.Gen

/-- Which block of its array each window reads or writes at a point. -/
theorem idx : ∀ t : Fin cfg0.N,
    win0_0.index t = ![t.val / 32 * 16 + t.val % 16, t.val / 16 % 2, 0] ∧ win0_1.index t = ![t.val / 32 * 16 + t.val % 16, t.val / 16 % 2, 0]
      ∧ win0_2.index t = ![t.val / 32, t.val / 16 % 2] ∧ win0_3.index t = ![t.val / 32, t.val / 16 % 2]
      ∧ win0_4.index t = ![t.val / 32, t.val / 16 % 2, 0] ∧ win0_5.index t = ![t.val / 32 * 16 + t.val % 16, t.val / 16 % 2] :=
  (by decide +kernel : ∀ t : Fin grid0.N,
    win0_0.index t = ![t.val / 32 * 16 + t.val % 16, t.val / 16 % 2, 0] ∧ win0_1.index t = ![t.val / 32 * 16 + t.val % 16, t.val / 16 % 2, 0]
      ∧ win0_2.index t = ![t.val / 32, t.val / 16 % 2] ∧ win0_3.index t = ![t.val / 32, t.val / 16 % 2]
      ∧ win0_4.index t = ![t.val / 32, t.val / 16 % 2, 0] ∧ win0_5.index t = ![t.val / 32 * 16 + t.val % 16, t.val / 16 % 2])

theorem lt128 (t : Fin cfg0.N) : t.val < 128 := lt_of_lt_of_eq t.isLt (by decide +kernel)

variable (m : (ℓ : Loc nD τ sig) → Buf (Elt Ideal) ℓ)

/-- The five arguments. -/
def argQ (c : Dev nD) : FVec Ideal S4x4096x1024 .f32 := m ((c.tc : Thread nD τ).loc main_arg0)
def argK (c : Dev nD) : FVec Ideal S4x4096x1024 .f32 := m ((c.tc : Thread nD τ).loc main_arg1)
def argV (c : Dev nD) : FVec Ideal S4x4096x1024 .f32 := m ((c.tc : Thread nD τ).loc main_arg2)
def argQF (c : Dev nD) : FVec Ideal S4x4096x1024 .f32 := m ((c.tc : Thread nD τ).loc main_arg3)
def argKF (c : Dev nD) : FVec Ideal S4x4096x1024 .f32 := m ((c.tc : Thread nD τ).loc main_arg4)

/-- The transposed layout: row `a`, column `x` of block `i` is feature `a` of token `256 i + x`, counted over the batch. -/
theorem layT (X : FVec Ideal S4x4096x1024 .f32) (i : Fin 64) (a : Fin 1024) (x : Fin 256) :
    transpose S64x1024x256 [0, 2, 1] (shapeCast S64x256x1024 X shapeCasts_S4x4096x1024_S64x256x1024) transposes_S64x256x1024_S64x1024x256_0_2_1 (ix3 i a x)
      = X (ix3 (⟨i.val / 16, by omega⟩ : Fin 4) (⟨256 * (i.val % 16) + x.val, by omega⟩ : Fin 4096) a) := by
  pointwise
  refine congrArg X ?_
  idx_ext

/-- The flat layout: row `r` is token `r`, counted over the batch. -/
theorem layF (X : FVec Ideal S4x4096x1024 .f32) (r : Fin 16384) (a : Fin 1024) :
    shapeCast S16384x1024 X shapeCasts_S4x4096x1024_S16384x1024 (ix2 r a)
      = X (ix3 (⟨r.val / 4096, by omega⟩ : Fin 4) (⟨r.val % 4096, by omega⟩ : Fin 4096) a) := by
  pointwise

/-- The block of queries, scaled. -/
theorem blk0_at (c : Dev nD) (t : Fin cfg0.N) (r : Fin 512) (x : Fin 256) :
    blk0 m c t (ix3 0 r x) = argQ m c (ix3 (⟨t.val / 32, by have := lt128 t; omega⟩ : Fin 4) (⟨256 * (t.val % 16) + x.val, by omega⟩ : Fin 4096)
      (⟨512 * (t.val / 16 % 2) + r.val, by omega⟩ : Fin 1024)) * Ideal.ofBits .f32 0x3E000000#32 := by
  have ht := lt128 t
  unfold blk0
  blk_simp [iblk]
  entry_read
  refine Eq.trans (b := transpose S64x1024x256 [0, 2, 1] (shapeCast S64x256x1024 (mulf (argQ m c)
    (broadcastInDim S4x4096x1024 ![] bcast_S_S4x4096x1024 (constant S_ FTy.f32 1040187392#32))) shapeCasts_S4x4096x1024_S64x256x1024) transposes_S64x256x1024_S64x1024x256_0_2_1
    (ix3 (⟨t.val / 32 * 16 + t.val % 16, by omega⟩ : Fin 64) (⟨512 * (t.val / 16 % 2) + r.val, by omega⟩ : Fin 1024) x)) ?_ ?_
  · refine congrArg (transpose S64x1024x256 [0, 2, 1] (shapeCast S64x256x1024 (mulf (argQ m c)
      (broadcastInDim S4x4096x1024 ![] bcast_S_S4x4096x1024 (constant S_ FTy.f32 1040187392#32))) shapeCasts_S4x4096x1024_S64x256x1024) transposes_S64x256x1024_S64x1024x256_0_2_1) ?_
    blk_ext [idx t]
  · rw [layT]
    pointwise
    refine congrArg (fun z => argQ m c z * Ideal.ofBits FTy.f32 1040187392#32) ?_
    idx_ext

/-- The block of the gate's query features. -/
theorem blk1_at (c : Dev nD) (t : Fin cfg0.N) (r : Fin 512) (x : Fin 256) :
    blk1 m c t (ix3 0 r x) = argQF m c (ix3 (⟨t.val / 32, by have := lt128 t; omega⟩ : Fin 4) (⟨256 * (t.val % 16) + x.val, by omega⟩ : Fin 4096)
      (⟨512 * (t.val / 16 % 2) + r.val, by omega⟩ : Fin 1024)) := by
  have ht := lt128 t
  unfold blk1
  blk_simp [iblk]
  entry_read
  refine Eq.trans (b := transpose S64x1024x256 [0, 2, 1] (shapeCast S64x256x1024 (argQF m c) shapeCasts_S4x4096x1024_S64x256x1024) transposes_S64x256x1024_S64x1024x256_0_2_1
    (ix3 (⟨t.val / 32 * 16 + t.val % 16, by omega⟩ : Fin 64) (⟨512 * (t.val / 16 % 2) + r.val, by omega⟩ : Fin 1024) x)) ?_ ?_
  · refine congrArg (transpose S64x1024x256 [0, 2, 1] (shapeCast S64x256x1024 (argQF m c) shapeCasts_S4x4096x1024_S64x256x1024) transposes_S64x256x1024_S64x1024x256_0_2_1) ?_
    blk_ext [idx t]
  · rw [layT]
    refine congrArg (argQF m c) ?_
    idx_ext

/-- The keys of the point's batch entry and head group. -/
theorem blk2_at (c : Dev nD) (t : Fin cfg0.N) (r : Fin 4096) (x : Fin 512) :
    blk2 m c t (ix2 r x) = argK m c (ix3 (⟨t.val / 32, by have := lt128 t; omega⟩ : Fin 4) r
      (⟨512 * (t.val / 16 % 2) + x.val, by omega⟩ : Fin 1024)) := by
  have ht := lt128 t
  unfold blk2
  blk_simp [iblk]
  entry_read
  refine Eq.trans (b := shapeCast S16384x1024 (argK m c) shapeCasts_S4x4096x1024_S16384x1024
    (ix2 (⟨t.val / 32 * 4096 + r.val, by omega⟩ : Fin 16384) (⟨512 * (t.val / 16 % 2) + x.val, by omega⟩ : Fin 1024))) ?_ ?_
  · refine congrArg (shapeCast S16384x1024 (argK m c) shapeCasts_S4x4096x1024_S16384x1024) ?_
    blk_ext [idx t]
  · rw [layF]
    refine congrArg (argK m c) ?_
    idx_ext

/-- The gate's key features of the point's batch entry and head group. -/
theorem blk3_at (c : Dev nD) (t : Fin cfg0.N) (r : Fin 4096) (x : Fin 512) :
    blk3 m c t (ix2 r x) = argKF m c (ix3 (⟨t.val / 32, by have := lt128 t; omega⟩ : Fin 4) r
      (⟨512 * (t.val / 16 % 2) + x.val, by omega⟩ : Fin 1024)) := by
  have ht := lt128 t
  unfold blk3
  blk_simp [iblk]
  entry_read
  refine Eq.trans (b := shapeCast S16384x1024 (argKF m c) shapeCasts_S4x4096x1024_S16384x1024
    (ix2 (⟨t.val / 32 * 4096 + r.val, by omega⟩ : Fin 16384) (⟨512 * (t.val / 16 % 2) + x.val, by omega⟩ : Fin 1024))) ?_ ?_
  · refine congrArg (shapeCast S16384x1024 (argKF m c) shapeCasts_S4x4096x1024_S16384x1024) ?_
    blk_ext [idx t]
  · rw [layF]
    refine congrArg (argKF m c) ?_
    idx_ext

/-- The values of the point's batch entry and head group. -/
theorem blk4_at (c : Dev nD) (t : Fin cfg0.N) (j : Fin 16) (r : Fin 512) (x : Fin 256) :
    blk4 m c t (ix3 j r x) = argV m c (ix3 (⟨t.val / 32, by have := lt128 t; omega⟩ : Fin 4) (⟨256 * j.val + x.val, by omega⟩ : Fin 4096)
      (⟨512 * (t.val / 16 % 2) + r.val, by omega⟩ : Fin 1024)) := by
  have ht := lt128 t
  unfold blk4
  blk_simp [iblk]
  entry_read
  refine Eq.trans (b := transpose S64x1024x256 [0, 2, 1] (shapeCast S64x256x1024 (argV m c) shapeCasts_S4x4096x1024_S64x256x1024) transposes_S64x256x1024_S64x1024x256_0_2_1
    (ix3 (⟨t.val / 32 * 16 + j.val, by omega⟩ : Fin 64) (⟨512 * (t.val / 16 % 2) + r.val, by omega⟩ : Fin 1024) x)) ?_ ?_
  · refine congrArg (transpose S64x1024x256 [0, 2, 1] (shapeCast S64x256x1024 (argV m c) shapeCasts_S4x4096x1024_S64x256x1024) transposes_S64x256x1024_S64x1024x256_0_2_1) ?_
    blk_ext [idx t]
  · rw [layT]
    refine congrArg (argV m c) ?_
    idx_ext

end Cert.KernelIdeal.Fox

end
-- ==== Proof.Heads.lean ====
/- A head's scores and values at the ideal instance, in terms of the point's blocks. -/
module

public import proofs.«01_k».proof.Proof.Fill
public import proofs.«01_k».proof.Proof.Out
@[expose] public section

set_option maxRecDepth 16384

noncomputable section

namespace Cert.KernelIdeal.Fox

open Idealize.ShloMosaic Idealize.ShloMosaic.TcCoe
open Cert.KernelIdeal Cert.KernelIdeal.Gen
open Cert.Soft

theorem qrows_at (x : Vec Ideal S1x512x256 .bf16) (h : Fin 8) (d : Fin 64) (c : Fin 256) :
    qrows x h (ix3 0 d c) = x (ix3 0 (⟨64 * h.val + d.val, by omega⟩ : Fin 512) c) := by
  unfold qrows VecWindow.window
  refine congrArg x ?_
  idx_ext

/-- The first 64 rows of a head's queries are its scaled query. -/
theorem qh_lo (x0 x1 : Vec Ideal S1x512x256 .bf16) (h : Fin 8) (d : Fin 64) (c : Fin 256) :
    qh x0 x1 h (ix2 (⟨d.val, by omega⟩ : Fin 128) c) = x0 (ix3 0 (⟨64 * h.val + d.val, by omega⟩ : Fin 512) c) := by
  refine Eq.trans ?_ (qrows_at x0 h d c)
  unfold qh
  pointwise [k0_pay177]

/-- The last 64 rows are the gate's features. -/
theorem qh_hi (x0 x1 : Vec Ideal S1x512x256 .bf16) (h : Fin 8) (d : Fin 64) (c : Fin 256) :
    qh x0 x1 h (ix2 (⟨64 + d.val, by omega⟩ : Fin 128) c) = x1 (ix3 0 (⟨64 * h.val + d.val, by omega⟩ : Fin 512) c) := by
  refine Eq.trans ?_ (qrows_at x1 h d c)
  unfold qh
  pointwise [k0_pay177]

theorem kaug_lo (x2 x3 : Vec Ideal S4096x512 .bf16) (h : Fin 8) (j : Fin 4096) (d : Fin 64) :
    kaug x2 x3 (ix3 h j (⟨d.val, by omega⟩ : Fin 128)) = x2 (ix2 j (⟨64 * h.val + d.val, by omega⟩ : Fin 512)) := by
  unfold kaug
  refine (if_pos (show d.val < 64 from d.isLt)).trans ?_
  refine congrArg x2 ?_
  funext a
  apply Fin.ext
  fin_cases a
  · rfl
  · show (64 * h.val + d.val) % 512 = 64 * h.val + d.val
    omega

theorem kaug_hi (x2 x3 : Vec Ideal S4096x512 .bf16) (h : Fin 8) (j : Fin 4096) (d : Fin 64) :
    kaug x2 x3 (ix3 h j (⟨64 + d.val, by omega⟩ : Fin 128)) = x3 (ix2 j (⟨64 * h.val + d.val, by omega⟩ : Fin 512)) := by
  unfold kaug
  refine (if_neg (show ¬ 64 + d.val < 64 by omega)).trans ?_
  refine congrArg x3 ?_
  funext a
  apply Fin.ext
  fin_cases a
  · rfl
  · show (64 * h.val + (64 + d.val - 64)) % 512 = 64 * h.val + d.val
    omega

/-- A head's score: the query against the key, and the gate's features against each other. -/
theorem scoreOf_at (x0 x1 : Vec Ideal S1x512x256 .bf16) (x2 x3 : Vec Ideal S4096x512 .bf16) (h : Fin 8) (c : Fin 256) (j : Fin 4096) :
    scoreOf (kaug x2 x3) (qh x0 x1 h) h c j.val
      = ∑ d : Fin 64, (show EReal from x2 (ix2 j (⟨64 * h.val + d.val, by omega⟩ : Fin 512))) * (show EReal from x0 (ix3 0 (⟨64 * h.val + d.val, by omega⟩ : Fin 512) c))
        + ∑ d : Fin 64, (show EReal from x3 (ix2 j (⟨64 * h.val + d.val, by omega⟩ : Fin 512))) * (show EReal from x1 (ix3 0 (⟨64 * h.val + d.val, by omega⟩ : Fin 512) c)) := by
  unfold scoreOf
  have hj : (⟨j.val % 4096, Nat.mod_lt _ (by decide)⟩ : Fin 4096) = j := Fin.ext (Nat.mod_eq_of_lt j.isLt)
  rw [hj, Fin.sum_univ_two_halves 64 64 rfl]
  refine Ideal.add_congr (Finset.sum_congr rfl fun d _ => ?_) (Finset.sum_congr rfl fun d _ => ?_)
  · exact Ideal.mul_congr (kaug_lo x2 x3 h j d) (qh_lo x0 x1 h d c)
  · exact Ideal.mul_congr (kaug_hi x2 x3 h j d) (qh_hi x0 x1 h d c)

/-- A head's value rows. -/
theorem valOf_lo (x4 : Vec Ideal S16x512x256 .bf16) (h : Fin 8) (d : Fin 64) (j : Fin 4096) :
    valOf (vaug x4) h (⟨d.val, by omega⟩ : Fin 128) j.val
      = x4 (ix3 (⟨j.val / 256, by omega⟩ : Fin 16) (⟨64 * h.val + d.val, by omega⟩ : Fin 512) (⟨j.val % 256, by omega⟩ : Fin 256)) := by
  unfold valOf vaug
  refine (if_pos (show d.val < 64 from d.isLt)).trans ?_
  refine congrArg x4 ?_
  funext a
  apply Fin.ext
  fin_cases a
  · show j.val / 256 % 16 = j.val / 256
    omega
  · show (64 * h.val + d.val) % 512 = 64 * h.val + d.val
    omega
  · rfl

/-- The row of ones. -/
theorem valOf_one (x4 : Vec Ideal S16x512x256 .bf16) (h : Fin 8) (j : ℕ) : valOf (vaug x4) h 64 j = 1 := by
  unfold valOf vaug
  refine (if_neg (show ¬ (64 : ℕ) < 64 by omega)).trans ?_
  show k0_pay3 (F := Ideal) (ix2 (0 : Fin 64) (⟨j % 256, Nat.mod_lt _ (by decide)⟩ : Fin 256)) = 1
  pointwise [k0_pay3]

end Cert.KernelIdeal.Fox

end
-- ==== Proof.Ref.lean ====
/- The reference's result at the ideal instance, by coordinates. -/
module

public import proofs.«01_k».proof.Proof.Gen.ReferenceIdeal
public import proofs.«01_k».proof.Proof.Gen.ReferenceIdeal.Run
public import proofs.«01_k».proof.Proof.Step
public import Idealize.ShloMosaic.Lib.Pointwise
@[expose] public section

set_option maxRecDepth 16384

noncomputable section

namespace Cert.ReferenceIdeal.Fox

open Idealize.ShloMosaic Idealize.ShloMosaic.TcCoe
open Cert.ReferenceIdeal Cert.ReferenceIdeal.Gen
open Cert.Soft

/-- The reference's scores before the mask: scaled products of queries and keys plus products of gate features. -/
def refProd (q k qf kf : FVec Ideal S4x4096x1024 .f32) : FVec Ideal S4x16x4096x4096 .f32 :=
  addf (mulf (Host.dotGeneral dot_S4x4096x16x64_S4x4096x16x64_S4x16x4096x4096_3_3_1_1_02_02 none (shapeCast _ q shapeCasts_S4x4096x1024_S4x4096x16x64) (shapeCast _ k shapeCasts_S4x4096x1024_S4x4096x16x64)) (broadcastInDim S4x16x4096x4096 ![] bcast_S_S4x16x4096x4096 (constant S_ .f32 0x3E000000#32))) (Host.dotGeneral dot_S4x4096x16x64_S4x4096x16x64_S4x16x4096x4096_3_3_1_1_02_02 none (shapeCast _ qf shapeCasts_S4x4096x1024_S4x4096x16x64) (shapeCast _ kf shapeCasts_S4x4096x1024_S4x4096x16x64))

/-- The reference's mask: later positions get −∞. -/
def refMask (s : FVec Ideal S4x16x4096x4096 .f32) : FVec Ideal S4x16x4096x4096 .f32 :=
  select (broadcastInDim S4x16x4096x4096 ![2, 3] bcast_S4096x4096_S4x16x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S4x16x4096x4096 ![] bcast_S_S4x16x4096x4096 (id (constant S_ .f32 0xFF800000#32)))

/-- Each row's greatest score. -/
def refMax (s : FVec Ideal S4x16x4096x4096 .f32) : FVec Ideal S4x16x4096 .f32 :=
  Host.reduce FloatOps.maximumf s (constant S_ .f32 0xFF800000#32) reducesTo_S4x16x4096x4096_S4x16x4096_d3 h_S_

/-- The exponentials of the scores less a number for each row. -/
def refExp (s : FVec Ideal S4x16x4096x4096 .f32) (M : FVec Ideal S4x16x4096 .f32) : FVec Ideal S4x16x4096x4096 .f32 :=
  Host.exp (subf s (broadcastInDim S4x16x4096x4096 ![0, 1, 2, 3] bcast_S4x16x4096x1_S4x16x4096x4096_0_1_2_3 (broadcastInDim S4x16x4096x1 ![0, 1, 2] bcast_S4x16x4096_S4x16x4096x1_0_1_2 (maximumf (broadcastInDim S4x16x4096 ![] bcast_S_S4x16x4096 (constant S_ .f32 0xFF800000#32)) M))))

/-- Each row divided by its sum. -/
def refNorm (p : FVec Ideal S4x16x4096x4096 .f32) : FVec Ideal S4x16x4096x4096 .f32 :=
  Host.divf p (broadcastInDim S4x16x4096x4096 ![0, 1, 2, 3] bcast_S4x16x4096x1_S4x16x4096x4096_0_1_2_3 (broadcastInDim S4x16x4096x1 ![0, 1, 2] bcast_S4x16x4096_S4x16x4096x1_0_1_2 (Host.reduceAdd p (constant S_ .f32 0x00000000#32) reducesTo_S4x16x4096x4096_S4x16x4096_d3 h_S_)))

/-- The weighted values, the heads laid side by side. -/
def refOut (p : FVec Ideal S4x16x4096x4096 .f32) (v : FVec Ideal S4x4096x1024 .f32) : FVec Ideal S16384x1024 .bf16 :=
  truncf .bf16 (shapeCast _ (transpose S4x4096x16x64 [0, 3, 1, 2] (Host.dotGeneral dot_S4x4096x16x64_S4x16x4096x4096_S4x16x64x4096_1_3_3_2_02_01 none (shapeCast _ v shapeCasts_S4x4096x1024_S4x4096x16x64) p) transposes_S4x16x64x4096_S4x4096x16x64_0_3_1_2) shapeCasts_S4x4096x16x64_S16384x1024) bitsLt_bf16_f32

/-- A maximum over the last of four axes, element by element, whatever the sizes. -/
theorem max_at {n0 n1 n2 n3 : ℕ} (x : FVec Ideal ⟨4, ![n0, n1, n2, n3]⟩ .f32) (c : FVec Ideal S_ .f32)
    (hr : (⟨4, ![n0, n1, n2, n3]⟩ : Shape).ReducesTo [3] ⟨3, ![n0, n1, n2]⟩) (hu : 0 < S_.numel)
    (b : Fin n0) (h : Fin n1) (t : Fin n2) :
    Host.reduce FloatOps.maximumf x c hr hu (ix3 b h t)
      = Finset.univ.fold max (c (Shape.Idx.first hu)) fun k : Fin n3 => x (ix4 b h t k) := by
  pointwise

/-- A score before the mask: the scaled product of the query and the key over the head's 64 columns, plus the product of
the gate features. -/
theorem refProd_at (q k qf kf : FVec Ideal S4x4096x1024 .f32) (b : Fin 4) (h : Fin 16) (t s : Fin 4096) :
    (show EReal from refProd q k qf kf (ix4 b h t s))
      = (∑ d : Fin 64, q (ix3 b t ⟨h.val * 64 + d.val, by omega⟩) * k (ix3 b s ⟨h.val * 64 + d.val, by omega⟩))
          * Ideal.ofBits .f32 0x3E000000#32
        + ∑ d : Fin 64, qf (ix3 b t ⟨h.val * 64 + d.val, by omega⟩) * kf (ix3 b s ⟨h.val * 64 + d.val, by omega⟩) := by
  pointwise [refProd]

/-- The mask keeps the score of a key no later than the query and puts −∞ for a later one. -/
theorem refMask_at (x : FVec Ideal S4x16x4096x4096 .f32) (b : Fin 4) (h : Fin 16) (t s : Fin 4096) :
    (show EReal from refMask x (ix4 b h t s)) = if s.val ≤ t.val then (show EReal from x (ix4 b h t s)) else ⊥ := by
  pointwise [refMask]
  rw [WordCmp.cmpi_sle_ofNat (by omega) (by omega)]
  show Scalar.select _ _ (Ideal.ofBits FTy.f32 4286578688#32) = _
  rw [Cert.KernelIdeal.Fox.ofBits_neg_inf]
  by_cases hc : s.val ≤ t.val
  · pointwise [hc]
  · pointwise [hc]

/-- A row's greatest score is the supremum of its scores. -/
theorem refMax_at (x : FVec Ideal S4x16x4096x4096 .f32) (b : Fin 4) (h : Fin 16) (t : Fin 4096) :
    (show EReal from refMax x (ix3 b h t)) = Finset.univ.sup fun k : Fin 4096 => (show EReal from x (ix4 b h t k)) :=
  (max_at x (constant S_ .f32 0xFF800000#32) reducesTo_S4x16x4096x4096_S4x16x4096_d3 h_S_ b h t).trans
    (congrArg (fun z => Finset.univ.fold max z fun k : Fin 4096 => (show EReal from x (ix4 b h t k)))
      Cert.KernelIdeal.Fox.ofBits_neg_inf)

/-- An exponential: of the score less its row's number. -/
theorem refExp_at (x : FVec Ideal S4x16x4096x4096 .f32) (M : FVec Ideal S4x16x4096 .f32) (b : Fin 4) (h : Fin 16) (t s : Fin 4096) :
    (show EReal from refExp x M (ix4 b h t s))
      = Ideal.exp ((show EReal from x (ix4 b h t s)) - (show EReal from M (ix3 b h t))) := by
  pointwise [refExp]
  rw [Cert.KernelIdeal.Fox.ofBits_neg_inf, max_eq_right bot_le]

/-- A weight: the exponential divided by its row's sum. -/
theorem refNorm_at (x : FVec Ideal S4x16x4096x4096 .f32) (b : Fin 4) (h : Fin 16) (t s : Fin 4096) :
    (show EReal from refNorm x (ix4 b h t s)) = Ideal.div (x (ix4 b h t s)) (∑ k : Fin 4096, (show EReal from x (ix4 b h t k))) := by
  pointwise [refNorm]

/-- A result: the sum over the keys of value times weight. -/
theorem refOut_at (p : FVec Ideal S4x16x4096x4096 .f32) (v : FVec Ideal S4x4096x1024 .f32) (k : Fin 16384) (y : Fin 1024) :
    (show EReal from refOut p v (ix2 k y))
      = ∑ s : Fin 4096, v (ix3 ⟨k.val / 4096, by omega⟩ s y)
          * p (ix4 ⟨k.val / 4096, by omega⟩ ⟨y.val / 64, by omega⟩ ⟨k.val % 4096, by omega⟩ s) := by
  pointwise [refOut]

/-- The weights before their division, from the arguments. -/
def refW (q k qf kf : FVec Ideal S4x4096x1024 .f32) : FVec Ideal S4x16x4096x4096 .f32 :=
  refExp (refMask (refProd q k qf kf)) (refMax (refMask (refProd q k qf kf)))

/-- The reference's result is these steps, one after another. -/
theorem ref_eq (m : (ℓ : Loc nD τ sig) → Buf (Elt Ideal) ℓ) (c : Dev nD) :
    Value.res_main_v31 m c = refOut (refNorm (refW (m ((c.tc : Thread nD τ).loc main_arg0)) (m ((c.tc : Thread nD τ).loc main_arg1)) (m ((c.tc : Thread nD τ).loc main_arg3)) (m ((c.tc : Thread nD τ).loc main_arg4)))) (m ((c.tc : Thread nD τ).loc main_arg2)) := by
  with_unfolding_all rfl

end Cert.ReferenceIdeal.Fox

end
-- ==== Proof.Value.lean ====
/- The kernel's output is the reference's, when queries, keys and gate features are reals. -/
module

public import proofs.«01_k».proof.Proof.Blocks
public import proofs.«01_k».proof.Proof.Heads
public import proofs.«01_k».proof.Proof.Ref
@[expose] public section

set_option maxRecDepth 16384

noncomputable section

namespace Cert.KernelIdeal.Fox

open Idealize.ShloMosaic Idealize.ShloMosaic.TcCoe
open Cert.KernelIdeal Cert.KernelIdeal.Gen
open Cert.Soft
open Cert.ReferenceIdeal.Fox (refProd refMask refMax refExp refNorm refOut refW refProd_at refMask_at refMax_at refExp_at refNorm_at refOut_at)

/-- The scale of the queries is a real, not negative. -/
theorem scale_real : ∃ r : ℝ, 0 ≤ r ∧ Ideal.ofBits .f32 0x3E000000#32 = (r : EReal) := by
  refine ⟨1 / 8, by norm_num, ?_⟩
  simp [Ideal.ofBits, Ideal.ieee]
  rw [← EReal.coe_mul]
  norm_num

/-- A sum of products of reals is a real. -/
theorem real_sum (n : ℕ) (f g : Fin n → EReal) (hf : ∀ i, ∃ r : ℝ, f i = r) (hg : ∀ i, ∃ r : ℝ, g i = r) :
    ∃ r : ℝ, ∑ i, f i * g i = (r : EReal) := by
  choose a ha using hf
  choose b hb using hg
  refine ⟨∑ i, a i * b i, ?_⟩
  rw [coe_sum]
  exact Finset.sum_congr rfl fun i _ => by rw [ha, hb, EReal.coe_mul]

/-- A score of reals is a real. -/
theorem real_score (q k qf kf : FVec Ideal S4x4096x1024 .f32)
    (hq : ∀ i, ∃ r : ℝ, (show EReal from q i) = r) (hk : ∀ i, ∃ r : ℝ, (show EReal from k i) = r)
    (hqf : ∀ i, ∃ r : ℝ, (show EReal from qf i) = r) (hkf : ∀ i, ∃ r : ℝ, (show EReal from kf i) = r)
    (b : Fin 4) (h : Fin 16) (t s : Fin 4096) :
    ∃ r : ℝ, (show EReal from refProd q k qf kf (ix4 b h t s)) = r := by
  rw [refProd_at]
  obtain ⟨x, hx⟩ := real_sum 64 (fun d => q (ix3 b t ⟨h.val * 64 + d.val, by omega⟩)) (fun d => k (ix3 b s ⟨h.val * 64 + d.val, by omega⟩))
    (fun d => hq _) (fun d => hk _)
  obtain ⟨y, hy⟩ := real_sum 64 (fun d => qf (ix3 b t ⟨h.val * 64 + d.val, by omega⟩)) (fun d => kf (ix3 b s ⟨h.val * 64 + d.val, by omega⟩))
    (fun d => hqf _) (fun d => hkf _)
  obtain ⟨z, _, hz⟩ := scale_real
  refine ⟨x * z + y, ?_⟩
  rw [EReal.coe_add, EReal.coe_mul, ← hx, ← hy, ← hz]

/-- Scaling the queries first is scaling the products. -/
theorem scaled (f g : Fin 64 → EReal) :
    ∑ d, f d * (g d * Ideal.ofBits .f32 0x3E000000#32) = (∑ d, g d * f d) * Ideal.ofBits .f32 0x3E000000#32 := by
  obtain ⟨z, h0, hz⟩ := scale_real
  rw [hz, mul_comm _ (z : EReal), mul_sum _ _ (by exact_mod_cast h0) (EReal.coe_ne_top z)]
  exact Finset.sum_congr rfl fun d _ => by rw [mul_comm (g d) (z : EReal), mul_left_comm, mul_comm (f d) (g d)]

variable (m : (ℓ : Loc nD τ sig) → Buf (Elt Ideal) ℓ)

/-- The reference's masked scores, of the kernel's arguments. -/
def refS (c : Dev nD) : FVec Ideal Cert.ReferenceIdeal.S4x16x4096x4096 .f32 := refMask (refProd (argQ m c) (argK m c) (argQF m c) (argKF m c))

/-- The masked score the kernel forms for a query and a key is the reference's. -/
theorem score_eq (c : Dev nD) (t : Fin cfg0.N) (h : Fin 8) (x : Fin 256) (j : Fin 4096) :
    causal (kaug (blk2 m c t) (blk3 m c t)) (qh (blk0 m c t) (blk1 m c t) h) h (t.val % 16) x j.val
      = (show EReal from refS m c (ix4 (⟨t.val / 32, by have := lt128 t; omega⟩ : Fin 4)
          (⟨8 * (t.val / 16 % 2) + h.val, by omega⟩ : Fin 16) (⟨256 * (t.val % 16) + x.val, by omega⟩ : Fin 4096) j)) := by
  have ht := lt128 t
  unfold refS
  rw [refMask_at]
  unfold causal
  refine if_congr Iff.rfl ?_ rfl
  rw [scoreOf_at, refProd_at]
  refine Ideal.add_congr ?_ ?_
  · rw [← scaled]
    refine Finset.sum_congr rfl fun d _ => Ideal.mul_congr ?_ ?_
    · refine (blk2_at m c t _ _).trans (congrArg (argK m c) ?_)
      idx_ext
    · refine (blk0_at m c t _ _).trans (congrArg (fun z => argQ m c z * Ideal.ofBits .f32 0x3E000000#32) ?_)
      idx_ext
  · refine Finset.sum_congr rfl fun d _ => (Ideal.mul_congr ?_ ?_).trans (mul_comm _ _)
    · refine (blk3_at m c t _ _).trans (congrArg (argKF m c) ?_)
      idx_ext
    · refine (blk1_at m c t _ _).trans (congrArg (argQF m c) ?_)
      idx_ext

/-- A point's block of the output, in the reference's scores. -/
theorem outAt_at (c : Dev nD)
    (hreal : ∀ b h t s, ∃ r : ℝ, (show EReal from refProd (argQ m c) (argK m c) (argQF m c) (argKF m c) (ix4 b h t s)) = r)
    (t : Fin cfg0.N) (x : Fin 256) (y : Fin 512) :
    (show EReal from outAt m c t (ix2 x y))
      = refOut (refNorm (refW (argQ m c) (argK m c) (argQF m c) (argKF m c))) (argV m c)
          (ix2 (⟨256 * (t.val / 32 * 16 + t.val % 16) + x.val, by have := lt128 t; omega⟩ : Fin 16384)
            (⟨512 * (t.val / 16 % 2) + y.val, by omega⟩ : Fin 1024)) := by
  have ht := lt128 t
  have hN : (⟨(grid0.coords t 2).val, i2_lt _⟩ : Fin 16) = ⟨t.val % 16, by omega⟩ := Fin.ext (coord2 t)
  unfold outAt
  rw [outBlk_at]
  have hf : ∀ r : Fin 128, (finS (grid0.coords t) (blk0 m c t) (blk1 m c t) (kaug (blk2 m c t) (blk3 m c t)) (vaug (blk4 m c t)) (⟨y.val / 64, by omega⟩ : Fin 8)).2 (ix2 r x)
      = ws (causal (kaug (blk2 m c t) (blk3 m c t)) (qh (blk0 m c t) (blk1 m c t) ⟨y.val / 64, by omega⟩) ⟨y.val / 64, by omega⟩ (t.val % 16) x)
          (valOf (vaug (blk4 m c t)) ⟨y.val / 64, by omega⟩ r)
          (mx (causal (kaug (blk2 m c t) (blk3 m c t)) (qh (blk0 m c t) (blk1 m c t) ⟨y.val / 64, by omega⟩) ⟨y.val / 64, by omega⟩ (t.val % 16) x) (256 * (t.val % 16) + 256))
          (256 * (t.val % 16) + 256) := by
    intro r
    refine (updD_at _ _ _ _ x ⟨(grid0.coords t 2).val, i2_lt _⟩ r).trans ?_
    rw [hN]
  rw [hf, hf]
  have hone : valOf (vaug (blk4 m c t)) (⟨y.val / 64, by omega⟩ : Fin 8) 64 = fun _ => 1 := funext fun j => valOf_one _ _ j
  rw [hone]
  have hsc := score_eq m c t (⟨y.val / 64, by omega⟩ : Fin 8) x
  have hbig : ∀ j, 256 * (t.val % 16) + x.val < j → causal (kaug (blk2 m c t) (blk3 m c t)) (qh (blk0 m c t) (blk1 m c t) ⟨y.val / 64, by omega⟩) ⟨y.val / 64, by omega⟩ (t.val % 16) x j = ⊥ :=
    fun j hj => if_neg (by omega)
  generalize causal (kaug (blk2 m c t) (blk3 m c t)) (qh (blk0 m c t) (blk1 m c t) ⟨y.val / 64, by omega⟩) ⟨y.val / 64, by omega⟩ (t.val % 16) x = S at hsc hbig ⊢
  have hlo : ∀ j, j ≤ 256 * (t.val % 16) + x.val → ∃ r : ℝ, S j = r := by
    intro j hj
    have e := hsc ⟨j, by omega⟩
    unfold refS at e
    rw [refMask_at, if_pos hj] at e
    obtain ⟨r, hr⟩ := hreal (⟨t.val / 32, by omega⟩ : Fin 4) (⟨8 * (t.val / 16 % 2) + y.val / 64, by omega⟩ : Fin 16) (⟨256 * (t.val % 16) + x.val, by omega⟩ : Fin 4096) ⟨j, by omega⟩
    exact ⟨r, e.trans hr⟩
  refine (attend (N := 4096) _ (by omega) (fun j hj => hbig j (by omega)) (fun j => ?_) ⟨256 * (t.val % 16) + x.val, by omega, ?_⟩).trans ?_
  · by_cases hj : j ≤ 256 * (t.val % 16) + x.val
    · obtain ⟨r, hr⟩ := hlo j hj
      rw [hr]; exact EReal.coe_ne_top r
    · rw [hbig j (by omega)]; exact bot_ne_top
  · obtain ⟨r, hr⟩ := hlo _ le_rfl
    rw [hr]; exact EReal.coe_ne_bot r
  refine Eq.trans ?_ (refOut_at _ _ _ _).symm
  have hb : (⟨(256 * (t.val / 32 * 16 + t.val % 16) + x.val) / 4096, by omega⟩ : Fin 4) = ⟨t.val / 32, by omega⟩ := Fin.ext (by show (256 * (t.val / 32 * 16 + t.val % 16) + x.val) / 4096 = t.val / 32; omega)
  have hh : (⟨(512 * (t.val / 16 % 2) + y.val) / 64, by omega⟩ : Fin 16) = ⟨8 * (t.val / 16 % 2) + y.val / 64, by omega⟩ := Fin.ext (by show (512 * (t.val / 16 % 2) + y.val) / 64 = 8 * (t.val / 16 % 2) + y.val / 64; omega)
  have hq : (⟨(256 * (t.val / 32 * 16 + t.val % 16) + x.val) % 4096, by omega⟩ : Fin 4096) = ⟨256 * (t.val % 16) + x.val, by omega⟩ := Fin.ext (by show (256 * (t.val / 32 * 16 + t.val % 16) + x.val) % 4096 = 256 * (t.val % 16) + x.val; omega)
  refine Finset.sum_congr rfl fun j _ => Ideal.mul_congr ?_ ?_
  · refine (valOf_lo _ _ (⟨y.val % 64, by omega⟩ : Fin 64) j).trans ((blk4_at m c t _ _ _).trans (congrArg (argV m c) ?_))
    idx_ext
  · have hw : ∀ k : Fin 4096, (show EReal from refW (argQ m c) (argK m c) (argQF m c) (argKF m c)
        (ix4 (⟨(256 * (t.val / 32 * 16 + t.val % 16) + x.val) / 4096, by omega⟩ : Fin 4) (⟨(512 * (t.val / 16 % 2) + y.val) / 64, by omega⟩ : Fin 16) (⟨(256 * (t.val / 32 * 16 + t.val % 16) + x.val) % 4096, by omega⟩ : Fin 4096) k))
        = Ideal.exp (S k.val - mx S 4096) := by
      intro k
      rw [hb, hh, hq]
      unfold refW
      rw [refExp_at, refMax_at, ← sup_fin]
      have e : (fun k : Fin 4096 => S k.val) = fun k => (show EReal from refMask (refProd (argQ m c) (argK m c) (argQF m c) (argKF m c)) (ix4 (⟨t.val / 32, by omega⟩ : Fin 4)
          (⟨8 * (t.val / 16 % 2) + y.val / 64, by omega⟩ : Fin 16) (⟨256 * (t.val % 16) + x.val, by omega⟩ : Fin 4096) k)) := funext fun k => hsc k
      rw [e, hsc k]
      rfl
    refine Eq.symm ((refNorm_at _ _ _ _ _).trans ?_)
    exact congrArg₂ Ideal.div (hw j) (Finset.sum_congr rfl fun k _ => hw k)

end Cert.KernelIdeal.Fox

end
-- ==== Proof.Pre.lean ====
/- The precondition read back: every query, key and gate feature is a real number. -/
module

public import proofs.«01_k».proof.Defs
public import proofs.«01_k».proof.Proof.Blocks
public import Idealize.ShloMosaic.Lib.Pointwise
public import Idealize.ShloMosaic.Lib.ReduceAll
@[expose] public section

set_option maxRecDepth 16384

noncomputable section

namespace Cert.KernelIdeal.Fox

open Idealize.ShloMosaic Idealize.ShloMosaic.TcCoe

/-- The shape conditions of the precondition. -/
instance preFacts : Cert.Pre_finite.Facts where
  bcast_S_S4x4096x1024 := by decide
  reducesTo_S4x4096x1024_S_d0_1_2 := by decide
  h_S_ := by decide
  bcast_S_S1 := by decide
  concatenates_S1_S1_S1_S1_S4_d0 := by decide
  reducesTo_S4_S_d0 := by decide

open Cert.Pre_finite Cert.Pre_finite.Facts

instance : Subsingleton Cert.Pre_finite.S_.Idx := ⟨fun a b => funext fun i => i.elim0⟩

/-- An array that passes the test of its absolute values holds reals alone. -/
theorem real_of_test (x : FVec Ideal S4x4096x1024 .f32)
    (e : Host.reduce IntOp.andi (cmpf .olt (Host.absf x) (broadcastInDim S4x4096x1024 ![] bcast_S_S4x4096x1024 (constant S_ .f32 0x7F800000#32)))
      (constantI S_ 1 1#1) reducesTo_S4x4096x1024_S_d0_1_2 h_S_ ix0 = 1#1) (i : S4x4096x1024.Idx) :
    ∃ r : ℝ, (show EReal from x i) = r := by
  have e := Host.reduce_andi_all _ _ _ _ _ e i
  pointwise at e
  have top : Ideal.ofBits .f32 0x7F800000#32 = ⊤ := by simp [Ideal.ofBits, Ideal.ieee]
  have e : max (show EReal from x i) (-(show EReal from x i)) < Ideal.ofBits .f32 0x7F800000#32 := by
    by_contra hn
    rw [show decide (FloatOps.absf (x i) < Ideal.ofBits .f32 0x7F800000#32) = false from decide_eq_false hn] at e
    exact absurd e (by decide)
  rw [top, max_lt_iff] at e
  refine ⟨(show EReal from x i).toReal, (EReal.coe_toReal e.1.ne fun hb => ?_).symm⟩
  have h2 := e.2
  rw [hb] at h2
  exact absurd h2 (by simp)

/-- Four words, each 1 when their conjunction is. -/
theorem parts (a b c d : IVec S_ 1) (e : fn_part1 (F := Ideal) a b c d = fun _ => 1#1) : a ix0 = 1#1 ∧ b ix0 = 1#1 ∧ c ix0 = 1#1 ∧ d ix0 = 1#1 := by
  have e := congrFun e ix0
  have e := Host.reduce_andi_all _ _ _ _ _ e
  have e0 := e (ix1 0)
  have e1 := e (ix1 1)
  have e2 := e (ix1 2)
  have e3 := e (ix1 3)
  pointwise at e0 e1 e2 e3
  exact ⟨e0, e1, e2, e3⟩

/-- The precondition makes the queries, the keys and the gate features reals. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, ∃ r : ℝ, (show EReal from argQ m c i) = r) ∧ (∀ i, ∃ r : ℝ, (show EReal from argK m c i) = r)
      ∧ (∀ i, ∃ r : ℝ, (show EReal from argQF m c i) = r) ∧ (∀ i, ∃ r : ℝ, (show EReal from argKF m c i) = r) := by
  obtain ⟨h0, h1, h2, h3⟩ := parts _ _ _ _ (h c)
  exact ⟨real_of_test _ h0, real_of_test _ h1, real_of_test _ h2, real_of_test _ h3⟩

end Cert.KernelIdeal.Fox

end
-- ==== Proof.Final.lean ====
/- The array the kernel leaves is the reference's result. -/
module

public import proofs.«01_k».proof.Proof.Value
public import proofs.«01_k».proof.Proof.Pre
@[expose] public section

set_option maxRecDepth 16384

noncomputable section

namespace Cert.KernelIdeal.Fox

open Idealize.ShloMosaic Idealize.ShloMosaic.TcCoe
open Cert.KernelIdeal Cert.KernelIdeal.Gen
open Cert.Soft
open Cert.ReferenceIdeal.Fox (refProd refNorm refOut refW)

variable (m : (ℓ : Loc nD τ sig) → Buf (Elt Ideal) ℓ)

/-- Under the precondition the output array, once every point has run, is the reference's result of the same arguments. -/
theorem out_eq (h : Cert.Pre_KernelIdeal_finite m) (c : Dev nD) :
    (dats m 0 c).arrAt 5 (cfgs 0).N = refOut (refNorm (refW (argQ m c) (argK m c) (argQF m c) (argKF m c))) (argV m c) := by
  obtain ⟨hq, hk, hqf, hkf⟩ := real_args m h c
  refine (dats m 0 c).arrAt_eq_of_covers 5 _ (by decide +kernel) fun t _ y => ?_
  blk_simp
  rw [after0_5]
  have e := outAt_at m c (real_score _ _ _ _ hq hk hqf hkf) t (y 0) (y 1)
  have ht := lt128 t
  have hy : (show S256x512.Idx from y) = ix2 (y 0) (y 1) := funext fun a => by fin_cases a <;> rfl
  refine (congrArg (outAt m c t) hy).trans (e.trans (congrArg (refOut (refNorm (refW (argQ m c) (argK m c) (argQF m c) (argKF m c))) (argV m c)) ?_))
  blk_ext [idx t]

end Cert.KernelIdeal.Fox

end
-- ==== Proof.Rows.lean ====
/- A row divided by the root of its mean square and modulated. -/
module

public import Idealize.ShloMosaic.Lib.Pointwise
@[expose] public section

noncomputable section

namespace Cert.Rows

open Idealize.ShloMosaic

/-- Column `c` of a row of 1024 numbers `f`, divided by the root of its mean square (plus a small constant), times `gain`,
times one plus `sc`, plus `sh`. -/
def modRow (f gain sc sh : Fin 1024 → EReal) (c : Fin 1024) : EReal :=
  f c * Ideal.rsqrt (Ideal.div (∑ x, f x * f x) (Ideal.ofBits .f32 1149239296#32) + Ideal.ofBits .f32 897988541#32) * gain c * (1 + sc c) + sh c

/-- The same with every entry of the four rows equal to another's. -/
theorem modRow_congr {f f' gain gain' sc sc' sh sh' : Fin 1024 → EReal} (hf : ∀ x, f x = f' x) (hg : ∀ x, gain x = gain' x)
    (hsc : ∀ x, sc x = sc' x) (hsh : ∀ x, sh x = sh' x) (c : Fin 1024) : modRow f gain sc sh c = modRow f' gain' sc' sh' c := by
  rw [funext hf, funext hg, funext hsc, funext hsh]

end Cert.Rows

end
-- ==== Proof.Res2Ref.lean ====
/- The second reference's results at the ideal instance, by coordinates. -/
module

public import proofs.«01_k».proof.Proof.Gen.Reference2Ideal
public import proofs.«01_k».proof.Proof.Gen.Reference2Ideal.Run
public import proofs.«01_k».proof.Proof.Rows
public import Idealize.ShloMosaic.Lib.Pointwise
@[expose] public section

set_option maxRecDepth 16384

noncomputable section

namespace Cert.Reference2Ideal.Res

open Idealize.ShloMosaic Idealize.ShloMosaic.TcCoe
open Cert.Reference2Ideal Cert.Reference2Ideal.Gen
open Cert.Rows

/-- The residual: the input plus the gate times the mixer's output through the output projection. -/
def refX (x o : FVec Ideal S4x4096x1024 .f32) (w : FVec Ideal S1024x1024 .f32) (g : FVec Ideal S4x1x1024 .f32) : FVec Ideal S4x4096x1024 .f32 :=
  addf x (mulf (broadcastInDim S4x4096x1024 ![0, 1, 2] bcast_S4x1x1024_S4x4096x1024_0_1_2 g) (Host.dotGeneral dot_S4x4096x1024_S1024x1024_S4x4096x1024_2_0_01_1_n_n none o w))

/-- The normalized and modulated rows. -/
def refH (X : FVec Ideal S4x4096x1024 .f32) (gain : FVec Ideal S1024 .f32) (sc sh : FVec Ideal S4x1x1024 .f32) : FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 gain))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)

/-- The normalized rows laid flat. -/
def out1 (H : FVec Ideal S4x4096x1024 .f32) : FVec Ideal S16384x1024 .bf16 :=
  truncf .bf16 (shapeCast _ H shapeCasts_S4x4096x1024_S16384x1024) bitsLt_bf16_f32

/-- The queries: the normalized rows times the query weights. -/
def out2 (H : FVec Ideal S4x4096x1024 .f32) (w : FVec Ideal S1024x2048 .f32) : FVec Ideal S16384x2048 .bf16 :=
  truncf .bf16 (Host.dotGeneral dot_S16384x1024_S1024x2048_S16384x2048_1_0_0_1_n_n none (shapeCast _ H shapeCasts_S4x4096x1024_S16384x1024) w) bitsLt_bf16_f32

/-- The residual's rows laid flat. -/
def out0 (X : FVec Ideal S4x4096x1024 .f32) : FVec Ideal S16384x1024 .f32 :=
  shapeCast _ X shapeCasts_S4x4096x1024_S16384x1024

/-- An entry of the residual. -/
theorem refX_at (x o : FVec Ideal S4x4096x1024 .f32) (w : FVec Ideal S1024x1024 .f32) (g : FVec Ideal S4x1x1024 .f32) (b : Fin 4) (s : Fin 4096) (c : Fin 1024) :
    (show EReal from refX x o w g (ix3 b s c)) = x (ix3 b s c) + g (ix3 b 0 c) * ∑ k : Fin 1024, o (ix3 b s k) * w (ix2 k c) := by
  pointwise [refX]

/-- An entry of the normalized rows. -/
theorem refH_at (X : FVec Ideal S4x4096x1024 .f32) (gain : FVec Ideal S1024 .f32) (sc sh : FVec Ideal S4x1x1024 .f32) (b : Fin 4) (s : Fin 4096) (c : Fin 1024) :
    (show EReal from refH X gain sc sh (ix3 b s c))
      = modRow (fun x => X (ix3 b s x)) (fun x => gain (ix1 x)) (fun x => sc (ix3 b 0 x)) (fun x => sh (ix3 b 0 x)) c := by
  pointwise [refH]
  rfl

/-- Row `r` of the flat residual is token `r`'s, counted over the batch. -/
theorem out0_at (X : FVec Ideal S4x4096x1024 .f32) (r : Fin 16384) (c : Fin 1024) :
    (show EReal from out0 X (ix2 r c)) = X (ix3 (⟨r.val / 4096, by omega⟩ : Fin 4) (⟨r.val % 4096, by omega⟩ : Fin 4096) c) := by
  pointwise [out0]

/-- Row `r` of the flat normalized rows is token `r`'s, counted over the batch. -/
theorem out1_at (H : FVec Ideal S4x4096x1024 .f32) (r : Fin 16384) (c : Fin 1024) :
    (show EReal from out1 H (ix2 r c)) = H (ix3 (⟨r.val / 4096, by omega⟩ : Fin 4) (⟨r.val % 4096, by omega⟩ : Fin 4096) c) := by
  pointwise [out1]

/-- A query of token `r`, counted over the batch. -/
theorem out2_at (H : FVec Ideal S4x4096x1024 .f32) (w : FVec Ideal S1024x2048 .f32) (r : Fin 16384) (c : Fin 2048) :
    (show EReal from out2 H w (ix2 r c))
      = ∑ k : Fin 1024, H (ix3 (⟨r.val / 4096, by omega⟩ : Fin 4) (⟨r.val % 4096, by omega⟩ : Fin 4096) k) * w (ix2 k c) := by
  pointwise [out2]

end Cert.Reference2Ideal.Res

end
-- ==== Proof.Res2.lean ====
/- The second kernel's blocks at the ideal instance, by coordinates, and the arrays they leave. -/
module

public import proofs.«01_k».proof.Proof.Gen.Kernel2Ideal.Value
public import proofs.«01_k».proof.Proof.Res2Ref
public import Idealize.ShloMosaic.Lib.Pointwise
public import Idealize.ShloMosaic.Lib.Pipeline.ValueKit
@[expose] public section

set_option maxRecDepth 16384

noncomputable section

namespace Cert.Kernel2Ideal.Res

open Idealize.ShloMosaic Idealize.ShloMosaic.TcCoe
open Cert.Kernel2Ideal Cert.Kernel2Ideal.Gen
open Cert.Rows
open Cert.Reference2Ideal.Res (refX refH out0 out1 out2)

/-- An entry of the residual's block: the input plus the gate times the product with the output projection. -/
theorem pay3_at (M : Vec Ideal S512x1024 .bf16) (W : Vec Ideal S1024x1024 .bf16) (X : Vec Ideal S512x1024 .f32) (G : Vec Ideal S1x1x1024 .f32)
    (r : Fin 512) (c : Fin 1024) :
    (show EReal from k0_pay3 M W X G (ix2 r c)) = X (ix2 r c) + G (ix3 0 0 c) * ∑ k : Fin 1024, M (ix2 r k) * W (ix2 k c) := by
  pointwise [k0_pay3]

/-- An entry of the normalized block. -/
theorem pay1_at (M : Vec Ideal S512x1024 .bf16) (W : Vec Ideal S1024x1024 .bf16) (X : Vec Ideal S512x1024 .f32) (G : Vec Ideal S1x1x1024 .f32)
    (P : Vec Ideal S1x1024 .f32) (Q S : Vec Ideal S1x1x1024 .f32) (r : Fin 512) (c : Fin 1024) :
    (show EReal from k0_pay1 (k0_pay4 M W X G P Q) S (ix2 r c))
      = modRow (fun x => k0_pay3 M W X G (ix2 r x)) (fun x => P (ix2 0 x)) (fun x => Q (ix3 0 0 x)) (fun x => S (ix3 0 0 x)) c := by
  pointwise [k0_pay1, k0_pay4]
  rfl

/-- An entry of the queries' block. -/
theorem pay2_at (H : FVec Ideal S512x1024 .f32) (S : Vec Ideal S1x1x1024 .f32) (W : Vec Ideal S1024x2048 .bf16) (r : Fin 512) (c : Fin 2048) :
    (show EReal from k0_pay2 H S W (ix2 r c)) = ∑ k : Fin 1024, k0_pay1 H S (ix2 r k) * W (ix2 k c) := by
  pointwise [k0_pay2]

variable (x0 : Vec Ideal S512x1024 .f32) (x1 : Vec Ideal S512x1024 .bf16) (x2 : Vec Ideal S1024x1024 .bf16) (x3 : Vec Ideal S1x1x1024 .f32)
  (x4 : Vec Ideal S1x1024 .f32) (x5 x6 : Vec Ideal S1x1x1024 .f32) (x7 : Vec Ideal S1024x2048 .bf16)

/-- The first output's block is the residual of the input blocks. -/
theorem out8_eq : out0_8 x0 x1 x2 x3 x4 x5 x6 x7 = k0_pay3 x1 x2 x0 x3 := by
  frame_out [out0_8]

/-- The second output's block is the normalized block. -/
theorem out9_eq : out0_9 x0 x1 x2 x3 x4 x5 x6 x7 = k0_pay1 (k0_pay4 x1 x2 x0 x3 x4 x5) x6 := by
  frame_out [out0_9, k0_pay5]

/-- The third output's block is the queries' block. -/
theorem out10_eq : out0_10 x0 x1 x2 x3 x4 x5 x6 x7 = k0_pay2 (k0_pay4 x1 x2 x0 x3 x4 x5) x6 x7 := by
  frame_out [out0_10, k0_pay5]

/-- Which block of its array each window reads or writes at a point. -/
theorem idx : ∀ t : Fin cfg0.N,
    win0_0.index t = ![t.val, 0] ∧ win0_1.index t = ![t.val, 0] ∧ win0_2.index t = ![0, 0] ∧ win0_3.index t = ![t.val / 8, 0, 0]
      ∧ win0_4.index t = ![0, 0] ∧ win0_5.index t = ![t.val / 8, 0, 0] ∧ win0_6.index t = ![t.val / 8, 0, 0] ∧ win0_7.index t = ![0, 0]
      ∧ win0_8.index t = ![t.val, 0] ∧ win0_9.index t = ![t.val, 0] ∧ win0_10.index t = ![t.val, 0] :=
  (by decide +kernel : ∀ t : Fin grid0.N,
    win0_0.index t = ![t.val, 0] ∧ win0_1.index t = ![t.val, 0] ∧ win0_2.index t = ![0, 0] ∧ win0_3.index t = ![t.val / 8, 0, 0]
      ∧ win0_4.index t = ![0, 0] ∧ win0_5.index t = ![t.val / 8, 0, 0] ∧ win0_6.index t = ![t.val / 8, 0, 0] ∧ win0_7.index t = ![0, 0]
      ∧ win0_8.index t = ![t.val, 0] ∧ win0_9.index t = ![t.val, 0] ∧ win0_10.index t = ![t.val, 0])

theorem lt32 (t : Fin cfg0.N) : t.val < 32 := lt_of_lt_of_eq t.isLt (by decide +kernel)

variable (m : (ℓ : Loc nD τ sig) → Buf (Elt Ideal) ℓ)

/-- The eight arguments. -/
def argX (c : Dev nD) : FVec Ideal S4x4096x1024 .f32 := m ((c.tc : Thread nD τ).loc main_arg0)
def argO (c : Dev nD) : FVec Ideal S4x4096x1024 .f32 := m ((c.tc : Thread nD τ).loc main_arg1)
def argW (c : Dev nD) : FVec Ideal S1024x1024 .f32 := m ((c.tc : Thread nD τ).loc main_arg2)
def argG (c : Dev nD) : FVec Ideal S4x1x1024 .f32 := m ((c.tc : Thread nD τ).loc main_arg3)
def argGain (c : Dev nD) : FVec Ideal S1024 .f32 := m ((c.tc : Thread nD τ).loc main_arg4)
def argSc (c : Dev nD) : FVec Ideal S4x1x1024 .f32 := m ((c.tc : Thread nD τ).loc main_arg5)
def argSh (c : Dev nD) : FVec Ideal S4x1x1024 .f32 := m ((c.tc : Thread nD τ).loc main_arg6)
def argWq (c : Dev nD) : FVec Ideal S1024x2048 .f32 := m ((c.tc : Thread nD τ).loc main_arg7)

/-- The flat layout: row `r` is token `r`, counted over the batch. -/
theorem layF (X : FVec Ideal S4x4096x1024 .f32) (r : Fin 16384) (a : Fin 1024) :
    shapeCast S16384x1024 X shapeCasts_S4x4096x1024_S16384x1024 (ix2 r a)
      = X (ix3 (⟨r.val / 4096, by omega⟩ : Fin 4) (⟨r.val % 4096, by omega⟩ : Fin 4096) a) := by
  pointwise

/-- The batch entry and the position of row `r` of point `t`'s block. -/
def bt (t : Fin cfg0.N) : Fin 4 := ⟨t.val / 8, by have := lt32 t; omega⟩
def st (t : Fin cfg0.N) (r : Fin 512) : Fin 4096 := ⟨512 * (t.val % 8) + r.val, by omega⟩

/-- The input's block. -/
theorem blk0_at (c : Dev nD) (t : Fin cfg0.N) (r : Fin 512) (x : Fin 1024) :
    (show EReal from (iblk m c 0 t : Vec Ideal S512x1024 .f32) (ix2 r x)) = argX m c (ix3 (bt t) (st t r) x) := by
  have ht := lt32 t
  blk_simp [iblk]
  entry_read
  refine Eq.trans (b := shapeCast S16384x1024 (argX m c) shapeCasts_S4x4096x1024_S16384x1024
    (ix2 (⟨512 * t.val + r.val, by omega⟩ : Fin 16384) x)) ?_ ?_
  · refine congrArg (shapeCast S16384x1024 (argX m c) shapeCasts_S4x4096x1024_S16384x1024) ?_
    blk_ext [idx t]
  · rw [layF]
    refine congrArg (argX m c) ?_
    unfold bt st
    idx_ext

/-- The mixer output's block. -/
theorem blk1_at (c : Dev nD) (t : Fin cfg0.N) (r : Fin 512) (x : Fin 1024) :
    (show EReal from (iblk m c 1 t : Vec Ideal S512x1024 .bf16) (ix2 r x)) = argO m c (ix3 (bt t) (st t r) x) := by
  have ht := lt32 t
  blk_simp [iblk]
  entry_read
  refine Eq.trans (b := shapeCast S16384x1024 (argO m c) shapeCasts_S4x4096x1024_S16384x1024
    (ix2 (⟨512 * t.val + r.val, by omega⟩ : Fin 16384) x)) ?_ ?_
  · refine congrArg (shapeCast S16384x1024 (argO m c) shapeCasts_S4x4096x1024_S16384x1024) ?_
    blk_ext [idx t]
  · rw [layF]
    refine congrArg (argO m c) ?_
    unfold bt st
    idx_ext

/-- The output projection. -/
theorem blk2_at (c : Dev nD) (t : Fin cfg0.N) (r x : Fin 1024) :
    (show EReal from (iblk m c 2 t : Vec Ideal S1024x1024 .bf16) (ix2 r x)) = argW m c (ix2 r x) := by
  blk_simp [iblk]
  entry_read
  refine congrArg (argW m c) ?_
  blk_ext [idx t]

/-- The gate of the point's batch entry. -/
theorem blk3_at (c : Dev nD) (t : Fin cfg0.N) (x : Fin 1024) :
    (show EReal from (iblk m c 3 t : Vec Ideal S1x1x1024 .f32) (ix3 0 0 x)) = argG m c (ix3 (bt t) 0 x) := by
  blk_simp [iblk]
  entry_read
  refine congrArg (argG m c) ?_
  unfold bt
  blk_ext [idx t]

/-- The norm's gain. -/
theorem blk4_at (c : Dev nD) (t : Fin cfg0.N) (x : Fin 1024) :
    (show EReal from (iblk m c 4 t : Vec Ideal S1x1024 .f32) (ix2 0 x)) = argGain m c (ix1 x) := by
  blk_simp [iblk]
  entry_read
  refine Eq.trans (b := shapeCast S1x1024 (argGain m c) shapeCasts_S1024_S1x1024 (ix2 0 x)) ?_ ?_
  · refine congrArg (shapeCast S1x1024 (argGain m c) shapeCasts_S1024_S1x1024) ?_
    blk_ext [idx t]
  · pointwise

/-- The scale of the point's batch entry. -/
theorem blk5_at (c : Dev nD) (t : Fin cfg0.N) (x : Fin 1024) :
    (show EReal from (iblk m c 5 t : Vec Ideal S1x1x1024 .f32) (ix3 0 0 x)) = argSc m c (ix3 (bt t) 0 x) := by
  blk_simp [iblk]
  entry_read
  refine congrArg (argSc m c) ?_
  unfold bt
  blk_ext [idx t]

/-- The shift of the point's batch entry. -/
theorem blk6_at (c : Dev nD) (t : Fin cfg0.N) (x : Fin 1024) :
    (show EReal from (iblk m c 6 t : Vec Ideal S1x1x1024 .f32) (ix3 0 0 x)) = argSh m c (ix3 (bt t) 0 x) := by
  blk_simp [iblk]
  entry_read
  refine congrArg (argSh m c) ?_
  unfold bt
  blk_ext [idx t]

/-- The query weights. -/
theorem blk7_at (c : Dev nD) (t : Fin cfg0.N) (r : Fin 1024) (x : Fin 2048) :
    (show EReal from (iblk m c 7 t : Vec Ideal S1024x2048 .bf16) (ix2 r x)) = argWq m c (ix2 r x) := by
  blk_simp [iblk]
  entry_read
  refine congrArg (argWq m c) ?_
  blk_ext [idx t]

/-- The reference's residual and normalized rows of the arguments. -/
def rX (c : Dev nD) : FVec Ideal S4x4096x1024 .f32 := refX (argX m c) (argO m c) (argW m c) (argG m c)
def rH (c : Dev nD) : FVec Ideal S4x4096x1024 .f32 := refH (rX m c) (argGain m c) (argSc m c) (argSh m c)

/-- Row `r` of point `t`'s residual is the reference's. -/
theorem res_at (c : Dev nD) (t : Fin cfg0.N) (r : Fin 512) (x : Fin 1024) :
    (show EReal from k0_pay3 (iblk m c 1 t) (iblk m c 2 t) (iblk m c 0 t) (iblk m c 3 t) (ix2 r x)) = rX m c (ix3 (bt t) (st t r) x) := by
  refine (pay3_at (iblk m c 1 t) (iblk m c 2 t) (iblk m c 0 t) (iblk m c 3 t) r x).trans (Eq.trans ?_ (Cert.Reference2Ideal.Res.refX_at _ _ _ _ (bt t) (st t r) x).symm)
  refine Ideal.add_congr (blk0_at m c t r x) (Ideal.mul_congr (blk3_at m c t x) (Finset.sum_congr rfl fun k _ => Ideal.mul_congr (blk1_at m c t r k) (blk2_at m c t k x)))

/-- Row `r` of point `t`'s normalized block is the reference's. -/
theorem nrm_at (c : Dev nD) (t : Fin cfg0.N) (r : Fin 512) (x : Fin 1024) :
    (show EReal from k0_pay1 (k0_pay4 (iblk m c 1 t) (iblk m c 2 t) (iblk m c 0 t) (iblk m c 3 t) (iblk m c 4 t) (iblk m c 5 t)) (iblk m c 6 t) (ix2 r x))
      = rH m c (ix3 (bt t) (st t r) x) := by
  refine (pay1_at (iblk m c 1 t) (iblk m c 2 t) (iblk m c 0 t) (iblk m c 3 t) (iblk m c 4 t) (iblk m c 5 t) (iblk m c 6 t) r x).trans (Eq.trans ?_ (Cert.Reference2Ideal.Res.refH_at _ _ _ _ (bt t) (st t r) x).symm)
  exact modRow_congr (fun k => res_at m c t r k) (fun k => blk4_at m c t k) (fun k => blk5_at m c t k) (fun k => blk6_at m c t k) x

/-- The row of the flat arrays that row `r` of point `t`'s blocks is. -/
def row (t : Fin cfg0.N) (r : Fin 512) : Fin 16384 := ⟨512 * t.val + r.val, by have := lt32 t; omega⟩

theorem row_div (t : Fin cfg0.N) (r : Fin 512) (h : (row t r).val / 4096 < 4) : (⟨(row t r).val / 4096, h⟩ : Fin 4) = bt t :=
  Fin.ext (by unfold row bt; dsimp only; omega)

theorem row_mod (t : Fin cfg0.N) (r : Fin 512) (h : (row t r).val % 4096 < 4096) : (⟨(row t r).val % 4096, h⟩ : Fin 4096) = st t r :=
  Fin.ext (by unfold row st; dsimp only; omega)

/-- The three blocks a point leaves are the reference's rows. -/
theorem o8_at (c : Dev nD) (t : Fin cfg0.N) (r : Fin 512) (x : Fin 1024) :
    (show EReal from out0_8 (iblk m c 0 t) (iblk m c 1 t) (iblk m c 2 t) (iblk m c 3 t) (iblk m c 4 t) (iblk m c 5 t) (iblk m c 6 t) (iblk m c 7 t) (ix2 r x))
      = out0 (rX m c) (ix2 (row t r) x) := by
  refine (congrFun (out8_eq _ _ _ _ _ _ _ _) (ix2 r x)).trans ((res_at m c t r x).trans ?_)
  refine Eq.trans ?_ (Cert.Reference2Ideal.Res.out0_at (rX m c) (row t r) x).symm
  rw [row_div, row_mod]

theorem o9_at (c : Dev nD) (t : Fin cfg0.N) (r : Fin 512) (x : Fin 1024) :
    (show EReal from out0_9 (iblk m c 0 t) (iblk m c 1 t) (iblk m c 2 t) (iblk m c 3 t) (iblk m c 4 t) (iblk m c 5 t) (iblk m c 6 t) (iblk m c 7 t) (ix2 r x))
      = out1 (rH m c) (ix2 (row t r) x) := by
  refine (congrFun (out9_eq _ _ _ _ _ _ _ _) (ix2 r x)).trans ((nrm_at m c t r x).trans ?_)
  refine Eq.trans ?_ (Cert.Reference2Ideal.Res.out1_at (rH m c) (row t r) x).symm
  rw [row_div, row_mod]

theorem o10_at (c : Dev nD) (t : Fin cfg0.N) (r : Fin 512) (x : Fin 2048) :
    (show EReal from out0_10 (iblk m c 0 t) (iblk m c 1 t) (iblk m c 2 t) (iblk m c 3 t) (iblk m c 4 t) (iblk m c 5 t) (iblk m c 6 t) (iblk m c 7 t) (ix2 r x))
      = out2 (rH m c) (argWq m c) (ix2 (row t r) x) := by
  refine (congrFun (out10_eq _ _ _ _ _ _ _ _) (ix2 r x)).trans ((pay2_at _ _ _ r x).trans ?_)
  refine Eq.trans ?_ (Cert.Reference2Ideal.Res.out2_at (rH m c) (argWq m c) (row t r) x).symm
  rw [row_div, row_mod]
  exact Finset.sum_congr rfl fun k _ => Ideal.mul_congr (nrm_at m c t r k) (blk7_at m c t k x)

/-- The first output array, once every point has run, is the reference's residual. -/
theorem arr8 (c : Dev nD) : (dats m 0 c).arrAt 8 (cfgs 0).N = out0 (rX m c) := by
  refine (dats m 0 c).arrAt_eq_of_covers 8 _ (by decide +kernel) fun t _ y => ?_
  blk_simp
  rw [after0_8]
  have e := o8_at m c t (y 0) (y 1)
  have ht := lt32 t
  have hy : (show S512x1024.Idx from y) = ix2 (y 0) (y 1) := funext fun a => by fin_cases a <;> rfl
  refine (congrArg (out0_8 (iblk m c 0 t) (iblk m c 1 t) (iblk m c 2 t) (iblk m c 3 t) (iblk m c 4 t) (iblk m c 5 t) (iblk m c 6 t) (iblk m c 7 t)) hy).trans (e.trans (congrArg (out0 (rX m c)) ?_))
  unfold row
  blk_ext [idx t]

/-- The second output array is the reference's normalized rows. -/
theorem arr9 (c : Dev nD) : (dats m 0 c).arrAt 9 (cfgs 0).N = out1 (rH m c) := by
  refine (dats m 0 c).arrAt_eq_of_covers 9 _ (by decide +kernel) fun t _ y => ?_
  blk_simp
  rw [after0_9]
  have e := o9_at m c t (y 0) (y 1)
  have ht := lt32 t
  have hy : (show S512x1024.Idx from y) = ix2 (y 0) (y 1) := funext fun a => by fin_cases a <;> rfl
  refine (congrArg (out0_9 (iblk m c 0 t) (iblk m c 1 t) (iblk m c 2 t) (iblk m c 3 t) (iblk m c 4 t) (iblk m c 5 t) (iblk m c 6 t) (iblk m c 7 t)) hy).trans (e.trans (congrArg (out1 (rH m c)) ?_))
  unfold row
  blk_ext [idx t]

/-- The third output array is the reference's queries. -/
theorem arr10 (c : Dev nD) : (dats m 0 c).arrAt 10 (cfgs 0).N = out2 (rH m c) (argWq m c) := by
  refine (dats m 0 c).arrAt_eq_of_covers 10 _ (by decide +kernel) fun t _ y => ?_
  blk_simp
  rw [after0_10]
  have e := o10_at m c t (y 0) (y 1)
  have ht := lt32 t
  have hy : (show S512x2048.Idx from y) = ix2 (y 0) (y 1) := funext fun a => by fin_cases a <;> rfl
  refine (congrArg (out0_10 (iblk m c 0 t) (iblk m c 1 t) (iblk m c 2 t) (iblk m c 3 t) (iblk m c 4 t) (iblk m c 5 t) (iblk m c 6 t) (iblk m c 7 t)) hy).trans (e.trans (congrArg (out2 (rH m c) (argWq m c)) ?_))
  unfold row
  blk_ext [idx t]

end Cert.Kernel2Ideal.Res

end
-- ==== Proof.Claim2.lean ====
/- The claims of the second kernel and its reference. -/
module

public import proofs.«01_k».proof.Defs
public import proofs.«01_k».proof.Proof.Res2
public import proofs.«01_k».proof.Proof.Gen.Kernel2.Frame
public import Idealize.ShloMosaic.Lib.Claim
public import Idealize.ShloMosaic.Adequacy
public import Idealize.ShloMosaic.Init
@[expose] public section

set_option maxRecDepth 16384

noncomputable section

namespace Cert.Proof

open Idealize.ShloMosaic Idealize.SL.Sem

/-- The second kernel ends with its arguments unchanged and every semaphore at zero. -/
theorem frame_2 : Cert.quiescent_Kernel2 (hKernel2 := Cert.Kernel2.Gen.facts) := fun m g _ => Cert.Kernel2.Gen.frame m g

/-- The second idealized kernel ends with its arguments unchanged and every semaphore at zero. -/
theorem frame_2Ideal : Cert.quiescent_Kernel2Ideal (hKernel2Ideal := Cert.Kernel2Ideal.Gen.facts) := fun m g _ => Cert.Kernel2Ideal.Gen.frame m g

set_option maxHeartbeats 1600000 in
/-- The second idealized reference ends with its arguments unchanged and every semaphore at zero. -/
theorem frame_ref2 : Cert.quiescent_Reference2Ideal (hReference2Ideal := Cert.Reference2Ideal.Gen.facts) := fun m g _ =>
  (θ_run Cert.Reference2Ideal.defs _ _).mono (fun r h => ⟨fun c => (h c).2.2.2, sem_eq_zero_of_no_sems (by decide) r.2⟩)
    (Cert.Reference2Ideal.Value.run m g)

set_option maxHeartbeats 1600000 in
/-- The second kernel's three results are its reference's. -/
theorem algebraic2 : Cert.algebraic_Kernel2Ideal_Reference2Ideal (hKernel2Ideal := Cert.Kernel2Ideal.Gen.facts)
    (hReference2Ideal := Cert.Reference2Ideal.Gen.facts) := by
  intro m g m' g' hpre hargs
  refine ⟨fun c => (Cert.Kernel2Ideal.Gen.dats m 0 c).arrAt 8 (Cert.Kernel2Ideal.cfgs 0).N,
    fun c => (Cert.Kernel2Ideal.Gen.dats m 0 c).arrAt 9 (Cert.Kernel2Ideal.cfgs 0).N,
    fun c => (Cert.Kernel2Ideal.Gen.dats m 0 c).arrAt 10 (Cert.Kernel2Ideal.cfgs 0).N, Cert.Kernel2Ideal.Value.run_blocks m g, ?_⟩
  refine (θ_run Cert.Reference2Ideal.defs _ _).mono (fun r h c => ⟨(h c).1.trans ?_, (h c).2.1.trans ?_, (h c).2.2.1.trans ?_, (h c).2.2.2⟩)
    (Cert.Reference2Ideal.Value.run m' g')
  all_goals obtain ⟨h0, h1, h2, h3, h4, h5, h6, h7⟩ := hargs c
  · rw [h0, h1, h2, h3]
    exact (Cert.Kernel2Ideal.Res.arr8 m c).symm
  · rw [h0, h1, h2, h3, h4, h5, h6]
    exact (Cert.Kernel2Ideal.Res.arr9 m c).symm
  · rw [h0, h1, h2, h3, h4, h5, h6, h7]
    exact (Cert.Kernel2Ideal.Res.arr10 m c).symm

end Cert.Proof

end
-- ==== Proof.Res3.lean ====
/- The third kernel's blocks at the ideal instance, by coordinates, and the arrays they leave. -/
module

public import proofs.«01_k».proof.Proof.Gen.Kernel3Ideal.Value
public import proofs.«01_k».proof.Proof.Res2Ref
public import proofs.«01_k».proof.Proof.Gen.Reference3Ideal
public import proofs.«01_k».proof.Proof.Gen.Reference3Ideal.Run
public import Idealize.ShloMosaic.Lib.Pointwise
public import Idealize.ShloMosaic.Lib.Pipeline.ValueKit
@[expose] public section

set_option maxRecDepth 16384

noncomputable section

/-- The two mixer outputs side by side, as the reference joins them. -/
def Cert.Reference3Ideal.cat (a b : Idealize.ShloMosaic.FVec Idealize.ShloMosaic.Ideal Cert.Reference3Ideal.S4x4096x512 .f32) :
    Idealize.ShloMosaic.FVec Idealize.ShloMosaic.Ideal Cert.Reference3Ideal.S4x4096x1024 .f32 :=
  Idealize.ShloMosaic.concatenate Cert.Reference3Ideal.S4x4096x1024 2 [⟨Cert.Reference3Ideal.S4x4096x512, a⟩, ⟨Cert.Reference3Ideal.S4x4096x512, b⟩] Cert.Reference3Ideal.Gen.concatenates_S4x4096x512_S4x4096x512_S4x4096x1024_d2

namespace Cert.Kernel3Ideal.Res

open Idealize.ShloMosaic Idealize.ShloMosaic.TcCoe
open Cert.Kernel3Ideal Cert.Kernel3Ideal.Gen
open Cert.Rows
open Cert.Reference2Ideal.Res (refX refH out0 out1 out2)

/-- An entry of the residual's block: the input plus the gate times the two products with halves of the output projection. -/
theorem pay3_at (A : Vec Ideal S512x512 .bf16) (U : Vec Ideal S512x1024 .bf16) (B : Vec Ideal S512x512 .bf16) (W : Vec Ideal S512x1024 .bf16)
    (X : Vec Ideal S512x1024 .f32) (G : Vec Ideal S1x1x1024 .f32) (r : Fin 512) (c : Fin 1024) :
    (show EReal from k0_pay3 A U B W X G (ix2 r c))
      = X (ix2 r c) + G (ix3 0 0 c) * (∑ k : Fin 512, A (ix2 r k) * U (ix2 k c) + ∑ k : Fin 512, B (ix2 r k) * W (ix2 k c)) := by
  pointwise [k0_pay3]

/-- An entry of the normalized block. -/
theorem pay1_at (A : Vec Ideal S512x512 .bf16) (U : Vec Ideal S512x1024 .bf16) (B : Vec Ideal S512x512 .bf16) (W : Vec Ideal S512x1024 .bf16)
    (X : Vec Ideal S512x1024 .f32) (G : Vec Ideal S1x1x1024 .f32)
    (P : Vec Ideal S1x1024 .f32) (Q S : Vec Ideal S1x1x1024 .f32) (r : Fin 512) (c : Fin 1024) :
    (show EReal from k0_pay1 (k0_pay4 A U B W X G P) Q S (ix2 r c))
      = modRow (fun x => k0_pay3 A U B W X G (ix2 r x)) (fun x => P (ix2 0 x)) (fun x => Q (ix3 0 0 x)) (fun x => S (ix3 0 0 x)) c := by
  pointwise [k0_pay1, k0_pay4]
  rfl

/-- An entry of the queries' block. -/
theorem pay2_at (H : FVec Ideal S512x1024 .f32) (Q S : Vec Ideal S1x1x1024 .f32) (W : Vec Ideal S1024x2048 .bf16) (r : Fin 512) (c : Fin 2048) :
    (show EReal from k0_pay2 H Q S W (ix2 r c)) = ∑ k : Fin 1024, k0_pay1 H Q S (ix2 r k) * W (ix2 k c) := by
  pointwise [k0_pay2]

variable (x0 : Vec Ideal S512x1024 .f32) (x1 x2 : Vec Ideal S512x512 .bf16) (x3 : Vec Ideal S1024x1024 .bf16) (x4 : Vec Ideal S1x1x1024 .f32)
  (x5 : Vec Ideal S1x1024 .f32) (x6 x7 : Vec Ideal S1x1x1024 .f32) (x8 : Vec Ideal S1024x2048 .bf16)

/-- The first output's block is the residual of the input blocks. -/
theorem out9_eq : out0_9 x0 x1 x2 x3 x4 x5 x6 x7 x8 = k0_pay3 x1 (View.ld x3 r0_1) x2 (View.ld x3 r0_2) x0 x4 := by
  frame_out [out0_9]

/-- The second output's block is the normalized block. -/
theorem out10_eq : out0_10 x0 x1 x2 x3 x4 x5 x6 x7 x8 = k0_pay1 (k0_pay4 x1 (View.ld x3 r0_1) x2 (View.ld x3 r0_2) x0 x4 x5) x6 x7 := by
  frame_out [out0_10, k0_pay5]

/-- The third output's block is the queries' block. -/
theorem out11_eq : out0_11 x0 x1 x2 x3 x4 x5 x6 x7 x8 = k0_pay2 (k0_pay4 x1 (View.ld x3 r0_1) x2 (View.ld x3 r0_2) x0 x4 x5) x6 x7 x8 := by
  frame_out [out0_11, k0_pay5]

/-- The upper half of the output projection. -/
theorem ldU (W : Vec Ideal S1024x1024 .bf16) (k : Fin 512) (c : Fin 1024) :
    View.ld W r0_1 (ix2 k c) = W (ix2 (⟨k.val, by omega⟩ : Fin 1024) c) :=
  View.ld_unit_apply_of W _ _ _ _ _ fun a => by fin_cases a <;> simp

/-- The lower half of the output projection. -/
theorem ldW (W : Vec Ideal S1024x1024 .bf16) (k : Fin 512) (c : Fin 1024) :
    View.ld W r0_2 (ix2 k c) = W (ix2 (⟨512 + k.val, by omega⟩ : Fin 1024) c) :=
  View.ld_unit_apply_of W _ _ _ _ _ fun a => by fin_cases a <;> simp

/-- The two mixer outputs side by side, column by column. -/
theorem cat_at (a b : FVec Ideal S4x4096x512 .f32) (i : Fin 4) (s : Fin 4096) (k : Fin 1024) :
    (show EReal from Cert.Reference3Ideal.cat a b (ix3 i s k))
      = if h : k.val < 512 then a (ix3 i s (⟨k.val, h⟩ : Fin 512)) else b (ix3 i s (⟨k.val - 512, by omega⟩ : Fin 512)) := by
  pointwise [Cert.Reference3Ideal.cat]

/-- Which block of its array each window reads or writes at a point. -/
theorem idx : ∀ t : Fin cfg0.N,
    win0_0.index t = ![t.val, 0] ∧ win0_1.index t = ![t.val, 0] ∧ win0_2.index t = ![t.val, 0] ∧ win0_3.index t = ![0, 0] ∧ win0_4.index t = ![t.val / 8, 0, 0]
      ∧ win0_5.index t = ![0, 0] ∧ win0_6.index t = ![t.val / 8, 0, 0] ∧ win0_7.index t = ![t.val / 8, 0, 0] ∧ win0_8.index t = ![0, 0]
      ∧ win0_9.index t = ![t.val, 0] ∧ win0_10.index t = ![t.val, 0] ∧ win0_11.index t = ![t.val, 0] :=
  (by decide +kernel : ∀ t : Fin grid0.N,
    win0_0.index t = ![t.val, 0] ∧ win0_1.index t = ![t.val, 0] ∧ win0_2.index t = ![t.val, 0] ∧ win0_3.index t = ![0, 0] ∧ win0_4.index t = ![t.val / 8, 0, 0]
      ∧ win0_5.index t = ![0, 0] ∧ win0_6.index t = ![t.val / 8, 0, 0] ∧ win0_7.index t = ![t.val / 8, 0, 0] ∧ win0_8.index t = ![0, 0]
      ∧ win0_9.index t = ![t.val, 0] ∧ win0_10.index t = ![t.val, 0] ∧ win0_11.index t = ![t.val, 0])

theorem lt32 (t : Fin cfg0.N) : t.val < 32 := lt_of_lt_of_eq t.isLt (by decide +kernel)

variable (m : (ℓ : Loc nD τ sig) → Buf (Elt Ideal) ℓ)

/-- The nine arguments. -/
def argX (c : Dev nD) : FVec Ideal S4x4096x1024 .f32 := m ((c.tc : Thread nD τ).loc main_arg0)
def argA (c : Dev nD) : FVec Ideal S4x4096x512 .f32 := m ((c.tc : Thread nD τ).loc main_arg1)
def argB (c : Dev nD) : FVec Ideal S4x4096x512 .f32 := m ((c.tc : Thread nD τ).loc main_arg2)
def argW (c : Dev nD) : FVec Ideal S1024x1024 .f32 := m ((c.tc : Thread nD τ).loc main_arg3)
def argG (c : Dev nD) : FVec Ideal S4x1x1024 .f32 := m ((c.tc : Thread nD τ).loc main_arg4)
def argGain (c : Dev nD) : FVec Ideal S1024 .f32 := m ((c.tc : Thread nD τ).loc main_arg5)
def argSc (c : Dev nD) : FVec Ideal S4x1x1024 .f32 := m ((c.tc : Thread nD τ).loc main_arg6)
def argSh (c : Dev nD) : FVec Ideal S4x1x1024 .f32 := m ((c.tc : Thread nD τ).loc main_arg7)
def argWq (c : Dev nD) : FVec Ideal S1024x2048 .f32 := m ((c.tc : Thread nD τ).loc main_arg8)

/-- The flat layout: row `r` is token `r`, counted over the batch. -/
theorem layF (X : FVec Ideal S4x4096x1024 .f32) (r : Fin 16384) (a : Fin 1024) :
    shapeCast S16384x1024 X shapeCasts_S4x4096x1024_S16384x1024 (ix2 r a)
      = X (ix3 (⟨r.val / 4096, by omega⟩ : Fin 4) (⟨r.val % 4096, by omega⟩ : Fin 4096) a) := by
  pointwise

/-- The same for 512 columns. -/
theorem layF5 (X : FVec Ideal S4x4096x512 .f32) (r : Fin 16384) (a : Fin 512) :
    shapeCast S16384x512 X shapeCasts_S4x4096x512_S16384x512 (ix2 r a)
      = X (ix3 (⟨r.val / 4096, by omega⟩ : Fin 4) (⟨r.val % 4096, by omega⟩ : Fin 4096) a) := by
  pointwise

/-- The batch entry and the position of row `r` of point `t`'s block. -/
def bt (t : Fin cfg0.N) : Fin 4 := ⟨t.val / 8, by have := lt32 t; omega⟩
def st (t : Fin cfg0.N) (r : Fin 512) : Fin 4096 := ⟨512 * (t.val % 8) + r.val, by omega⟩

/-- The input's block. -/
theorem blk0_at (c : Dev nD) (t : Fin cfg0.N) (r : Fin 512) (x : Fin 1024) :
    (show EReal from (iblk m c 0 t : Vec Ideal S512x1024 .f32) (ix2 r x)) = argX m c (ix3 (bt t) (st t r) x) := by
  have ht := lt32 t
  blk_simp [iblk]
  entry_read
  refine Eq.trans (b := shapeCast S16384x1024 (argX m c) shapeCasts_S4x4096x1024_S16384x1024
    (ix2 (⟨512 * t.val + r.val, by omega⟩ : Fin 16384) x)) ?_ ?_
  · refine congrArg (shapeCast S16384x1024 (argX m c) shapeCasts_S4x4096x1024_S16384x1024) ?_
    blk_ext [idx t]
  · rw [layF]
    refine congrArg (argX m c) ?_
    unfold bt st
    idx_ext

/-- The first mixer output's block. -/
theorem blk1_at (c : Dev nD) (t : Fin cfg0.N) (r x : Fin 512) :
    (show EReal from (iblk m c 1 t : Vec Ideal S512x512 .bf16) (ix2 r x)) = argA m c (ix3 (bt t) (st t r) x) := by
  have ht := lt32 t
  blk_simp [iblk]
  entry_read
  refine Eq.trans (b := shapeCast S16384x512 (argA m c) shapeCasts_S4x4096x512_S16384x512
    (ix2 (⟨512 * t.val + r.val, by omega⟩ : Fin 16384) x)) ?_ ?_
  · refine congrArg (shapeCast S16384x512 (argA m c) shapeCasts_S4x4096x512_S16384x512) ?_
    blk_ext [idx t]
  · rw [layF5]
    refine congrArg (argA m c) ?_
    unfold bt st
    idx_ext

/-- The second mixer output's block. -/
theorem blk2_at (c : Dev nD) (t : Fin cfg0.N) (r x : Fin 512) :
    (show EReal from (iblk m c 2 t : Vec Ideal S512x512 .bf16) (ix2 r x)) = argB m c (ix3 (bt t) (st t r) x) := by
  have ht := lt32 t
  blk_simp [iblk]
  entry_read
  refine Eq.trans (b := shapeCast S16384x512 (argB m c) shapeCasts_S4x4096x512_S16384x512
    (ix2 (⟨512 * t.val + r.val, by omega⟩ : Fin 16384) x)) ?_ ?_
  · refine congrArg (shapeCast S16384x512 (argB m c) shapeCasts_S4x4096x512_S16384x512) ?_
    blk_ext [idx t]
  · rw [layF5]
    refine congrArg (argB m c) ?_
    unfold bt st
    idx_ext

/-- The output projection. -/
theorem blk3_at (c : Dev nD) (t : Fin cfg0.N) (r x : Fin 1024) :
    (show EReal from (iblk m c 3 t : Vec Ideal S1024x1024 .bf16) (ix2 r x)) = argW m c (ix2 r x) := by
  blk_simp [iblk]
  entry_read
  refine congrArg (argW m c) ?_
  blk_ext [idx t]

/-- The gate of the point's batch entry. -/
theorem blk4_at (c : Dev nD) (t : Fin cfg0.N) (x : Fin 1024) :
    (show EReal from (iblk m c 4 t : Vec Ideal S1x1x1024 .f32) (ix3 0 0 x)) = argG m c (ix3 (bt t) 0 x) := by
  blk_simp [iblk]
  entry_read
  refine congrArg (argG m c) ?_
  unfold bt
  blk_ext [idx t]

/-- The norm's gain. -/
theorem blk5_at (c : Dev nD) (t : Fin cfg0.N) (x : Fin 1024) :
    (show EReal from (iblk m c 5 t : Vec Ideal S1x1024 .f32) (ix2 0 x)) = argGain m c (ix1 x) := by
  blk_simp [iblk]
  entry_read
  refine Eq.trans (b := shapeCast S1x1024 (argGain m c) shapeCasts_S1024_S1x1024 (ix2 0 x)) ?_ ?_
  · refine congrArg (shapeCast S1x1024 (argGain m c) shapeCasts_S1024_S1x1024) ?_
    blk_ext [idx t]
  · pointwise

/-- The scale of the point's batch entry. -/
theorem blk6_at (c : Dev nD) (t : Fin cfg0.N) (x : Fin 1024) :
    (show EReal from (iblk m c 6 t : Vec Ideal S1x1x1024 .f32) (ix3 0 0 x)) = argSc m c (ix3 (bt t) 0 x) := by
  blk_simp [iblk]
  entry_read
  refine congrArg (argSc m c) ?_
  unfold bt
  blk_ext [idx t]

/-- The shift of the point's batch entry. -/
theorem blk7_at (c : Dev nD) (t : Fin cfg0.N) (x : Fin 1024) :
    (show EReal from (iblk m c 7 t : Vec Ideal S1x1x1024 .f32) (ix3 0 0 x)) = argSh m c (ix3 (bt t) 0 x) := by
  blk_simp [iblk]
  entry_read
  refine congrArg (argSh m c) ?_
  unfold bt
  blk_ext [idx t]

/-- The query weights. -/
theorem blk8_at (c : Dev nD) (t : Fin cfg0.N) (r : Fin 1024) (x : Fin 2048) :
    (show EReal from (iblk m c 8 t : Vec Ideal S1024x2048 .bf16) (ix2 r x)) = argWq m c (ix2 r x) := by
  blk_simp [iblk]
  entry_read
  refine congrArg (argWq m c) ?_
  blk_ext [idx t]

/-- The reference's residual and normalized rows of the arguments. -/
def rX (c : Dev nD) : FVec Ideal S4x4096x1024 .f32 := refX (argX m c) (Cert.Reference3Ideal.cat (argA m c) (argB m c)) (argW m c) (argG m c)
def rH (c : Dev nD) : FVec Ideal S4x4096x1024 .f32 := refH (rX m c) (argGain m c) (argSc m c) (argSh m c)

/-- Row `r` of point `t`'s residual is the reference's. -/
theorem res_at (c : Dev nD) (t : Fin cfg0.N) (r : Fin 512) (x : Fin 1024) :
    (show EReal from k0_pay3 (iblk m c 1 t) (View.ld (iblk m c 3 t) r0_1) (iblk m c 2 t) (View.ld (iblk m c 3 t) r0_2) (iblk m c 0 t) (iblk m c 4 t) (ix2 r x)) = rX m c (ix3 (bt t) (st t r) x) := by
  refine (pay3_at (iblk m c 1 t) (View.ld (iblk m c 3 t) r0_1) (iblk m c 2 t) (View.ld (iblk m c 3 t) r0_2) (iblk m c 0 t) (iblk m c 4 t) r x).trans (Eq.trans ?_ (Cert.Reference2Ideal.Res.refX_at _ _ _ _ (bt t) (st t r) x).symm)
  refine Ideal.add_congr (blk0_at m c t r x) (Ideal.mul_congr (blk4_at m c t x) (Eq.trans ?_ (Fin.sum_univ_two_halves 512 512 rfl _).symm))
  refine Ideal.add_congr (Finset.sum_congr rfl fun k _ => Ideal.mul_congr ((blk1_at m c t r k).trans ?_) ((ldU _ k x).trans (blk3_at m c t _ x)))
    (Finset.sum_congr rfl fun k _ => Ideal.mul_congr ((blk2_at m c t r k).trans ?_) ((ldW _ k x).trans (blk3_at m c t _ x)))
  · refine Eq.trans ?_ (cat_at _ _ _ _ _).symm
    rw [dif_pos (show (⟨k.val, by omega⟩ : Fin 1024).val < 512 from k.isLt)]
  · refine Eq.trans ?_ (cat_at _ _ _ _ _).symm
    rw [dif_neg (show ¬ (⟨512 + k.val, by omega⟩ : Fin 1024).val < 512 from by dsimp only; omega)]
    refine congrArg (fun z : Fin 512 => argB m c (ix3 (bt t) (st t r) z)) (Fin.ext ?_)
    dsimp only
    omega

/-- Row `r` of point `t`'s normalized block is the reference's. -/
theorem nrm_at (c : Dev nD) (t : Fin cfg0.N) (r : Fin 512) (x : Fin 1024) :
    (show EReal from k0_pay1 (k0_pay4 (iblk m c 1 t) (View.ld (iblk m c 3 t) r0_1) (iblk m c 2 t) (View.ld (iblk m c 3 t) r0_2) (iblk m c 0 t) (iblk m c 4 t) (iblk m c 5 t)) (iblk m c 6 t) (iblk m c 7 t) (ix2 r x))
      = rH m c (ix3 (bt t) (st t r) x) := by
  refine (pay1_at (iblk m c 1 t) (View.ld (iblk m c 3 t) r0_1) (iblk m c 2 t) (View.ld (iblk m c 3 t) r0_2) (iblk m c 0 t) (iblk m c 4 t) (iblk m c 5 t) (iblk m c 6 t) (iblk m c 7 t) r x).trans (Eq.trans ?_ (Cert.Reference2Ideal.Res.refH_at _ _ _ _ (bt t) (st t r) x).symm)
  exact modRow_congr (fun k => res_at m c t r k) (fun k => blk5_at m c t k) (fun k => blk6_at m c t k) (fun k => blk7_at m c t k) x

/-- The row of the flat arrays that row `r` of point `t`'s blocks is. -/
def row (t : Fin cfg0.N) (r : Fin 512) : Fin 16384 := ⟨512 * t.val + r.val, by have := lt32 t; omega⟩

theorem row_div (t : Fin cfg0.N) (r : Fin 512) (h : (row t r).val / 4096 < 4) : (⟨(row t r).val / 4096, h⟩ : Fin 4) = bt t :=
  Fin.ext (by unfold row bt; dsimp only; omega)

theorem row_mod (t : Fin cfg0.N) (r : Fin 512) (h : (row t r).val % 4096 < 4096) : (⟨(row t r).val % 4096, h⟩ : Fin 4096) = st t r :=
  Fin.ext (by unfold row st; dsimp only; omega)

/-- The three blocks a point leaves are the reference's rows. -/
theorem o9_at (c : Dev nD) (t : Fin cfg0.N) (r : Fin 512) (x : Fin 1024) :
    (show EReal from out0_9 (iblk m c 0 t) (iblk m c 1 t) (iblk m c 2 t) (iblk m c 3 t) (iblk m c 4 t) (iblk m c 5 t) (iblk m c 6 t) (iblk m c 7 t) (iblk m c 8 t) (ix2 r x))
      = out0 (rX m c) (ix2 (row t r) x) := by
  refine (congrFun (out9_eq _ _ _ _ _ _ _ _ _) (ix2 r x)).trans ((res_at m c t r x).trans ?_)
  refine Eq.trans ?_ (Cert.Reference2Ideal.Res.out0_at (rX m c) (row t r) x).symm
  rw [row_div, row_mod]

theorem o10_at (c : Dev nD) (t : Fin cfg0.N) (r : Fin 512) (x : Fin 1024) :
    (show EReal from out0_10 (iblk m c 0 t) (iblk m c 1 t) (iblk m c 2 t) (iblk m c 3 t) (iblk m c 4 t) (iblk m c 5 t) (iblk m c 6 t) (iblk m c 7 t) (iblk m c 8 t) (ix2 r x))
      = out1 (rH m c) (ix2 (row t r) x) := by
  refine (congrFun (out10_eq _ _ _ _ _ _ _ _ _) (ix2 r x)).trans ((nrm_at m c t r x).trans ?_)
  refine Eq.trans ?_ (Cert.Reference2Ideal.Res.out1_at (rH m c) (row t r) x).symm
  rw [row_div, row_mod]

theorem o11_at (c : Dev nD) (t : Fin cfg0.N) (r : Fin 512) (x : Fin 2048) :
    (show EReal from out0_11 (iblk m c 0 t) (iblk m c 1 t) (iblk m c 2 t) (iblk m c 3 t) (iblk m c 4 t) (iblk m c 5 t) (iblk m c 6 t) (iblk m c 7 t) (iblk m c 8 t) (ix2 r x))
      = out2 (rH m c) (argWq m c) (ix2 (row t r) x) := by
  refine (congrFun (out11_eq _ _ _ _ _ _ _ _ _) (ix2 r x)).trans ((pay2_at _ _ _ _ r x).trans ?_)
  refine Eq.trans ?_ (Cert.Reference2Ideal.Res.out2_at (rH m c) (argWq m c) (row t r) x).symm
  rw [row_div, row_mod]
  exact Finset.sum_congr rfl fun k _ => Ideal.mul_congr (nrm_at m c t r k) (blk8_at m c t k x)

/-- The first output array, once every point has run, is the reference's residual. -/
theorem arr9 (c : Dev nD) : (dats m 0 c).arrAt 9 (cfgs 0).N = out0 (rX m c) := by
  refine (dats m 0 c).arrAt_eq_of_covers 9 _ (by decide +kernel) fun t _ y => ?_
  blk_simp
  rw [after0_9]
  have e := o9_at m c t (y 0) (y 1)
  have ht := lt32 t
  have hy : (show S512x1024.Idx from y) = ix2 (y 0) (y 1) := funext fun a => by fin_cases a <;> rfl
  refine (congrArg (out0_9 (iblk m c 0 t) (iblk m c 1 t) (iblk m c 2 t) (iblk m c 3 t) (iblk m c 4 t) (iblk m c 5 t) (iblk m c 6 t) (iblk m c 7 t) (iblk m c 8 t)) hy).trans (e.trans (congrArg (out0 (rX m c)) ?_))
  unfold row
  blk_ext [idx t]

/-- The second output array is the reference's normalized rows. -/
theorem arr10 (c : Dev nD) : (dats m 0 c).arrAt 10 (cfgs 0).N = out1 (rH m c) := by
  refine (dats m 0 c).arrAt_eq_of_covers 10 _ (by decide +kernel) fun t _ y => ?_
  blk_simp
  rw [after0_10]
  have e := o10_at m c t (y 0) (y 1)
  have ht := lt32 t
  have hy : (show S512x1024.Idx from y) = ix2 (y 0) (y 1) := funext fun a => by fin_cases a <;> rfl
  refine (congrArg (out0_10 (iblk m c 0 t) (iblk m c 1 t) (iblk m c 2 t) (iblk m c 3 t) (iblk m c 4 t) (iblk m c 5 t) (iblk m c 6 t) (iblk m c 7 t) (iblk m c 8 t)) hy).trans (e.trans (congrArg (out1 (rH m c)) ?_))
  unfold row
  blk_ext [idx t]

/-- The third output array is the reference's queries. -/
theorem arr11 (c : Dev nD) : (dats m 0 c).arrAt 11 (cfgs 0).N = out2 (rH m c) (argWq m c) := by
  refine (dats m 0 c).arrAt_eq_of_covers 11 _ (by decide +kernel) fun t _ y => ?_
  blk_simp
  rw [after0_11]
  have e := o11_at m c t (y 0) (y 1)
  have ht := lt32 t
  have hy : (show S512x2048.Idx from y) = ix2 (y 0) (y 1) := funext fun a => by fin_cases a <;> rfl
  refine (congrArg (out0_11 (iblk m c 0 t) (iblk m c 1 t) (iblk m c 2 t) (iblk m c 3 t) (iblk m c 4 t) (iblk m c 5 t) (iblk m c 6 t) (iblk m c 7 t) (iblk m c 8 t)) hy).trans (e.trans (congrArg (out2 (rH m c) (argWq m c)) ?_))
  unfold row
  blk_ext [idx t]

end Cert.Kernel3Ideal.Res

end
-- ==== Proof.Claim3.lean ====
/- The claims of the third kernel and its reference. -/
module

public import proofs.«01_k».proof.Defs
public import proofs.«01_k».proof.Proof.Res3
public import proofs.«01_k».proof.Proof.Gen.Kernel3.Frame
public import Idealize.ShloMosaic.Lib.Claim
public import Idealize.ShloMosaic.Adequacy
public import Idealize.ShloMosaic.Init
@[expose] public section

set_option maxRecDepth 16384

noncomputable section

namespace Cert.Proof

open Idealize.ShloMosaic Idealize.SL.Sem

/-- The third kernel ends with its arguments unchanged and every semaphore at zero. -/
theorem frame_3 : Cert.quiescent_Kernel3 (hKernel3 := Cert.Kernel3.Gen.facts) := fun m g _ => Cert.Kernel3.Gen.frame m g

/-- The third idealized kernel ends with its arguments unchanged and every semaphore at zero. -/
theorem frame_3Ideal : Cert.quiescent_Kernel3Ideal (hKernel3Ideal := Cert.Kernel3Ideal.Gen.facts) := fun m g _ => Cert.Kernel3Ideal.Gen.frame m g

set_option maxHeartbeats 1600000 in
/-- The third idealized reference ends with its arguments unchanged and every semaphore at zero. -/
theorem frame_ref3 : Cert.quiescent_Reference3Ideal (hReference3Ideal := Cert.Reference3Ideal.Gen.facts) := fun m g _ =>
  (θ_run Cert.Reference3Ideal.defs _ _).mono (fun r h => ⟨fun c => (h c).2.2.2, sem_eq_zero_of_no_sems (by decide) r.2⟩)
    (Cert.Reference3Ideal.Value.run m g)

set_option maxHeartbeats 1600000 in
/-- The third kernel's three results are its reference's. -/
theorem algebraic3 : Cert.algebraic_Kernel3Ideal_Reference3Ideal (hKernel3Ideal := Cert.Kernel3Ideal.Gen.facts)
    (hReference3Ideal := Cert.Reference3Ideal.Gen.facts) := by
  intro m g m' g' hpre hargs
  refine ⟨fun c => (Cert.Kernel3Ideal.Gen.dats m 0 c).arrAt 9 (Cert.Kernel3Ideal.cfgs 0).N,
    fun c => (Cert.Kernel3Ideal.Gen.dats m 0 c).arrAt 10 (Cert.Kernel3Ideal.cfgs 0).N,
    fun c => (Cert.Kernel3Ideal.Gen.dats m 0 c).arrAt 11 (Cert.Kernel3Ideal.cfgs 0).N, Cert.Kernel3Ideal.Value.run_blocks m g, ?_⟩
  refine (θ_run Cert.Reference3Ideal.defs _ _).mono (fun r h c => ⟨(h c).1.trans ?_, (h c).2.1.trans ?_, (h c).2.2.1.trans ?_, (h c).2.2.2⟩)
    (Cert.Reference3Ideal.Value.run m' g')
  all_goals obtain ⟨h0, h1, h2, h3, h4, h5, h6, h7, h8⟩ := hargs c
  · rw [h0, h1, h2, h3, h4]
    exact (Cert.Kernel3Ideal.Res.arr9 m c).symm
  · rw [h0, h1, h2, h3, h4, h5, h6, h7]
    exact (Cert.Kernel3Ideal.Res.arr10 m c).symm
  · rw [h0, h1, h2, h3, h4, h5, h6, h7, h8]
    exact (Cert.Kernel3Ideal.Res.arr11 m c).symm

end Cert.Proof

end
-- ==== Proof.Res4Ref.lean ====
/- The fourth reference's results at the ideal instance, by coordinates. -/
module

public import proofs.«01_k».proof.Proof.Gen.Reference4Ideal
public import proofs.«01_k».proof.Proof.Gen.Reference4Ideal.Run
public import proofs.«01_k».proof.Proof.Res2Ref
@[expose] public section

set_option maxRecDepth 16384

noncomputable section

namespace Cert.Reference4Ideal.Res

open Idealize.ShloMosaic Idealize.ShloMosaic.TcCoe
open Cert.Reference4Ideal Cert.Reference4Ideal.Gen

/-- The normalized rows times the input projection. -/
def refP (H : FVec Ideal S4x4096x1024 .f32) (w : FVec Ideal S1024x3088 .f32) : FVec Ideal S4x4096x3088 .f32 :=
  Host.dotGeneral dot_S4x4096x1024_S1024x3088_S4x4096x3088_2_0_01_1_n_n none H w

/-- The scaled queries in blocks of 256 rows, transposed. -/
def outQ (p : FVec Ideal S4x4096x3088 .f32) : FVec Ideal S64x1024x256 .bf16 :=
  truncf .bf16 (transpose S64x1024x256 [0, 2, 1] (shapeCast S64x256x1024 (mulf (extractStridedSlice S4x4096x1024 ![0, 0, 0] p slices_S4x4096x3088_S4x4096x1024_0_0_0) (broadcastInDim S4x4096x1024 ![] bcast_S_S4x4096x1024 (constant S_ .f32 0x3E000000#32))) shapeCasts_S4x4096x1024_S64x256x1024) transposes_S64x256x1024_S64x1024x256_0_2_1) bitsLt_bf16_f32

/-- The keys, row by row. -/
def outK (p : FVec Ideal S4x4096x3088 .f32) : FVec Ideal S16384x1024 .bf16 :=
  truncf .bf16 (shapeCast S16384x1024 (extractStridedSlice S4x4096x1024 ![0, 0, 1024] p slices_S4x4096x3088_S4x4096x1024_0_0_1024) shapeCasts_S4x4096x1024_S16384x1024) bitsLt_bf16_f32

/-- The values in blocks of 256 rows, transposed. -/
def outV (p : FVec Ideal S4x4096x3088 .f32) : FVec Ideal S64x1024x256 .bf16 :=
  truncf .bf16 (transpose S64x1024x256 [0, 2, 1] (shapeCast S64x256x1024 (extractStridedSlice S4x4096x1024 ![0, 0, 2048] p slices_S4x4096x3088_S4x4096x1024_0_0_2048) shapeCasts_S4x4096x1024_S64x256x1024) transposes_S64x256x1024_S64x1024x256_0_2_1) bitsLt_bf16_f32

/-- The forget logits, row by row, with zeros to the right. -/
def outF (p : FVec Ideal S4x4096x3088 .f32) : FVec Ideal S16384x128 .f32 :=
  pad S16384x128 ![0, 0] ![0, 112] ![0, 0] (shapeCast S16384x16 (extractStridedSlice S4x4096x16 ![0, 0, 3072] p slices_S4x4096x3088_S4x4096x16_0_0_3072) shapeCasts_S4x4096x16_S16384x16) (sitofp .f32 (constantI S_ 32 0#32)) pads_S16384x16_S16384x128_000_01120 h_S_

/-- The integer zero, taken as a number, is zero. -/
theorem zero_at : (show EReal from (FloatOps.sitofp FTy.f32 (0#32) : Ideal .f32)) = 0 := by
  change (((0#32 : BitVec 32).toInt : ℝ) : EReal) = 0
  simp

/-- An entry of the product. -/
theorem refP_at (H : FVec Ideal S4x4096x1024 .f32) (w : FVec Ideal S1024x3088 .f32) (b : Fin 4) (s : Fin 4096) (c : Fin 3088) :
    (show EReal from refP H w (ix3 b s c)) = ∑ k : Fin 1024, H (ix3 b s k) * w (ix2 k c) := by
  pointwise [refP]

/-- An entry of the scaled, transposed queries. -/
theorem outQ_at (p : FVec Ideal S4x4096x3088 .f32) (i : Fin 64) (a : Fin 1024) (y : Fin 256) :
    (show EReal from outQ p (ix3 i a y))
      = p (ix3 (⟨i.val / 16, by omega⟩ : Fin 4) (⟨256 * (i.val % 16) + y.val, by omega⟩ : Fin 4096) (⟨a.val, by omega⟩ : Fin 3088)) * Ideal.ofBits .f32 0x3E000000#32 := by
  pointwise [outQ]
  refine congrArg (fun z => p z * Ideal.ofBits .f32 0x3E000000#32) ?_
  idx_ext

/-- An entry of the keys. -/
theorem outK_at (p : FVec Ideal S4x4096x3088 .f32) (r : Fin 16384) (c : Fin 1024) :
    (show EReal from outK p (ix2 r c))
      = p (ix3 (⟨r.val / 4096, by omega⟩ : Fin 4) (⟨r.val % 4096, by omega⟩ : Fin 4096) (⟨1024 + c.val, by omega⟩ : Fin 3088)) := by
  pointwise [outK]

/-- An entry of the transposed values. -/
theorem outV_at (p : FVec Ideal S4x4096x3088 .f32) (i : Fin 64) (a : Fin 1024) (y : Fin 256) :
    (show EReal from outV p (ix3 i a y))
      = p (ix3 (⟨i.val / 16, by omega⟩ : Fin 4) (⟨256 * (i.val % 16) + y.val, by omega⟩ : Fin 4096) (⟨2048 + a.val, by omega⟩ : Fin 3088)) := by
  pointwise [outV]
  refine congrArg p ?_
  idx_ext

/-- An entry of the padded forget logits. -/
theorem outF_at (p : FVec Ideal S4x4096x3088 .f32) (r : Fin 16384) (c : Fin 128) :
    (show EReal from outF p (ix2 r c))
      = if h : c.val < 16 then p (ix3 (⟨r.val / 4096, by omega⟩ : Fin 4) (⟨r.val % 4096, by omega⟩ : Fin 4096) (⟨3072 + c.val, by omega⟩ : Fin 3088)) else 0 := by
  pointwise [outF]
  exact dite_congr rfl (fun _ => rfl) (fun _ => zero_at)

end Cert.Reference4Ideal.Res

end
-- ==== Proof.In4.lean ====
/- The fourth kernel's blocks at the ideal instance, by coordinates, and the arrays they leave. -/
module

public import proofs.«01_k».proof.Proof.Gen.Kernel4Ideal.Value
public import proofs.«01_k».proof.Proof.Res4Ref
public import Idealize.ShloMosaic.Lib.Pointwise
public import Idealize.ShloMosaic.Lib.Pipeline.ValueKit
@[expose] public section

set_option maxRecDepth 16384

noncomputable section

namespace Cert.Kernel4Ideal.Res

open Idealize.ShloMosaic Idealize.ShloMosaic.TcCoe
open Cert.Kernel4Ideal Cert.Kernel4Ideal.Gen
open Cert.Rows
open Cert.Reference2Ideal.Res (refH)
open Cert.Reference4Ideal.Res (refP outQ outK outV outF)

/-- An entry of the normalized block. -/
theorem pay7_at (X : Vec Ideal S512x1024 .f32) (P : Vec Ideal S1x1024 .f32) (Q S : Vec Ideal S1x1x1024 .f32) (r : Fin 512) (c : Fin 1024) :
    (show EReal from k0_pay7 X P Q S (ix2 r c))
      = modRow (fun x => X (ix2 r x)) (fun x => P (ix2 0 x)) (fun x => Q (ix3 0 0 x)) (fun x => S (ix3 0 0 x)) c := by
  pointwise [k0_pay7]
  rfl

/-- An entry of a product of the normalized block with 1024 columns of the weights. -/
theorem pay2_at (H : FVec Ideal S512x1024 .bf16) (W : Vec Ideal S1024x1024 .bf16) (r : Fin 512) (c : Fin 1024) :
    (show EReal from k0_pay2 H W (ix2 r c)) = ∑ k : Fin 1024, H (ix2 r k) * W (ix2 k c) := by
  pointwise [k0_pay2]

/-- An entry of a product of the normalized block with 128 columns of the weights. -/
theorem pay6_at (H : FVec Ideal S512x1024 .bf16) (W : Vec Ideal S1024x128 .bf16) (r : Fin 512) (c : Fin 128) :
    (show EReal from k0_pay6 H W (ix2 r c)) = ∑ k : Fin 1024, H (ix2 r k) * W (ix2 k c) := by
  pointwise [k0_pay6]

/-- The first 256 rows' transposed product. -/
theorem pay4_at (H : FVec Ideal S512x1024 .bf16) (W : Vec Ideal S1024x1024 .bf16) (a : Fin 1024) (y : Fin 256) :
    (show EReal from k0_pay4 H W (ix3 0 a y)) = ∑ k : Fin 1024, W (ix2 a k) * H (ix2 (⟨y.val, by omega⟩ : Fin 512) k) := by
  pointwise [k0_pay4, k0_pay3]

/-- The last 256 rows' transposed product. -/
theorem pay5_at (H : FVec Ideal S512x1024 .bf16) (W : Vec Ideal S1024x1024 .bf16) (a : Fin 1024) (y : Fin 256) :
    (show EReal from k0_pay5 H W (ix3 0 a y)) = ∑ k : Fin 1024, W (ix2 a k) * H (ix2 (⟨256 + y.val, by omega⟩ : Fin 512) k) := by
  pointwise [k0_pay5, k0_pay3]

/-- The first 256 rows' transposed product, scaled. -/
theorem pay9_at (X : Vec Ideal S512x1024 .f32) (P : Vec Ideal S1x1024 .f32) (Q S : Vec Ideal S1x1x1024 .f32) (W : Vec Ideal S1024x1024 .bf16) (a : Fin 1024) (y : Fin 256) :
    (show EReal from k0_pay9 X P Q S W (ix3 0 a y))
      = (∑ k : Fin 1024, W (ix2 a k) * k0_pay7 X P Q S (ix2 (⟨y.val, by omega⟩ : Fin 512) k)) * Ideal.ofBits .f32 0x3E000000#32 := by
  pointwise [k0_pay9, k0_pay8]

/-- The last 256 rows' transposed product, scaled. -/
theorem pay1_at (X : Vec Ideal S512x1024 .f32) (P : Vec Ideal S1x1024 .f32) (Q S : Vec Ideal S1x1x1024 .f32) (W : Vec Ideal S1024x1024 .bf16) (a : Fin 1024) (y : Fin 256) :
    (show EReal from k0_pay1 (k0_pay8 X P Q S W) (ix3 0 a y))
      = (∑ k : Fin 1024, W (ix2 a k) * k0_pay7 X P Q S (ix2 (⟨256 + y.val, by omega⟩ : Fin 512) k)) * Ideal.ofBits .f32 0x3E000000#32 := by
  pointwise [k0_pay1, k0_pay8]

/-- What the loads from the weights read: a band of rows of the transposed weights, a band of columns of the weights. -/
theorem ldQ (W : Vec Ideal S3200x1024 .bf16) (a k : Fin 1024) : View.ld W r0_3 (ix2 a k) = W (ix2 (⟨a.val, by omega⟩ : Fin 3200) k) :=
  View.ld_unit_apply_of W _ _ _ _ _ fun a => by fin_cases a <;> simp

theorem ldV (W : Vec Ideal S3200x1024 .bf16) (a k : Fin 1024) : View.ld W r0_7 (ix2 a k) = W (ix2 (⟨2048 + a.val, by omega⟩ : Fin 3200) k) :=
  View.ld_unit_apply_of W _ _ _ _ _ fun a => by fin_cases a <;> simp

theorem ldK (W : Vec Ideal S1024x3200 .bf16) (k a : Fin 1024) : View.ld W r0_6 (ix2 k a) = W (ix2 k (⟨1024 + a.val, by omega⟩ : Fin 3200)) :=
  View.ld_unit_apply_of W _ _ _ _ _ fun a => by fin_cases a <;> simp

theorem ldF (W : Vec Ideal S1024x3200 .bf16) (k : Fin 1024) (a : Fin 128) : View.ld W r0_8 (ix2 k a) = W (ix2 k (⟨3072 + a.val, by omega⟩ : Fin 3200)) :=
  View.ld_unit_apply_of W _ _ _ _ _ fun a => by fin_cases a <;> simp

variable (x0 : Vec Ideal S512x1024 .f32) (x1 : Vec Ideal S1x1024 .f32) (x2 x3 : Vec Ideal S1x1x1024 .f32)
  (x4 : Vec Ideal S1024x3200 .bf16) (x5 : Vec Ideal S3200x1024 .bf16)

/-- The keys' block. -/
theorem out7_eq : out0_7 x0 x1 x2 x3 x4 x5 = k0_pay2 (k0_pay7 x0 x1 x2 x3) (View.ld x4 r0_6) := by
  frame_out [out0_7, k0_pay10]

/-- The forget logits' block. -/
theorem out9_eq : out0_9 x0 x1 x2 x3 x4 x5 = k0_pay6 (k0_pay7 x0 x1 x2 x3) (View.ld x4 r0_8) := by
  frame_out [out0_9, k0_pay10]

/-- Row `y` of half `p` of a block of 512 rows. -/
def hf (p : Fin 2) (y : Fin 256) : Fin 512 := ⟨256 * p.val + y.val, by omega⟩

theorem hf_one (p : Fin 2) (y : Fin 256) (h : p.val = 1) : (⟨256 + y.val, by omega⟩ : Fin 512) = hf p y :=
  Fin.ext (by unfold hf; dsimp only; omega)

theorem hf_zero (p : Fin 2) (y : Fin 256) (h : p.val = 0) : (⟨y.val, by omega⟩ : Fin 512) = hf p y :=
  Fin.ext (by unfold hf; dsimp only; omega)

/-- An index of a half, by its last two coordinates. -/
theorem tile_eq (x : S1x1024x256.Idx) (a : Fin 1024) (y : Fin 256) (h1 : a.val = (x 1).val) (h2 : y.val = (x 2).val) : x = ix3 0 a y :=
  funext fun i => by
    fin_cases i
    · exact Fin.ext (by have := (x 0).isLt; change (x 0).val < 1 at this; change (x 0).val = 0; omega)
    · exact Fin.ext h1.symm
    · exact Fin.ext h2.symm

/-- Loads of whole blocks. -/
theorem x0_eq : View.ld x0 r0_0 = x0 := View.ld_unit_lit _ x0 (by decide)
theorem x1_eq : View.ld x1 r0_1 = x1 := View.ld_unit_lit _ x1 (by decide)
theorem x2_eq : View.ld x2 r0_2 = x2 := View.ld_unit_lit _ x2 (by decide)

/-- The normalized block, of the whole input blocks. -/
theorem pay10_eq : k0_pay10 x0 x1 x2 x3 x4 x5 = k0_pay7 x0 x1 x2 x3 := by
  unfold k0_pay10
  rw [x0_eq, x1_eq, x2_eq, x2_eq]

/-- The queries' block, by half. -/
theorem out6_at (p : Fin 2) (a : Fin 1024) (y : Fin 256) :
    (show EReal from out0_6 x0 x1 x2 x3 x4 x5 (ix3 p a y))
      = (∑ k : Fin 1024, x5 (ix2 (⟨a.val, by omega⟩ : Fin 3200) k) * k0_pay7 x0 x1 x2 x3 (ix2 (hf p y) k)) * Ideal.ofBits .f32 0x3E000000#32 := by
  unfold out0_6
  canon_tiles x h
  · rw [x0_eq, x1_eq, x2_eq, x2_eq]
    refine (congrArg (k0_pay1 (k0_pay8 x0 x1 x2 x3 (View.ld x5 r0_3))) (tile_eq x a y h1 h2)).trans ((pay1_at x0 x1 x2 x3 (View.ld x5 r0_3) a y).trans ?_)
    rw [hf_one p y (by have := (x 0).isLt; exact h0.trans (by omega))]
    exact Ideal.mul_congr (Finset.sum_congr rfl fun k _ => Ideal.mul_congr (ldQ x5 a k) rfl) rfl
  · rw [x0_eq, x1_eq, x2_eq, x2_eq]
    refine (congrArg (k0_pay9 x0 x1 x2 x3 (View.ld x5 r0_3)) (tile_eq x a y h1 h2)).trans ((pay9_at x0 x1 x2 x3 (View.ld x5 r0_3) a y).trans ?_)
    rw [hf_zero p y (by have := (x 0).isLt; exact h0.trans (by omega))]
    exact Ideal.mul_congr (Finset.sum_congr rfl fun k _ => Ideal.mul_congr (ldQ x5 a k) rfl) rfl

/-- The values' block, by half. -/
theorem out8_at (p : Fin 2) (a : Fin 1024) (y : Fin 256) :
    (show EReal from out0_8 x0 x1 x2 x3 x4 x5 (ix3 p a y))
      = ∑ k : Fin 1024, x5 (ix2 (⟨2048 + a.val, by omega⟩ : Fin 3200) k) * k0_pay7 x0 x1 x2 x3 (ix2 (hf p y) k) := by
  unfold out0_8
  canon_tiles x h
  · rw [pay10_eq]
    refine (congrArg (k0_pay5 (k0_pay7 x0 x1 x2 x3) (View.ld x5 r0_7)) (tile_eq x a y h1 h2)).trans ((pay5_at _ (View.ld x5 r0_7) a y).trans ?_)
    rw [hf_one p y (by have := (x 0).isLt; exact h0.trans (by omega))]
    exact Finset.sum_congr rfl fun k _ => Ideal.mul_congr (ldV x5 a k) rfl
  · rw [pay10_eq]
    refine (congrArg (k0_pay4 (k0_pay7 x0 x1 x2 x3) (View.ld x5 r0_7)) (tile_eq x a y h1 h2)).trans ((pay4_at _ (View.ld x5 r0_7) a y).trans ?_)
    rw [hf_zero p y (by have := (x 0).isLt; exact h0.trans (by omega))]
    exact Finset.sum_congr rfl fun k _ => Ideal.mul_congr (ldV x5 a k) rfl

/-- Which block of its array each window reads or writes at a point. -/
theorem idx : ∀ t : Fin cfg0.N,
    win0_0.index t = ![t.val, 0] ∧ win0_1.index t = ![0, 0] ∧ win0_2.index t = ![t.val / 8, 0, 0] ∧ win0_3.index t = ![t.val / 8, 0, 0]
      ∧ win0_4.index t = ![0, 0] ∧ win0_5.index t = ![0, 0] ∧ win0_6.index t = ![t.val, 0, 0] ∧ win0_7.index t = ![t.val, 0]
      ∧ win0_8.index t = ![t.val, 0, 0] ∧ win0_9.index t = ![t.val, 0] :=
  (by decide +kernel : ∀ t : Fin grid0.N,
    win0_0.index t = ![t.val, 0] ∧ win0_1.index t = ![0, 0] ∧ win0_2.index t = ![t.val / 8, 0, 0] ∧ win0_3.index t = ![t.val / 8, 0, 0]
      ∧ win0_4.index t = ![0, 0] ∧ win0_5.index t = ![0, 0] ∧ win0_6.index t = ![t.val, 0, 0] ∧ win0_7.index t = ![t.val, 0]
      ∧ win0_8.index t = ![t.val, 0, 0] ∧ win0_9.index t = ![t.val, 0])

theorem lt32 (t : Fin cfg0.N) : t.val < 32 := lt_of_lt_of_eq t.isLt (by decide +kernel)

variable (m : (ℓ : Loc nD τ sig) → Buf (Elt Ideal) ℓ)

/-- The five arguments. -/
def argX (c : Dev nD) : FVec Ideal S4x4096x1024 .f32 := m ((c.tc : Thread nD τ).loc main_arg0)
def argGain (c : Dev nD) : FVec Ideal S1024 .f32 := m ((c.tc : Thread nD τ).loc main_arg1)
def argSc (c : Dev nD) : FVec Ideal S4x1x1024 .f32 := m ((c.tc : Thread nD τ).loc main_arg2)
def argSh (c : Dev nD) : FVec Ideal S4x1x1024 .f32 := m ((c.tc : Thread nD τ).loc main_arg3)
def argW (c : Dev nD) : FVec Ideal S1024x3088 .f32 := m ((c.tc : Thread nD τ).loc main_arg4)

/-- The flat layout: row `r` is token `r`, counted over the batch. -/
theorem layF (X : FVec Ideal S4x4096x1024 .f32) (r : Fin 16384) (a : Fin 1024) :
    shapeCast S16384x1024 X shapeCasts_S4x4096x1024_S16384x1024 (ix2 r a)
      = X (ix3 (⟨r.val / 4096, by omega⟩ : Fin 4) (⟨r.val % 4096, by omega⟩ : Fin 4096) a) := by
  pointwise

/-- The batch entry and the position of row `r` of point `t`'s block. -/
def bt (t : Fin cfg0.N) : Fin 4 := ⟨t.val / 8, by have := lt32 t; omega⟩
def st (t : Fin cfg0.N) (r : Fin 512) : Fin 4096 := ⟨512 * (t.val % 8) + r.val, by omega⟩

/-- The input's block. -/
theorem blk0_at (c : Dev nD) (t : Fin cfg0.N) (r : Fin 512) (x : Fin 1024) :
    (show EReal from (iblk m c 0 t : Vec Ideal S512x1024 .f32) (ix2 r x)) = argX m c (ix3 (bt t) (st t r) x) := by
  have ht := lt32 t
  blk_simp [iblk]
  entry_read
  refine Eq.trans (b := shapeCast S16384x1024 (argX m c) shapeCasts_S4x4096x1024_S16384x1024
    (ix2 (⟨512 * t.val + r.val, by omega⟩ : Fin 16384) x)) ?_ ?_
  · refine congrArg (shapeCast S16384x1024 (argX m c) shapeCasts_S4x4096x1024_S16384x1024) ?_
    blk_ext [idx t]
  · rw [layF]
    refine congrArg (argX m c) ?_
    unfold bt st
    idx_ext

/-- The norm's gain. -/
theorem blk1_at (c : Dev nD) (t : Fin cfg0.N) (x : Fin 1024) :
    (show EReal from (iblk m c 1 t : Vec Ideal S1x1024 .f32) (ix2 0 x)) = argGain m c (ix1 x) := by
  blk_simp [iblk]
  entry_read
  refine Eq.trans (b := shapeCast S1x1024 (argGain m c) shapeCasts_S1024_S1x1024 (ix2 0 x)) ?_ ?_
  · refine congrArg (shapeCast S1x1024 (argGain m c) shapeCasts_S1024_S1x1024) ?_
    blk_ext [idx t]
  · pointwise

/-- The scale of the point's batch entry. -/
theorem blk2_at (c : Dev nD) (t : Fin cfg0.N) (x : Fin 1024) :
    (show EReal from (iblk m c 2 t : Vec Ideal S1x1x1024 .f32) (ix3 0 0 x)) = argSc m c (ix3 (bt t) 0 x) := by
  blk_simp [iblk]
  entry_read
  refine congrArg (argSc m c) ?_
  unfold bt
  blk_ext [idx t]

/-- The shift of the point's batch entry. -/
theorem blk3_at (c : Dev nD) (t : Fin cfg0.N) (x : Fin 1024) :
    (show EReal from (iblk m c 3 t : Vec Ideal S1x1x1024 .f32) (ix3 0 0 x)) = argSh m c (ix3 (bt t) 0 x) := by
  blk_simp [iblk]
  entry_read
  refine congrArg (argSh m c) ?_
  unfold bt
  blk_ext [idx t]

/-- The weights with zero columns to the right. -/
def padW (W : FVec Ideal S1024x3088 .f32) (k : Fin 1024) (x : Fin 3200) : EReal :=
  if h : x.val < 3088 then W (ix2 k (⟨x.val, h⟩ : Fin 3088)) else 0

/-- The padded weights. -/
def padA (W : FVec Ideal S1024x3088 .f32) : FVec Ideal S1024x3200 .bf16 :=
  truncf .bf16 (pad S1024x3200 ![0, 0] ![0, 112] ![0, 0] W (sitofp .f32 (constantI S_ 32 0#32)) pads_S1024x3088_S1024x3200_000_01120 h_S_) bitsLt_bf16_f32

theorem padA_at (W : FVec Ideal S1024x3088 .f32) (k : Fin 1024) (x : Fin 3200) : (show EReal from padA W (ix2 k x)) = padW W k x := by
  pointwise [padA]
  exact dite_congr rfl (fun _ => rfl) (fun _ => Cert.Reference4Ideal.Res.zero_at)

theorem blk4_at (c : Dev nD) (t : Fin cfg0.N) (k : Fin 1024) (x : Fin 3200) :
    (show EReal from (iblk m c 4 t : Vec Ideal S1024x3200 .bf16) (ix2 k x)) = padW (argW m c) k x := by
  blk_simp [iblk]
  refine Eq.trans (b := padA (argW m c) (ix2 k x)) ?_ (padA_at (argW m c) k x)
  refine congrArg (padA (argW m c)) ?_
  blk_ext [idx t]

/-- The padded weights, transposed. -/
theorem blk5_at (c : Dev nD) (t : Fin cfg0.N) (x : Fin 3200) (k : Fin 1024) :
    (show EReal from (iblk m c 5 t : Vec Ideal S3200x1024 .bf16) (ix2 x k)) = padW (argW m c) k x := by
  blk_simp [iblk]
  refine Eq.trans (b := transpose S3200x1024 [1, 0] (padA (argW m c)) transposes_S1024x3200_S3200x1024_1_0 (ix2 x k)) ?_ (Eq.trans ?_ (padA_at (argW m c) k x))
  · refine congrArg (transpose S3200x1024 [1, 0] (padA (argW m c)) transposes_S1024x3200_S3200x1024_1_0) ?_
    blk_ext [idx t]
  · pointwise

/-- The reference's normalized rows and their product with the weights. -/
def rH (c : Dev nD) : FVec Ideal S4x4096x1024 .f32 := refH (argX m c) (argGain m c) (argSc m c) (argSh m c)
def rP (c : Dev nD) : FVec Ideal Cert.Reference4Ideal.S4x4096x3088 .f32 := refP (rH m c) (argW m c)

/-- Row `r` of point `t`'s normalized block is the reference's. -/
theorem nrm_at (c : Dev nD) (t : Fin cfg0.N) (r : Fin 512) (x : Fin 1024) :
    (show EReal from k0_pay7 (iblk m c 0 t) (iblk m c 1 t) (iblk m c 2 t) (iblk m c 3 t) (ix2 r x)) = rH m c (ix3 (bt t) (st t r) x) := by
  refine (pay7_at (iblk m c 0 t) (iblk m c 1 t) (iblk m c 2 t) (iblk m c 3 t) r x).trans (Eq.trans ?_ (Cert.Reference2Ideal.Res.refH_at _ _ _ _ (bt t) (st t r) x).symm)
  exact modRow_congr (fun k => blk0_at m c t r k) (fun k => blk1_at m c t k) (fun k => blk2_at m c t k) (fun k => blk3_at m c t k) x

/-- A row of the normalized block times a column of the padded weights: the reference's product, or zero right of it. -/
theorem prod_at (c : Dev nD) (t : Fin cfg0.N) (r : Fin 512) (x : Fin 3200) :
    (∑ k : Fin 1024, (show EReal from k0_pay7 (iblk m c 0 t) (iblk m c 1 t) (iblk m c 2 t) (iblk m c 3 t) (ix2 r k)) * (iblk m c 4 t : Vec Ideal S1024x3200 .bf16) (ix2 k x))
      = if h : x.val < 3088 then (show EReal from rP m c (ix3 (bt t) (st t r) (⟨x.val, h⟩ : Fin 3088))) else 0 := by
  by_cases h : x.val < 3088
  · rw [dif_pos h]
    refine Eq.trans (Finset.sum_congr rfl fun k _ => Ideal.mul_congr (nrm_at m c t r k) ((blk4_at m c t k x).trans (dif_pos h))) ?_
    exact (Cert.Reference4Ideal.Res.refP_at (rH m c) (argW m c) (bt t) (st t r) ⟨x.val, h⟩).symm
  · rw [dif_neg h]
    refine Finset.sum_eq_zero fun k _ => ?_
    exact (Ideal.mul_congr rfl ((blk4_at m c t k x).trans (dif_neg h))).trans (mul_zero _)

/-- The same product the other way round, off the transposed weights. -/
theorem prodT_at (c : Dev nD) (t : Fin cfg0.N) (r : Fin 512) (x : Fin 3200) (h : x.val < 3088) :
    (∑ k : Fin 1024, (show EReal from (iblk m c 5 t : Vec Ideal S3200x1024 .bf16) (ix2 x k)) * k0_pay7 (iblk m c 0 t) (iblk m c 1 t) (iblk m c 2 t) (iblk m c 3 t) (ix2 r k))
      = (show EReal from rP m c (ix3 (bt t) (st t r) (⟨x.val, h⟩ : Fin 3088))) := by
  refine Eq.trans (Finset.sum_congr rfl fun k _ => ?_) ((prod_at m c t r x).trans (dif_pos h))
  exact (mul_comm _ _).trans (Ideal.mul_congr rfl ((blk5_at m c t x k).trans (blk4_at m c t k x).symm))

/-- The row of the flat arrays that row `r` of point `t`'s blocks is. -/
def row (t : Fin cfg0.N) (r : Fin 512) : Fin 16384 := ⟨512 * t.val + r.val, by have := lt32 t; omega⟩

theorem row_div (t : Fin cfg0.N) (r : Fin 512) (h : (row t r).val / 4096 < 4) : (⟨(row t r).val / 4096, h⟩ : Fin 4) = bt t :=
  Fin.ext (by unfold row bt; dsimp only; omega)

theorem row_mod (t : Fin cfg0.N) (r : Fin 512) (h : (row t r).val % 4096 < 4096) : (⟨(row t r).val % 4096, h⟩ : Fin 4096) = st t r :=
  Fin.ext (by unfold row st; dsimp only; omega)

/-- The block of 256 rows that half `p` of point `t`'s rows is. -/
def half (t : Fin cfg0.N) (p : Fin 2) : Fin 64 := ⟨2 * t.val + p.val, by have := lt32 t; omega⟩

theorem half_div (t : Fin cfg0.N) (p : Fin 2) (h : (half t p).val / 16 < 4) : (⟨(half t p).val / 16, h⟩ : Fin 4) = bt t :=
  Fin.ext (by unfold half bt; dsimp only; omega)

theorem half_mod (t : Fin cfg0.N) (p : Fin 2) (y : Fin 256) (h : 256 * ((half t p).val % 16) + y.val < 4096) :
    (⟨256 * ((half t p).val % 16) + y.val, h⟩ : Fin 4096) = st t (hf p y) :=
  Fin.ext (by unfold half st hf; dsimp only; omega)

/-- The four blocks a point leaves are the reference's. -/
theorem o6_at (c : Dev nD) (t : Fin cfg0.N) (p : Fin 2) (a : Fin 1024) (y : Fin 256) :
    (show EReal from out0_6 (iblk m c 0 t) (iblk m c 1 t) (iblk m c 2 t) (iblk m c 3 t) (iblk m c 4 t) (iblk m c 5 t) (ix3 p a y))
      = outQ (rP m c) (ix3 (half t p) a y) := by
  refine (out6_at (iblk m c 0 t) (iblk m c 1 t) (iblk m c 2 t) (iblk m c 3 t) (iblk m c 4 t) (iblk m c 5 t) p a y).trans (Eq.trans ?_ (Cert.Reference4Ideal.Res.outQ_at (rP m c) (half t p) a y).symm)
  rw [half_div, half_mod]
  exact Ideal.mul_congr (prodT_at m c t (hf p y) ⟨a.val, by omega⟩ (by dsimp only; omega)) rfl

theorem o7_at (c : Dev nD) (t : Fin cfg0.N) (r : Fin 512) (x : Fin 1024) :
    (show EReal from out0_7 (iblk m c 0 t) (iblk m c 1 t) (iblk m c 2 t) (iblk m c 3 t) (iblk m c 4 t) (iblk m c 5 t) (ix2 r x))
      = outK (rP m c) (ix2 (row t r) x) := by
  refine (congrFun (out7_eq _ _ _ _ _ _) (ix2 r x)).trans ((pay2_at _ _ r x).trans (Eq.trans ?_ (Cert.Reference4Ideal.Res.outK_at (rP m c) (row t r) x).symm))
  rw [row_div, row_mod]
  refine (Finset.sum_congr rfl fun k _ => Ideal.mul_congr rfl (ldK _ k x)).trans ?_
  exact (prod_at m c t r ⟨1024 + x.val, by omega⟩).trans (dif_pos (by dsimp only; omega))

theorem o8_at (c : Dev nD) (t : Fin cfg0.N) (p : Fin 2) (a : Fin 1024) (y : Fin 256) :
    (show EReal from out0_8 (iblk m c 0 t) (iblk m c 1 t) (iblk m c 2 t) (iblk m c 3 t) (iblk m c 4 t) (iblk m c 5 t) (ix3 p a y))
      = outV (rP m c) (ix3 (half t p) a y) := by
  refine (out8_at (iblk m c 0 t) (iblk m c 1 t) (iblk m c 2 t) (iblk m c 3 t) (iblk m c 4 t) (iblk m c 5 t) p a y).trans (Eq.trans ?_ (Cert.Reference4Ideal.Res.outV_at (rP m c) (half t p) a y).symm)
  rw [half_div, half_mod]
  exact prodT_at m c t (hf p y) ⟨2048 + a.val, by omega⟩ (by dsimp only; omega)

theorem o9_at (c : Dev nD) (t : Fin cfg0.N) (r : Fin 512) (x : Fin 128) :
    (show EReal from out0_9 (iblk m c 0 t) (iblk m c 1 t) (iblk m c 2 t) (iblk m c 3 t) (iblk m c 4 t) (iblk m c 5 t) (ix2 r x))
      = outF (rP m c) (ix2 (row t r) x) := by
  refine (congrFun (out9_eq _ _ _ _ _ _) (ix2 r x)).trans ((pay6_at _ _ r x).trans (Eq.trans ?_ (Cert.Reference4Ideal.Res.outF_at (rP m c) (row t r) x).symm))
  rw [row_div, row_mod]
  refine (Finset.sum_congr rfl fun k _ => Ideal.mul_congr rfl (ldF _ k x)).trans ((prod_at m c t r ⟨3072 + x.val, by omega⟩).trans ?_)
  by_cases h : x.val < 16
  · rw [dif_pos h]
    exact dif_pos (by dsimp only; omega)
  · rw [dif_neg h]
    exact dif_neg (by dsimp only; omega)

/-- The queries' array, once every point has run, is the reference's. -/
theorem arr6 (c : Dev nD) : (dats m 0 c).arrAt 6 (cfgs 0).N = outQ (rP m c) := by
  refine (dats m 0 c).arrAt_eq_of_covers 6 _ (by decide +kernel) fun t _ y => ?_
  blk_simp
  rw [after0_6]
  have e := o6_at m c t (y 0) (y 1) (y 2)
  have ht := lt32 t
  have hy : (show S2x1024x256.Idx from y) = ix3 (y 0) (y 1) (y 2) := funext fun a => by fin_cases a <;> rfl
  refine (congrArg (out0_6 (iblk m c 0 t) (iblk m c 1 t) (iblk m c 2 t) (iblk m c 3 t) (iblk m c 4 t) (iblk m c 5 t)) hy).trans (e.trans (congrArg (outQ (rP m c)) ?_))
  unfold half
  blk_ext [idx t]

/-- The keys' array. -/
theorem arr7 (c : Dev nD) : (dats m 0 c).arrAt 7 (cfgs 0).N = outK (rP m c) := by
  refine (dats m 0 c).arrAt_eq_of_covers 7 _ (by decide +kernel) fun t _ y => ?_
  blk_simp
  rw [after0_7]
  have e := o7_at m c t (y 0) (y 1)
  have ht := lt32 t
  have hy : (show S512x1024.Idx from y) = ix2 (y 0) (y 1) := funext fun a => by fin_cases a <;> rfl
  refine (congrArg (out0_7 (iblk m c 0 t) (iblk m c 1 t) (iblk m c 2 t) (iblk m c 3 t) (iblk m c 4 t) (iblk m c 5 t)) hy).trans (e.trans (congrArg (outK (rP m c)) ?_))
  unfold row
  blk_ext [idx t]

/-- The values' array. -/
theorem arr8 (c : Dev nD) : (dats m 0 c).arrAt 8 (cfgs 0).N = outV (rP m c) := by
  refine (dats m 0 c).arrAt_eq_of_covers 8 _ (by decide +kernel) fun t _ y => ?_
  blk_simp
  rw [after0_8]
  have e := o8_at m c t (y 0) (y 1) (y 2)
  have ht := lt32 t
  have hy : (show S2x1024x256.Idx from y) = ix3 (y 0) (y 1) (y 2) := funext fun a => by fin_cases a <;> rfl
  refine (congrArg (out0_8 (iblk m c 0 t) (iblk m c 1 t) (iblk m c 2 t) (iblk m c 3 t) (iblk m c 4 t) (iblk m c 5 t)) hy).trans (e.trans (congrArg (outV (rP m c)) ?_))
  unfold half
  blk_ext [idx t]

/-- The forget logits' array. -/
theorem arr9 (c : Dev nD) : (dats m 0 c).arrAt 9 (cfgs 0).N = outF (rP m c) := by
  refine (dats m 0 c).arrAt_eq_of_covers 9 _ (by decide +kernel) fun t _ y => ?_
  blk_simp
  rw [after0_9]
  have e := o9_at m c t (y 0) (y 1)
  have ht := lt32 t
  have hy : (show S512x128.Idx from y) = ix2 (y 0) (y 1) := funext fun a => by fin_cases a <;> rfl
  refine (congrArg (out0_9 (iblk m c 0 t) (iblk m c 1 t) (iblk m c 2 t) (iblk m c 3 t) (iblk m c 4 t) (iblk m c 5 t)) hy).trans (e.trans (congrArg (outF (rP m c)) ?_))
  unfold row
  blk_ext [idx t]

end Cert.Kernel4Ideal.Res

end
-- ==== Proof.Claim4.lean ====
/- The claims of the fourth kernel and its reference. -/
module

public import proofs.«01_k».proof.Defs
public import proofs.«01_k».proof.Proof.In4
public import proofs.«01_k».proof.Proof.Gen.Kernel4.Frame
public import Idealize.ShloMosaic.Lib.Claim
public import Idealize.ShloMosaic.Adequacy
public import Idealize.ShloMosaic.Init
@[expose] public section

set_option maxRecDepth 16384

noncomputable section

namespace Cert.Proof

open Idealize.ShloMosaic Idealize.SL.Sem

/-- The fourth kernel ends with its arguments unchanged and every semaphore at zero. -/
theorem frame_4 : Cert.quiescent_Kernel4 (hKernel4 := Cert.Kernel4.Gen.facts) := fun m g _ => Cert.Kernel4.Gen.frame m g

/-- The fourth idealized kernel ends with its arguments unchanged and every semaphore at zero. -/
theorem frame_4Ideal : Cert.quiescent_Kernel4Ideal (hKernel4Ideal := Cert.Kernel4Ideal.Gen.facts) := fun m g _ => Cert.Kernel4Ideal.Gen.frame m g

set_option maxHeartbeats 1600000 in
/-- The fourth idealized reference ends with its arguments unchanged and every semaphore at zero. -/
theorem frame_ref4 : Cert.quiescent_Reference4Ideal (hReference4Ideal := Cert.Reference4Ideal.Gen.facts) := fun m g _ =>
  (θ_run Cert.Reference4Ideal.defs _ _).mono (fun r h => ⟨fun c => (h c).2.2.2.2, sem_eq_zero_of_no_sems (by decide) r.2⟩)
    (Cert.Reference4Ideal.Value.run m g)

set_option maxHeartbeats 1600000 in
/-- The fourth kernel's four results are its reference's. -/
theorem algebraic4 : Cert.algebraic_Kernel4Ideal_Reference4Ideal (hKernel4Ideal := Cert.Kernel4Ideal.Gen.facts)
    (hReference4Ideal := Cert.Reference4Ideal.Gen.facts) := by
  intro m g m' g' hpre hargs
  refine ⟨fun c => (Cert.Kernel4Ideal.Gen.dats m 0 c).arrAt 6 (Cert.Kernel4Ideal.cfgs 0).N,
    fun c => (Cert.Kernel4Ideal.Gen.dats m 0 c).arrAt 7 (Cert.Kernel4Ideal.cfgs 0).N,
    fun c => (Cert.Kernel4Ideal.Gen.dats m 0 c).arrAt 8 (Cert.Kernel4Ideal.cfgs 0).N,
    fun c => (Cert.Kernel4Ideal.Gen.dats m 0 c).arrAt 9 (Cert.Kernel4Ideal.cfgs 0).N, Cert.Kernel4Ideal.Value.run_blocks m g, ?_⟩
  refine (θ_run Cert.Reference4Ideal.defs _ _).mono
    (fun r h c => ⟨(h c).1.trans ?_, (h c).2.1.trans ?_, (h c).2.2.1.trans ?_, (h c).2.2.2.1.trans ?_, (h c).2.2.2.2⟩)
    (Cert.Reference4Ideal.Value.run m' g')
  all_goals
    obtain ⟨h0, h1, h2, h3, h4⟩ := hargs c
    rw [h0, h1, h2, h3, h4]
  · exact (Cert.Kernel4Ideal.Res.arr6 m c).symm
  · exact (Cert.Kernel4Ideal.Res.arr7 m c).symm
  · exact (Cert.Kernel4Ideal.Res.arr8 m c).symm
  · exact (Cert.Kernel4Ideal.Res.arr9 m c).symm

end Cert.Proof

end
-- ==== Proof.Res5Ref.lean ====
/- The fifth reference's results at the ideal instance, by coordinates. -/
module

public import proofs.«01_k».proof.Proof.Gen.Reference5Ideal
public import proofs.«01_k».proof.Proof.Gen.Reference5Ideal.Run
public import proofs.«01_k».proof.Proof.Res2Ref
public import proofs.«01_k».proof.Proof.Res4Ref
@[expose] public section

set_option maxRecDepth 16384

noncomputable section

namespace Cert.Reference5Ideal.Res

open Idealize.ShloMosaic Idealize.ShloMosaic.TcCoe
open Cert.Reference5Ideal Cert.Reference5Ideal.Gen

/-- The norm of a latent row of 256 columns: the row over the root of its mean square, times the gain. -/
def latRow (f g : Fin 256 → EReal) (c : Fin 256) : EReal :=
  f c * Ideal.rsqrt (Ideal.div (∑ x, f x * f x) (Ideal.ofBits .f32 0x43800000#32) + Ideal.ofBits .f32 0x358637BD#32) * g c

theorem latRow_congr {f f' g g' : Fin 256 → EReal} (hf : ∀ x, f x = f' x) (hg : ∀ x, g x = g' x) (c : Fin 256) : latRow f g c = latRow f' g' c := by
  rw [funext hf, funext hg]

/-- The normalized rows times the input projection. -/
def refP (H : FVec Ideal S4x4096x1024 .f32) (w : FVec Ideal S1024x2888 .f32) : FVec Ideal S4x4096x2888 .f32 :=
  Host.dotGeneral dot_S4x4096x1024_S1024x2888_S4x4096x2888_2_0_01_1_n_n none H w

/-- The bands of columns of the product. -/
def bandQa (p : FVec Ideal S4x4096x2888 .f32) : FVec Ideal S4x4096x512 .f32 := extractStridedSlice S4x4096x512 ![0, 0, 0] p slices_S4x4096x2888_S4x4096x512_0_0_0
def bandQi (p : FVec Ideal S4x4096x2888 .f32) : FVec Ideal S4x4096x512 .f32 := extractStridedSlice S4x4096x512 ![0, 0, 768] p slices_S4x4096x2888_S4x4096x512_0_0_768
def bandQb (p : FVec Ideal S4x4096x2888 .f32) : FVec Ideal S4x4096x512 .f32 := extractStridedSlice S4x4096x512 ![0, 0, 1352] p slices_S4x4096x2888_S4x4096x512_0_0_1352
def bandKb (p : FVec Ideal S4x4096x2888 .f32) : FVec Ideal S4x4096x512 .f32 := extractStridedSlice S4x4096x512 ![0, 0, 1864] p slices_S4x4096x2888_S4x4096x512_0_0_1864
def bandVb (p : FVec Ideal S4x4096x2888 .f32) : FVec Ideal S4x4096x512 .f32 := extractStridedSlice S4x4096x512 ![0, 0, 2376] p slices_S4x4096x2888_S4x4096x512_0_0_2376
def bandC (p : FVec Ideal S4x4096x2888 .f32) : FVec Ideal S4x4096x256 .f32 := extractStridedSlice S4x4096x256 ![0, 0, 512] p slices_S4x4096x2888_S4x4096x256_0_0_512

/-- A band scaled, in blocks of 256 rows, transposed. -/
def outTq (y : FVec Ideal S4x4096x512 .f32) : FVec Ideal S64x512x256 .bf16 :=
  truncf .bf16 (transpose S64x512x256 [0, 2, 1] (shapeCast S64x256x512 (mulf y (broadcastInDim S4x4096x512 ![] bcast_S_S4x4096x512 (constant S_ .f32 0x3E000000#32))) shapeCasts_S4x4096x512_S64x256x512) transposes_S64x256x512_S64x512x256_0_2_1) bitsLt_bf16_f32

/-- A band in blocks of 256 rows, transposed. -/
def outT (y : FVec Ideal S4x4096x512 .f32) : FVec Ideal S64x512x256 .bf16 :=
  truncf .bf16 (transpose S64x512x256 [0, 2, 1] (shapeCast S64x256x512 y shapeCasts_S4x4096x512_S64x256x512) transposes_S64x256x512_S64x512x256_0_2_1) bitsLt_bf16_f32

/-- A band, row by row. -/
def outB (y : FVec Ideal S4x4096x512 .f32) : FVec Ideal S16384x512 .bf16 :=
  truncf .bf16 (shapeCast S16384x512 y shapeCasts_S4x4096x512_S16384x512) bitsLt_bf16_f32

/-- The latent rows, normalized. -/
def lat (y : FVec Ideal S4x4096x256 .f32) (g : FVec Ideal S256 .f32) : FVec Ideal S4x4096x256 .f32 :=
  mulf (mulf y (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf y y) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 g))

/-- The normalized latent rows, row by row. -/
def outC (y : FVec Ideal S4x4096x256 .f32) : FVec Ideal S16384x256 .bf16 :=
  truncf .bf16 (shapeCast S16384x256 y shapeCasts_S4x4096x256_S16384x256) bitsLt_bf16_f32

/-- The normalized latent rows in blocks of 256 rows, transposed. -/
def outCt (y : FVec Ideal S4x4096x256 .f32) : FVec Ideal S64x256x256 .bf16 :=
  truncf .bf16 (transpose S64x256x256 [0, 2, 1] (shapeCast S64x256x256 y shapeCasts_S4x4096x256_S64x256x256) transposes_S64x256x256_S64x256x256_0_2_1) bitsLt_bf16_f32

/-- The index keys and the index weights side by side, row by row, with zeros to the right. -/
def kw (p : FVec Ideal S4x4096x2888 .f32) : FVec Ideal S16384x128 .f32 :=
  pad S16384x128 ![0, 0] ![0, 56] ![0, 0] (shapeCast S16384x72 (concatenate S4x4096x72 2 [⟨S4x4096x64, (extractStridedSlice S4x4096x64 ![0, 0, 1280] p slices_S4x4096x2888_S4x4096x64_0_0_1280 : FVec Ideal S4x4096x64 .f32)⟩, ⟨S4x4096x8, (extractStridedSlice S4x4096x8 ![0, 0, 1344] p slices_S4x4096x2888_S4x4096x8_0_0_1344 : FVec Ideal S4x4096x8 .f32)⟩] concatenates_S4x4096x64_S4x4096x8_S4x4096x72_d2) shapeCasts_S4x4096x72_S16384x72) (sitofp .f32 (constantI S_ 32 0#32)) pads_S16384x72_S16384x128_000_0560 h_S_

def outKw (y : FVec Ideal S16384x128 .f32) : FVec Ideal S16384x128 .bf16 := truncf .bf16 y bitsLt_bf16_f32

/-- The same in blocks of 256 rows, transposed. -/
def outWt (y : FVec Ideal S16384x128 .f32) : FVec Ideal S64x128x256 .f32 :=
  transpose S64x128x256 [0, 2, 1] (shapeCast S64x256x128 y shapeCasts_S16384x128_S64x256x128) transposes_S64x256x128_S64x128x256_0_2_1

/-- An entry of the product. -/
theorem refP_at (H : FVec Ideal S4x4096x1024 .f32) (w : FVec Ideal S1024x2888 .f32) (b : Fin 4) (s : Fin 4096) (c : Fin 2888) :
    (show EReal from refP H w (ix3 b s c)) = ∑ k : Fin 1024, H (ix3 b s k) * w (ix2 k c) := by
  pointwise [refP]

/-- Entries of the bands. -/
theorem bandQa_at (p : FVec Ideal S4x4096x2888 .f32) (b : Fin 4) (s : Fin 4096) (c : Fin 512) : bandQa p (ix3 b s c) = p (ix3 b s (⟨c.val, by omega⟩ : Fin 2888)) := by
  pointwise [bandQa]

theorem bandQi_at (p : FVec Ideal S4x4096x2888 .f32) (b : Fin 4) (s : Fin 4096) (c : Fin 512) : bandQi p (ix3 b s c) = p (ix3 b s (⟨768 + c.val, by omega⟩ : Fin 2888)) := by
  pointwise [bandQi]

theorem bandQb_at (p : FVec Ideal S4x4096x2888 .f32) (b : Fin 4) (s : Fin 4096) (c : Fin 512) : bandQb p (ix3 b s c) = p (ix3 b s (⟨1352 + c.val, by omega⟩ : Fin 2888)) := by
  pointwise [bandQb]

theorem bandKb_at (p : FVec Ideal S4x4096x2888 .f32) (b : Fin 4) (s : Fin 4096) (c : Fin 512) : bandKb p (ix3 b s c) = p (ix3 b s (⟨1864 + c.val, by omega⟩ : Fin 2888)) := by
  pointwise [bandKb]

theorem bandVb_at (p : FVec Ideal S4x4096x2888 .f32) (b : Fin 4) (s : Fin 4096) (c : Fin 512) : bandVb p (ix3 b s c) = p (ix3 b s (⟨2376 + c.val, by omega⟩ : Fin 2888)) := by
  pointwise [bandVb]

theorem bandC_at (p : FVec Ideal S4x4096x2888 .f32) (b : Fin 4) (s : Fin 4096) (c : Fin 256) : bandC p (ix3 b s c) = p (ix3 b s (⟨512 + c.val, by omega⟩ : Fin 2888)) := by
  pointwise [bandC]

/-- Entries of the laid-out bands. -/
theorem outTq_at (y : FVec Ideal S4x4096x512 .f32) (i : Fin 64) (a : Fin 512) (r : Fin 256) :
    (show EReal from outTq y (ix3 i a r))
      = y (ix3 (⟨i.val / 16, by omega⟩ : Fin 4) (⟨256 * (i.val % 16) + r.val, by omega⟩ : Fin 4096) a) * Ideal.ofBits .f32 0x3E000000#32 := by
  pointwise [outTq]
  refine congrArg (fun z => y z * Ideal.ofBits .f32 0x3E000000#32) ?_
  idx_ext

theorem outT_at (y : FVec Ideal S4x4096x512 .f32) (i : Fin 64) (a : Fin 512) (r : Fin 256) :
    (show EReal from outT y (ix3 i a r)) = y (ix3 (⟨i.val / 16, by omega⟩ : Fin 4) (⟨256 * (i.val % 16) + r.val, by omega⟩ : Fin 4096) a) := by
  pointwise [outT]
  refine congrArg y ?_
  idx_ext

theorem outB_at (y : FVec Ideal S4x4096x512 .f32) (r : Fin 16384) (a : Fin 512) :
    (show EReal from outB y (ix2 r a)) = y (ix3 (⟨r.val / 4096, by omega⟩ : Fin 4) (⟨r.val % 4096, by omega⟩ : Fin 4096) a) := by
  pointwise [outB]

theorem lat_at (y : FVec Ideal S4x4096x256 .f32) (g : FVec Ideal S256 .f32) (b : Fin 4) (s : Fin 4096) (c : Fin 256) :
    (show EReal from lat y g (ix3 b s c)) = latRow (fun x => y (ix3 b s x)) (fun x => g (ix1 x)) c := by
  pointwise [lat]
  rfl

theorem outC_at (y : FVec Ideal S4x4096x256 .f32) (r : Fin 16384) (a : Fin 256) :
    (show EReal from outC y (ix2 r a)) = y (ix3 (⟨r.val / 4096, by omega⟩ : Fin 4) (⟨r.val % 4096, by omega⟩ : Fin 4096) a) := by
  pointwise [outC]

theorem outCt_at (y : FVec Ideal S4x4096x256 .f32) (i : Fin 64) (a r : Fin 256) :
    (show EReal from outCt y (ix3 i a r)) = y (ix3 (⟨i.val / 16, by omega⟩ : Fin 4) (⟨256 * (i.val % 16) + r.val, by omega⟩ : Fin 4096) a) := by
  pointwise [outCt]
  refine congrArg y ?_
  idx_ext

theorem kw_at (p : FVec Ideal S4x4096x2888 .f32) (r : Fin 16384) (c : Fin 128) :
    (show EReal from kw p (ix2 r c))
      = if h : c.val < 72 then p (ix3 (⟨r.val / 4096, by omega⟩ : Fin 4) (⟨r.val % 4096, by omega⟩ : Fin 4096) (⟨1280 + c.val, by omega⟩ : Fin 2888)) else 0 := by
  pointwise [kw]
  refine dite_congr rfl (fun h => ?_) (fun _ => Cert.Reference4Ideal.Res.zero_at)
  by_cases h' : c.val < 64
  · exact dif_pos h'
  · refine (dif_neg h').trans (congrArg p ?_)
    idx_ext

theorem outKw_at (y : FVec Ideal S16384x128 .f32) (r : Fin 16384) (c : Fin 128) : (show EReal from outKw y (ix2 r c)) = y (ix2 r c) := by
  pointwise [outKw]

theorem outWt_at (y : FVec Ideal S16384x128 .f32) (i : Fin 64) (a : Fin 128) (r : Fin 256) :
    outWt y (ix3 i a r) = y (ix2 (⟨256 * i.val + r.val, by omega⟩ : Fin 16384) a) := by
  pointwise [outWt]
  refine congrArg y ?_
  idx_ext

end Cert.Reference5Ideal.Res

end
-- ==== Proof.In5.lean ====
/- The fifth kernel's blocks at the ideal instance, by coordinates, and the arrays they leave. -/
module

public import proofs.«01_k».proof.Proof.Gen.Kernel5Ideal.Value
public import proofs.«01_k».proof.Proof.Res5Ref
public import Idealize.ShloMosaic.Lib.Pointwise
public import Idealize.ShloMosaic.Lib.Pipeline.ValueKit
@[expose] public section

set_option maxRecDepth 16384

noncomputable section

namespace Cert.Kernel5Ideal.Res

open Idealize.ShloMosaic Idealize.ShloMosaic.TcCoe
open Cert.Kernel5Ideal Cert.Kernel5Ideal.Gen
open Cert.Rows
open Cert.Reference2Ideal.Res (refH)
open Cert.Reference5Ideal.Res (latRow latRow_congr refP bandQa bandQi bandQb bandKb bandVb bandC outTq outT outB lat outC outCt kw outKw outWt)

/-- An entry of the normalized block. -/
theorem pay1_at (X : Vec Ideal S512x1024 .f32) (P : Vec Ideal S1x1024 .f32) (Q S : Vec Ideal S1x1x1024 .f32) (r : Fin 512) (c : Fin 1024) :
    (show EReal from k0_pay1 X P Q S (ix2 r c))
      = modRow (fun x => X (ix2 r x)) (fun x => P (ix2 0 x)) (fun x => Q (ix3 0 0 x)) (fun x => S (ix3 0 0 x)) c := by
  pointwise [k0_pay1]
  rfl

/-- The first 256 rows' product with 512 rows of the transposed weights, scaled, and the last 256 rows'. -/
theorem pay11_at (H : FVec Ideal S512x1024 .bf16) (W : Vec Ideal S512x1024 .bf16) (a : Fin 512) (y : Fin 256) :
    (show EReal from k0_pay11 H W (ix3 0 a y)) = (∑ k : Fin 1024, W (ix2 a k) * H (ix2 (⟨y.val, by omega⟩ : Fin 512) k)) * Ideal.ofBits .f32 0x3E000000#32 := by
  pointwise [k0_pay11, k0_pay10]

theorem pay12_at (H : FVec Ideal S512x1024 .bf16) (W : Vec Ideal S512x1024 .bf16) (a : Fin 512) (y : Fin 256) :
    (show EReal from k0_pay12 H W (ix3 0 a y)) = (∑ k : Fin 1024, W (ix2 a k) * H (ix2 (⟨256 + y.val, by omega⟩ : Fin 512) k)) * Ideal.ofBits .f32 0x3E000000#32 := by
  pointwise [k0_pay12, k0_pay10]

/-- The same without the scale. -/
theorem pay22_at (H : FVec Ideal S512x1024 .bf16) (W : Vec Ideal S512x1024 .bf16) (a : Fin 512) (y : Fin 256) :
    (show EReal from k0_pay22 H W (ix3 0 a y)) = ∑ k : Fin 1024, W (ix2 a k) * H (ix2 (⟨y.val, by omega⟩ : Fin 512) k) := by
  pointwise [k0_pay22, k0_pay21]

theorem pay23_at (H : FVec Ideal S512x1024 .bf16) (W : Vec Ideal S512x1024 .bf16) (a : Fin 512) (y : Fin 256) :
    (show EReal from k0_pay23 H W (ix3 0 a y)) = ∑ k : Fin 1024, W (ix2 a k) * H (ix2 (⟨256 + y.val, by omega⟩ : Fin 512) k) := by
  pointwise [k0_pay23, k0_pay21]

/-- The same of 128 rows of the transposed weights. -/
theorem pay15_at (H : FVec Ideal S512x1024 .bf16) (W : Vec Ideal S128x1024 .bf16) (a : Fin 128) (y : Fin 256) :
    (show EReal from k0_pay15 H W (ix3 0 a y)) = ∑ k : Fin 1024, W (ix2 a k) * H (ix2 (⟨y.val, by omega⟩ : Fin 512) k) := by
  pointwise [k0_pay15, k0_pay14]

theorem pay16_at (H : FVec Ideal S512x1024 .bf16) (W : Vec Ideal S128x1024 .bf16) (a : Fin 128) (y : Fin 256) :
    (show EReal from k0_pay16 H W (ix3 0 a y)) = ∑ k : Fin 1024, W (ix2 a k) * H (ix2 (⟨256 + y.val, by omega⟩ : Fin 512) k) := by
  pointwise [k0_pay16, k0_pay14]

/-- An entry of the latent block. -/
theorem pay5_at (H : FVec Ideal S512x1024 .bf16) (W : Vec Ideal S1024x256 .bf16) (G : Vec Ideal S1x256 .f32) (r : Fin 512) (c : Fin 256) :
    (show EReal from k0_pay5 H W G (ix2 r c)) = latRow (fun x => ∑ k : Fin 1024, H (ix2 r k) * W (ix2 k x)) (fun x => G (ix2 0 x)) c := by
  pointwise [k0_pay5]
  rfl

theorem pay6_at (H : FVec Ideal S512x1024 .bf16) (W : Vec Ideal S1024x256 .bf16) (G : Vec Ideal S1x256 .f32) (r : Fin 512) (c : Fin 256) :
    (show EReal from k0_pay6 H W G (ix2 r c)) = k0_pay5 H W G (ix2 r c) := by
  pointwise [k0_pay6]

theorem pay8_at (H : FVec Ideal S512x1024 .bf16) (W : Vec Ideal S1024x256 .bf16) (G : Vec Ideal S1x256 .f32) (a y : Fin 256) :
    (show EReal from k0_pay8 H W G (ix3 0 a y)) = k0_pay5 H W G (ix2 (⟨y.val, by omega⟩ : Fin 512) a) := by
  pointwise [k0_pay8, k0_pay7]

theorem pay9_at (H : FVec Ideal S512x1024 .bf16) (W : Vec Ideal S1024x256 .bf16) (G : Vec Ideal S1x256 .f32) (a y : Fin 256) :
    (show EReal from k0_pay9 H W G (ix3 0 a y)) = k0_pay5 H W G (ix2 (⟨256 + y.val, by omega⟩ : Fin 512) a) := by
  pointwise [k0_pay9, k0_pay7]

/-- An entry of a product with 128 and with 512 columns of the weights. -/
theorem pay13_at (H : FVec Ideal S512x1024 .bf16) (W : Vec Ideal S1024x128 .bf16) (r : Fin 512) (c : Fin 128) :
    (show EReal from k0_pay13 H W (ix2 r c)) = ∑ k : Fin 1024, H (ix2 r k) * W (ix2 k c) := by
  pointwise [k0_pay13]

theorem pay20_at (H : FVec Ideal S512x1024 .bf16) (W : Vec Ideal S1024x512 .bf16) (r c : Fin 512) :
    (show EReal from k0_pay20 H W (ix2 r c)) = ∑ k : Fin 1024, H (ix2 r k) * W (ix2 k c) := by
  pointwise [k0_pay20]

/-- What the loads from the weights read: bands of rows of the transposed weights, bands of columns of the weights. -/
theorem ldQa (W : Vec Ideal S2944x1024 .bf16) (a : Fin 512) (k : Fin 1024) : View.ld W r0_3 (ix2 a k) = W (ix2 (⟨a.val, by omega⟩ : Fin 2944) k) :=
  View.ld_unit_apply_of W _ _ _ _ _ fun a => by fin_cases a <;> simp

theorem ldQi (W : Vec Ideal S2944x1024 .bf16) (a : Fin 512) (k : Fin 1024) : View.ld W r0_11 (ix2 a k) = W (ix2 (⟨768 + a.val, by omega⟩ : Fin 2944) k) :=
  View.ld_unit_apply_of W _ _ _ _ _ fun a => by fin_cases a <;> simp

theorem ldWt (W : Vec Ideal S2944x1024 .bf16) (a : Fin 128) (k : Fin 1024) : View.ld W r0_14 (ix2 a k) = W (ix2 (⟨1280 + a.val, by omega⟩ : Fin 2944) k) :=
  View.ld_unit_apply_of W _ _ _ _ _ fun a => by fin_cases a <;> simp

theorem ldQb (W : Vec Ideal S2944x1024 .bf16) (a : Fin 512) (k : Fin 1024) : View.ld W r0_17 (ix2 a k) = W (ix2 (⟨1408 + a.val, by omega⟩ : Fin 2944) k) :=
  View.ld_unit_apply_of W _ _ _ _ _ fun a => by fin_cases a <;> simp

theorem ldVb (W : Vec Ideal S2944x1024 .bf16) (a : Fin 512) (k : Fin 1024) : View.ld W r0_20 (ix2 a k) = W (ix2 (⟨2432 + a.val, by omega⟩ : Fin 2944) k) :=
  View.ld_unit_apply_of W _ _ _ _ _ fun a => by fin_cases a <;> simp

theorem ldC (W : Vec Ideal S1024x2944 .bf16) (k : Fin 1024) (a : Fin 256) : View.ld W r0_6 (ix2 k a) = W (ix2 k (⟨512 + a.val, by omega⟩ : Fin 2944)) :=
  View.ld_unit_apply_of W _ _ _ _ _ fun a => by fin_cases a <;> simp

theorem ldKw (W : Vec Ideal S1024x2944 .bf16) (k : Fin 1024) (a : Fin 128) : View.ld W r0_12 (ix2 k a) = W (ix2 k (⟨1280 + a.val, by omega⟩ : Fin 2944)) :=
  View.ld_unit_apply_of W _ _ _ _ _ fun a => by fin_cases a <;> simp

theorem ldKb (W : Vec Ideal S1024x2944 .bf16) (k : Fin 1024) (a : Fin 512) : View.ld W r0_18 (ix2 k a) = W (ix2 k (⟨1920 + a.val, by omega⟩ : Fin 2944)) :=
  View.ld_unit_apply_of W _ _ _ _ _ fun a => by fin_cases a <;> simp

/-- Row `y` of half `p` of a block of 512 rows. -/
def hf (p : Fin 2) (y : Fin 256) : Fin 512 := ⟨256 * p.val + y.val, by omega⟩

theorem hf_one (p : Fin 2) (y : Fin 256) (h : p.val = 1) : (⟨256 + y.val, by omega⟩ : Fin 512) = hf p y :=
  Fin.ext (by unfold hf; dsimp only; omega)

theorem hf_zero (p : Fin 2) (y : Fin 256) (h : p.val = 0) : (⟨y.val, by omega⟩ : Fin 512) = hf p y :=
  Fin.ext (by unfold hf; dsimp only; omega)

/-- An index of a half, by its last two coordinates. -/
theorem tile_eq {n : Nat} (x : (⟨3, ![1, n, 256]⟩ : Shape).Idx) (a : Fin n) (y : Fin 256) (h1 : a.val = (x 1).val) (h2 : y.val = (x 2).val) : x = ix3 0 a y :=
  funext fun i => by
    fin_cases i
    · exact Fin.ext (by have := (x 0).isLt; change (x 0).val < 1 at this; change (x 0).val = 0; omega)
    · exact Fin.ext h1.symm
    · exact Fin.ext h2.symm

/-- The two halves of a scaled transposed product. -/
theorem halvesTq (H : FVec Ideal S512x1024 .bf16) (W : Vec Ideal S512x1024 .bf16) (p : Fin 2) (a : Fin 512) (y : Fin 256) :
    (show EReal from View.canon (Val := Elt Ideal) (e := .bf16) [⟨r0_5, k0_pay12 H W⟩, ⟨r0_4, k0_pay11 H W⟩] (ix3 p a y))
      = (∑ k : Fin 1024, W (ix2 a k) * H (ix2 (hf p y) k)) * Ideal.ofBits .f32 0x3E000000#32 := by
  canon_tiles x h
  · refine (congrArg (k0_pay12 H W) (tile_eq x a y h1 h2)).trans ((pay12_at H W a y).trans ?_)
    rw [hf_one p y (by have := (x 0).isLt; exact h0.trans (by omega))]
  · refine (congrArg (k0_pay11 H W) (tile_eq x a y h1 h2)).trans ((pay11_at H W a y).trans ?_)
    rw [hf_zero p y (by have := (x 0).isLt; exact h0.trans (by omega))]

/-- The two halves of a transposed product. -/
theorem halvesT (H : FVec Ideal S512x1024 .bf16) (W : Vec Ideal S512x1024 .bf16) (p : Fin 2) (a : Fin 512) (y : Fin 256) :
    (show EReal from View.canon (Val := Elt Ideal) (e := .bf16) [⟨r0_5, k0_pay23 H W⟩, ⟨r0_4, k0_pay22 H W⟩] (ix3 p a y))
      = ∑ k : Fin 1024, W (ix2 a k) * H (ix2 (hf p y) k) := by
  canon_tiles x h
  · refine (congrArg (k0_pay23 H W) (tile_eq x a y h1 h2)).trans ((pay23_at H W a y).trans ?_)
    rw [hf_one p y (by have := (x 0).isLt; exact h0.trans (by omega))]
  · refine (congrArg (k0_pay22 H W) (tile_eq x a y h1 h2)).trans ((pay22_at H W a y).trans ?_)
    rw [hf_zero p y (by have := (x 0).isLt; exact h0.trans (by omega))]

/-- The two halves of the transposed index keys and weights. -/
theorem halvesW (H : FVec Ideal S512x1024 .bf16) (W : Vec Ideal S128x1024 .bf16) (p : Fin 2) (a : Fin 128) (y : Fin 256) :
    (show EReal from View.canon (Val := Elt Ideal) (e := .f32) [⟨r0_16, k0_pay16 H W⟩, ⟨r0_15, k0_pay15 H W⟩] (ix3 p a y))
      = ∑ k : Fin 1024, W (ix2 a k) * H (ix2 (hf p y) k) := by
  canon_tiles x h
  · refine (congrArg (k0_pay16 H W) (tile_eq x a y h1 h2)).trans ((pay16_at H W a y).trans ?_)
    rw [hf_one p y (by have := (x 0).isLt; exact h0.trans (by omega))]
  · refine (congrArg (k0_pay15 H W) (tile_eq x a y h1 h2)).trans ((pay15_at H W a y).trans ?_)
    rw [hf_zero p y (by have := (x 0).isLt; exact h0.trans (by omega))]

/-- The two halves of the transposed latent block. -/
theorem halvesC (H : FVec Ideal S512x1024 .bf16) (W : Vec Ideal S1024x256 .bf16) (G : Vec Ideal S1x256 .f32) (p : Fin 2) (a y : Fin 256) :
    (show EReal from View.canon (Val := Elt Ideal) (e := .bf16) [⟨r0_10, k0_pay9 H W G⟩, ⟨r0_9, k0_pay8 H W G⟩] (ix3 p a y)) = k0_pay5 H W G (ix2 (hf p y) a) := by
  canon_tiles x h
  · refine (congrArg (k0_pay9 H W G) (tile_eq x a y h1 h2)).trans ((pay9_at H W G a y).trans ?_)
    rw [hf_one p y (by have := (x 0).isLt; exact h0.trans (by omega))]
  · refine (congrArg (k0_pay8 H W G) (tile_eq x a y h1 h2)).trans ((pay8_at H W G a y).trans ?_)
    rw [hf_zero p y (by have := (x 0).isLt; exact h0.trans (by omega))]

variable (x0 : Vec Ideal S512x1024 .f32) (x1 : Vec Ideal S1x1024 .f32) (x2 x3 : Vec Ideal S1x1x1024 .f32)
  (x4 : Vec Ideal S1024x2944 .bf16) (x5 : Vec Ideal S2944x1024 .bf16) (x6 : Vec Ideal S1x256 .f32)

/-- Loads of whole blocks. -/
theorem x0_eq : View.ld x0 r0_0 = x0 := View.ld_unit_lit _ x0 (by decide)
theorem x1_eq : View.ld x1 r0_1 = x1 := View.ld_unit_lit _ x1 (by decide)
theorem x2_eq : View.ld x2 r0_2 = x2 := View.ld_unit_lit _ x2 (by decide)
theorem x6_eq : View.ld x6 r0_7 = x6 := View.ld_unit_lit _ x6 (by decide)

/-- The normalized block, of the whole input blocks. -/
theorem pay24_eq : k0_pay24 x0 x1 x2 x3 x4 x5 x6 = k0_pay1 x0 x1 x2 x3 := by
  unfold k0_pay24
  rw [x0_eq, x1_eq, x2_eq, x2_eq]

/-- The nine output blocks, by the normalized block. -/
theorem out7_at (p : Fin 2) (a : Fin 512) (y : Fin 256) :
    (show EReal from out0_7 x0 x1 x2 x3 x4 x5 x6 (ix3 p a y))
      = (∑ k : Fin 1024, x5 (ix2 (⟨a.val, by omega⟩ : Fin 2944) k) * k0_pay1 x0 x1 x2 x3 (ix2 (hf p y) k)) * Ideal.ofBits .f32 0x3E000000#32 := by
  unfold out0_7
  rw [x0_eq, x1_eq, x2_eq, x2_eq]
  refine (halvesTq (k0_pay1 x0 x1 x2 x3) (View.ld x5 r0_3) p a y).trans ?_
  exact Ideal.mul_congr (Finset.sum_congr rfl fun k _ => Ideal.mul_congr (ldQa x5 a k) rfl) rfl

theorem out8_eq : out0_8 x0 x1 x2 x3 x4 x5 x6 = k0_pay6 (k0_pay1 x0 x1 x2 x3) (View.ld x4 r0_6) x6 := by
  frame_out [out0_8, k0_pay24]

theorem out9_at (p : Fin 2) (a y : Fin 256) :
    (show EReal from out0_9 x0 x1 x2 x3 x4 x5 x6 (ix3 p a y)) = k0_pay5 (k0_pay1 x0 x1 x2 x3) (View.ld x4 r0_6) x6 (ix2 (hf p y) a) := by
  unfold out0_9
  rw [pay24_eq, x6_eq]
  exact halvesC (k0_pay1 x0 x1 x2 x3) (View.ld x4 r0_6) x6 p a y

theorem out10_at (p : Fin 2) (a : Fin 512) (y : Fin 256) :
    (show EReal from out0_10 x0 x1 x2 x3 x4 x5 x6 (ix3 p a y))
      = (∑ k : Fin 1024, x5 (ix2 (⟨768 + a.val, by omega⟩ : Fin 2944) k) * k0_pay1 x0 x1 x2 x3 (ix2 (hf p y) k)) * Ideal.ofBits .f32 0x3E000000#32 := by
  unfold out0_10
  rw [pay24_eq]
  refine (halvesTq (k0_pay1 x0 x1 x2 x3) (View.ld x5 r0_11) p a y).trans ?_
  exact Ideal.mul_congr (Finset.sum_congr rfl fun k _ => Ideal.mul_congr (ldQi x5 a k) rfl) rfl

theorem out11_eq : out0_11 x0 x1 x2 x3 x4 x5 x6 = k0_pay13 (k0_pay1 x0 x1 x2 x3) (View.ld x4 r0_12) := by
  frame_out [out0_11, k0_pay24]

theorem out12_at (p : Fin 2) (a : Fin 128) (y : Fin 256) :
    (show EReal from out0_12 x0 x1 x2 x3 x4 x5 x6 (ix3 p a y))
      = ∑ k : Fin 1024, x5 (ix2 (⟨1280 + a.val, by omega⟩ : Fin 2944) k) * k0_pay1 x0 x1 x2 x3 (ix2 (hf p y) k) := by
  unfold out0_12
  rw [pay24_eq]
  refine (halvesW (k0_pay1 x0 x1 x2 x3) (View.ld x5 r0_14) p a y).trans ?_
  exact Finset.sum_congr rfl fun k _ => Ideal.mul_congr (ldWt x5 a k) rfl

theorem out13_at (p : Fin 2) (a : Fin 512) (y : Fin 256) :
    (show EReal from out0_13 x0 x1 x2 x3 x4 x5 x6 (ix3 p a y))
      = (∑ k : Fin 1024, x5 (ix2 (⟨1408 + a.val, by omega⟩ : Fin 2944) k) * k0_pay1 x0 x1 x2 x3 (ix2 (hf p y) k)) * Ideal.ofBits .f32 0x3E000000#32 := by
  unfold out0_13
  rw [pay24_eq]
  refine (halvesTq (k0_pay1 x0 x1 x2 x3) (View.ld x5 r0_17) p a y).trans ?_
  exact Ideal.mul_congr (Finset.sum_congr rfl fun k _ => Ideal.mul_congr (ldQb x5 a k) rfl) rfl

theorem out14_eq : out0_14 x0 x1 x2 x3 x4 x5 x6 = k0_pay20 (k0_pay1 x0 x1 x2 x3) (View.ld x4 r0_18) := by
  frame_out [out0_14, k0_pay24]

theorem out15_at (p : Fin 2) (a : Fin 512) (y : Fin 256) :
    (show EReal from out0_15 x0 x1 x2 x3 x4 x5 x6 (ix3 p a y))
      = ∑ k : Fin 1024, x5 (ix2 (⟨2432 + a.val, by omega⟩ : Fin 2944) k) * k0_pay1 x0 x1 x2 x3 (ix2 (hf p y) k) := by
  unfold out0_15
  rw [pay24_eq]
  refine (halvesT (k0_pay1 x0 x1 x2 x3) (View.ld x5 r0_20) p a y).trans ?_
  exact Finset.sum_congr rfl fun k _ => Ideal.mul_congr (ldVb x5 a k) rfl

/-- Which block of its array each window reads or writes at a point. -/
theorem idx : ∀ t : Fin cfg0.N,
    win0_0.index t = ![t.val, 0] ∧ win0_1.index t = ![0, 0] ∧ win0_2.index t = ![t.val / 8, 0, 0] ∧ win0_3.index t = ![t.val / 8, 0, 0]
      ∧ win0_4.index t = ![0, 0] ∧ win0_5.index t = ![0, 0] ∧ win0_6.index t = ![0, 0] ∧ win0_7.index t = ![t.val, 0, 0]
      ∧ win0_8.index t = ![t.val, 0] ∧ win0_9.index t = ![t.val, 0, 0] ∧ win0_10.index t = ![t.val, 0, 0] ∧ win0_11.index t = ![t.val, 0]
      ∧ win0_12.index t = ![t.val, 0, 0] ∧ win0_13.index t = ![t.val, 0, 0] ∧ win0_14.index t = ![t.val, 0] ∧ win0_15.index t = ![t.val, 0, 0] :=
  (by decide +kernel : ∀ t : Fin grid0.N,
    win0_0.index t = ![t.val, 0] ∧ win0_1.index t = ![0, 0] ∧ win0_2.index t = ![t.val / 8, 0, 0] ∧ win0_3.index t = ![t.val / 8, 0, 0]
      ∧ win0_4.index t = ![0, 0] ∧ win0_5.index t = ![0, 0] ∧ win0_6.index t = ![0, 0] ∧ win0_7.index t = ![t.val, 0, 0]
      ∧ win0_8.index t = ![t.val, 0] ∧ win0_9.index t = ![t.val, 0, 0] ∧ win0_10.index t = ![t.val, 0, 0] ∧ win0_11.index t = ![t.val, 0]
      ∧ win0_12.index t = ![t.val, 0, 0] ∧ win0_13.index t = ![t.val, 0, 0] ∧ win0_14.index t = ![t.val, 0] ∧ win0_15.index t = ![t.val, 0, 0])

theorem lt32 (t : Fin cfg0.N) : t.val < 32 := lt_of_lt_of_eq t.isLt (by decide +kernel)

variable (m : (ℓ : Loc nD τ sig) → Buf (Elt Ideal) ℓ)

/-- The six arguments. -/
def argX (c : Dev nD) : FVec Ideal S4x4096x1024 .f32 := m ((c.tc : Thread nD τ).loc main_arg0)
def argGain (c : Dev nD) : FVec Ideal S1024 .f32 := m ((c.tc : Thread nD τ).loc main_arg1)
def argSc (c : Dev nD) : FVec Ideal S4x1x1024 .f32 := m ((c.tc : Thread nD τ).loc main_arg2)
def argSh (c : Dev nD) : FVec Ideal S4x1x1024 .f32 := m ((c.tc : Thread nD τ).loc main_arg3)
def argW (c : Dev nD) : FVec Ideal S1024x2888 .f32 := m ((c.tc : Thread nD τ).loc main_arg4)
def argKv (c : Dev nD) : FVec Ideal S256 .f32 := m ((c.tc : Thread nD τ).loc main_arg5)

/-- The flat layout: row `r` is token `r`, counted over the batch. -/
theorem layF (X : FVec Ideal S4x4096x1024 .f32) (r : Fin 16384) (a : Fin 1024) :
    shapeCast S16384x1024 X shapeCasts_S4x4096x1024_S16384x1024 (ix2 r a)
      = X (ix3 (⟨r.val / 4096, by omega⟩ : Fin 4) (⟨r.val % 4096, by omega⟩ : Fin 4096) a) := by
  pointwise

/-- The batch entry and the position of row `r` of point `t`'s block. -/
def bt (t : Fin cfg0.N) : Fin 4 := ⟨t.val / 8, by have := lt32 t; omega⟩
def st (t : Fin cfg0.N) (r : Fin 512) : Fin 4096 := ⟨512 * (t.val % 8) + r.val, by omega⟩

/-- The input's block. -/
theorem blk0_at (c : Dev nD) (t : Fin cfg0.N) (r : Fin 512) (x : Fin 1024) :
    (show EReal from (iblk m c 0 t : Vec Ideal S512x1024 .f32) (ix2 r x)) = argX m c (ix3 (bt t) (st t r) x) := by
  have ht := lt32 t
  blk_simp [iblk]
  entry_read
  refine Eq.trans (b := shapeCast S16384x1024 (argX m c) shapeCasts_S4x4096x1024_S16384x1024
    (ix2 (⟨512 * t.val + r.val, by omega⟩ : Fin 16384) x)) ?_ ?_
  · refine congrArg (shapeCast S16384x1024 (argX m c) shapeCasts_S4x4096x1024_S16384x1024) ?_
    blk_ext [idx t]
  · rw [layF]
    refine congrArg (argX m c) ?_
    unfold bt st
    idx_ext

/-- The norm's gain. -/
theorem blk1_at (c : Dev nD) (t : Fin cfg0.N) (x : Fin 1024) :
    (show EReal from (iblk m c 1 t : Vec Ideal S1x1024 .f32) (ix2 0 x)) = argGain m c (ix1 x) := by
  blk_simp [iblk]
  entry_read
  refine Eq.trans (b := shapeCast S1x1024 (argGain m c) shapeCasts_S1024_S1x1024 (ix2 0 x)) ?_ ?_
  · refine congrArg (shapeCast S1x1024 (argGain m c) shapeCasts_S1024_S1x1024) ?_
    blk_ext [idx t]
  · pointwise

/-- The scale of the point's batch entry. -/
theorem blk2_at (c : Dev nD) (t : Fin cfg0.N) (x : Fin 1024) :
    (show EReal from (iblk m c 2 t : Vec Ideal S1x1x1024 .f32) (ix3 0 0 x)) = argSc m c (ix3 (bt t) 0 x) := by
  blk_simp [iblk]
  entry_read
  refine congrArg (argSc m c) ?_
  unfold bt
  blk_ext [idx t]

/-- The shift of the point's batch entry. -/
theorem blk3_at (c : Dev nD) (t : Fin cfg0.N) (x : Fin 1024) :
    (show EReal from (iblk m c 3 t : Vec Ideal S1x1x1024 .f32) (ix3 0 0 x)) = argSh m c (ix3 (bt t) 0 x) := by
  blk_simp [iblk]
  entry_read
  refine congrArg (argSh m c) ?_
  unfold bt
  blk_ext [idx t]

/-- The gain of the latent norm. -/
theorem blk6_at (c : Dev nD) (t : Fin cfg0.N) (x : Fin 256) :
    (show EReal from (iblk m c 6 t : Vec Ideal S1x256 .f32) (ix2 0 x)) = argKv m c (ix1 x) := by
  blk_simp [iblk]
  entry_read
  refine Eq.trans (b := shapeCast S1x256 (argKv m c) shapeCasts_S256_S1x256 (ix2 0 x)) ?_ ?_
  · refine congrArg (shapeCast S1x256 (argKv m c) shapeCasts_S256_S1x256) ?_
    blk_ext [idx t]
  · pointwise

/-- Entry `x` of a row of 2888 columns with 56 zeros put in after column 1352. -/
def gap (f : Fin 2888 → EReal) (x : Fin 2944) : EReal :=
  if h : x.val < 1352 then f ⟨x.val, by omega⟩ else if x.val < 1408 then 0 else f ⟨x.val - 56, by omega⟩

/-- The weights with the zero columns put in. -/
def padA (W : FVec Ideal S1024x2888 .f32) : FVec Ideal S1024x2944 .bf16 :=
  truncf .bf16 (concatenate S1024x2944 1 [⟨S1024x1280, (extractStridedSlice S1024x1280 ![0, 0] W slices_S1024x2888_S1024x1280_0_0 : FVec Ideal S1024x1280 .f32)⟩, ⟨S1024x128, (pad S1024x128 ![0, 0] ![0, 56] ![0, 0] (extractStridedSlice S1024x72 ![0, 1280] W slices_S1024x2888_S1024x72_0_1280) (sitofp .f32 (constantI S_ 32 0#32)) pads_S1024x72_S1024x128_000_0560 h_S_ : FVec Ideal S1024x128 .f32)⟩, ⟨S1024x1536, (extractStridedSlice S1024x1536 ![0, 1352] W slices_S1024x2888_S1024x1536_0_1352 : FVec Ideal S1024x1536 .f32)⟩] concatenates_S1024x1280_S1024x128_S1024x1536_S1024x2944_d1) bitsLt_bf16_f32

theorem padA_at (W : FVec Ideal S1024x2888 .f32) (k : Fin 1024) (x : Fin 2944) : (show EReal from padA W (ix2 k x)) = gap (fun z => W (ix2 k z)) x := by
  pointwise [padA]
  unfold gap
  by_cases h : x.val < 1280
  · rw [dif_pos h, dif_pos (by omega)]
  · rw [dif_neg h]
    by_cases h' : x.val < 1408
    · rw [dif_pos (by omega)]
      by_cases h'' : x.val < 1352
      · rw [dif_pos (by omega), dif_pos h'']
        refine congrArg W ?_
        idx_ext
      · rw [dif_neg (by omega), dif_neg h'', if_pos h']
        exact Cert.Reference4Ideal.Res.zero_at
    · rw [dif_neg (by omega), dif_neg (by omega), if_neg h']
      refine congrArg W ?_
      idx_ext

/-- The padded weights. -/
theorem blk4_at (c : Dev nD) (t : Fin cfg0.N) (k : Fin 1024) (x : Fin 2944) :
    (show EReal from (iblk m c 4 t : Vec Ideal S1024x2944 .bf16) (ix2 k x)) = gap (fun z => argW m c (ix2 k z)) x := by
  blk_simp [iblk]
  refine Eq.trans (b := padA (argW m c) (ix2 k x)) ?_ (padA_at (argW m c) k x)
  refine congrArg (padA (argW m c)) ?_
  blk_ext [idx t]

/-- The padded weights, transposed. -/
theorem blk5_at (c : Dev nD) (t : Fin cfg0.N) (x : Fin 2944) (k : Fin 1024) :
    (show EReal from (iblk m c 5 t : Vec Ideal S2944x1024 .bf16) (ix2 x k)) = gap (fun z => argW m c (ix2 k z)) x := by
  blk_simp [iblk]
  refine Eq.trans (b := transpose S2944x1024 [1, 0] (padA (argW m c)) transposes_S1024x2944_S2944x1024_1_0 (ix2 x k)) ?_ (Eq.trans ?_ (padA_at (argW m c) k x))
  · refine congrArg (transpose S2944x1024 [1, 0] (padA (argW m c)) transposes_S1024x2944_S2944x1024_1_0) ?_
    blk_ext [idx t]
  · pointwise

/-- The reference's normalized rows, their product with the weights, and its latent rows. -/
def rH (c : Dev nD) : FVec Ideal S4x4096x1024 .f32 := refH (argX m c) (argGain m c) (argSc m c) (argSh m c)
def rP (c : Dev nD) : FVec Ideal Cert.Reference5Ideal.S4x4096x2888 .f32 := refP (rH m c) (argW m c)
def rC (c : Dev nD) : FVec Ideal Cert.Reference5Ideal.S4x4096x256 .f32 := lat (bandC (rP m c)) (argKv m c)

/-- Row `r` of point `t`'s normalized block is the reference's. -/
theorem nrm_at (c : Dev nD) (t : Fin cfg0.N) (r : Fin 512) (x : Fin 1024) :
    (show EReal from k0_pay1 (iblk m c 0 t) (iblk m c 1 t) (iblk m c 2 t) (iblk m c 3 t) (ix2 r x)) = rH m c (ix3 (bt t) (st t r) x) := by
  refine (pay1_at (iblk m c 0 t) (iblk m c 1 t) (iblk m c 2 t) (iblk m c 3 t) r x).trans (Eq.trans ?_ (Cert.Reference2Ideal.Res.refH_at _ _ _ _ (bt t) (st t r) x).symm)
  exact modRow_congr (fun k => blk0_at m c t r k) (fun k => blk1_at m c t k) (fun k => blk2_at m c t k) (fun k => blk3_at m c t k) x

/-- The sum of a row against the columns with zeros put in is the gapped row of sums. -/
theorem gap_sum (h : Fin 1024 → EReal) (W : FVec Ideal S1024x2888 .f32) (x : Fin 2944) :
    (∑ k : Fin 1024, h k * gap (fun z => W (ix2 k z)) x) = gap (fun z => ∑ k : Fin 1024, h k * W (ix2 k z)) x := by
  unfold gap
  split_ifs
  · rfl
  · exact Finset.sum_eq_zero fun k _ => mul_zero _
  · rfl

/-- A row of the normalized block times a column of the padded weights: the reference's product, or zero in the gap. -/
theorem prod_at (c : Dev nD) (t : Fin cfg0.N) (r : Fin 512) (x : Fin 2944) :
    (∑ k : Fin 1024, (show EReal from k0_pay1 (iblk m c 0 t) (iblk m c 1 t) (iblk m c 2 t) (iblk m c 3 t) (ix2 r k)) * (iblk m c 4 t : Vec Ideal S1024x2944 .bf16) (ix2 k x))
      = gap (fun z => rP m c (ix3 (bt t) (st t r) z)) x := by
  refine Eq.trans (Finset.sum_congr rfl fun k _ => Ideal.mul_congr (nrm_at m c t r k) (blk4_at m c t k x)) ((gap_sum _ (argW m c) x).trans ?_)
  refine congrArg (fun f => gap f x) (funext fun z => ?_)
  exact (Cert.Reference5Ideal.Res.refP_at (rH m c) (argW m c) (bt t) (st t r) z).symm

/-- The same product the other way round, off the transposed weights. -/
theorem prodT_at (c : Dev nD) (t : Fin cfg0.N) (r : Fin 512) (x : Fin 2944) :
    (∑ k : Fin 1024, (show EReal from (iblk m c 5 t : Vec Ideal S2944x1024 .bf16) (ix2 x k)) * k0_pay1 (iblk m c 0 t) (iblk m c 1 t) (iblk m c 2 t) (iblk m c 3 t) (ix2 r k))
      = gap (fun z => rP m c (ix3 (bt t) (st t r) z)) x := by
  refine Eq.trans (Finset.sum_congr rfl fun k _ => ?_) (prod_at m c t r x)
  exact (mul_comm _ _).trans (Ideal.mul_congr rfl ((blk5_at m c t x k).trans (blk4_at m c t k x).symm))

/-- The three parts of a gapped row. -/
theorem gap_lo (f : Fin 2888 → EReal) (x : Fin 2944) (z : Fin 2888) (h : x.val < 1352) (hz : z.val = x.val) : gap f x = f z := by
  unfold gap
  rw [dif_pos h]
  exact congrArg f (Fin.ext hz.symm)

theorem gap_mid (f : Fin 2888 → EReal) (x : Fin 2944) (h : ¬ x.val < 1352) (h' : x.val < 1408) : gap f x = 0 := by
  unfold gap
  rw [dif_neg h, if_pos h']

theorem gap_hi (f : Fin 2888 → EReal) (x : Fin 2944) (z : Fin 2888) (h : ¬ x.val < 1408) (hz : z.val + 56 = x.val) : gap f x = f z := by
  unfold gap
  rw [dif_neg (by omega), if_neg h]
  exact congrArg f (Fin.ext (by dsimp only; omega))

/-- The row of the flat arrays that row `r` of point `t`'s blocks is. -/
def row (t : Fin cfg0.N) (r : Fin 512) : Fin 16384 := ⟨512 * t.val + r.val, by have := lt32 t; omega⟩

theorem row_div (t : Fin cfg0.N) (r : Fin 512) (h : (row t r).val / 4096 < 4) : (⟨(row t r).val / 4096, h⟩ : Fin 4) = bt t :=
  Fin.ext (by unfold row bt; dsimp only; omega)

theorem row_mod (t : Fin cfg0.N) (r : Fin 512) (h : (row t r).val % 4096 < 4096) : (⟨(row t r).val % 4096, h⟩ : Fin 4096) = st t r :=
  Fin.ext (by unfold row st; dsimp only; omega)

/-- The block of 256 rows that half `p` of point `t`'s rows is. -/
def half (t : Fin cfg0.N) (p : Fin 2) : Fin 64 := ⟨2 * t.val + p.val, by have := lt32 t; omega⟩

theorem half_div (t : Fin cfg0.N) (p : Fin 2) (h : (half t p).val / 16 < 4) : (⟨(half t p).val / 16, h⟩ : Fin 4) = bt t :=
  Fin.ext (by unfold half bt; dsimp only; omega)

theorem half_mod (t : Fin cfg0.N) (p : Fin 2) (y : Fin 256) (h : 256 * ((half t p).val % 16) + y.val < 4096) :
    (⟨256 * ((half t p).val % 16) + y.val, h⟩ : Fin 4096) = st t (hf p y) :=
  Fin.ext (by unfold half st hf; dsimp only; omega)

/-- An entry of a point's latent rows is the reference's. -/
theorem lat_row (c : Dev nD) (t : Fin cfg0.N) (r : Fin 512) (x : Fin 256) :
    (show EReal from k0_pay5 (k0_pay1 (iblk m c 0 t) (iblk m c 1 t) (iblk m c 2 t) (iblk m c 3 t)) (View.ld (iblk m c 4 t) r0_6) (iblk m c 6 t) (ix2 r x))
      = rC m c (ix3 (bt t) (st t r) x) := by
  refine (pay5_at _ _ _ r x).trans (Eq.trans ?_ (Cert.Reference5Ideal.Res.lat_at (bandC (rP m c)) (argKv m c) (bt t) (st t r) x).symm)
  refine latRow_congr (fun z => ?_) (fun z => blk6_at m c t z) x
  refine (Finset.sum_congr rfl fun k _ => Ideal.mul_congr rfl (ldC _ k z)).trans ((prod_at m c t r ⟨512 + z.val, by omega⟩).trans ?_)
  exact (gap_lo _ _ ⟨512 + z.val, by omega⟩ (by dsimp only; omega) rfl).trans (Cert.Reference5Ideal.Res.bandC_at (rP m c) (bt t) (st t r) z).symm

/-- The nine blocks a point leaves are the reference's. -/
theorem o7_at (c : Dev nD) (t : Fin cfg0.N) (p : Fin 2) (a : Fin 512) (y : Fin 256) :
    (show EReal from out0_7 (iblk m c 0 t) (iblk m c 1 t) (iblk m c 2 t) (iblk m c 3 t) (iblk m c 4 t) (iblk m c 5 t) (iblk m c 6 t) (ix3 p a y))
      = outTq (bandQa (rP m c)) (ix3 (half t p) a y) := by
  refine (out7_at (iblk m c 0 t) (iblk m c 1 t) (iblk m c 2 t) (iblk m c 3 t) (iblk m c 4 t) (iblk m c 5 t) (iblk m c 6 t) p a y).trans (Eq.trans ?_ (Cert.Reference5Ideal.Res.outTq_at (bandQa (rP m c)) (half t p) a y).symm)
  rw [half_div, half_mod]
  exact Ideal.mul_congr ((prodT_at m c t (hf p y) ⟨a.val, by omega⟩).trans ((gap_lo _ _ ⟨a.val, by omega⟩ (by dsimp only; omega) rfl).trans (Cert.Reference5Ideal.Res.bandQa_at (rP m c) (bt t) (st t (hf p y)) a).symm)) rfl

theorem o8_at (c : Dev nD) (t : Fin cfg0.N) (r : Fin 512) (x : Fin 256) :
    (show EReal from out0_8 (iblk m c 0 t) (iblk m c 1 t) (iblk m c 2 t) (iblk m c 3 t) (iblk m c 4 t) (iblk m c 5 t) (iblk m c 6 t) (ix2 r x))
      = outC (rC m c) (ix2 (row t r) x) := by
  refine (congrFun (out8_eq (iblk m c 0 t) (iblk m c 1 t) (iblk m c 2 t) (iblk m c 3 t) (iblk m c 4 t) (iblk m c 5 t) (iblk m c 6 t)) (ix2 r x)).trans ((pay6_at _ _ _ r x).trans (Eq.trans ?_ (Cert.Reference5Ideal.Res.outC_at (rC m c) (row t r) x).symm))
  rw [row_div, row_mod]
  exact lat_row m c t r x

theorem o9_at (c : Dev nD) (t : Fin cfg0.N) (p : Fin 2) (a : Fin 256) (y : Fin 256) :
    (show EReal from out0_9 (iblk m c 0 t) (iblk m c 1 t) (iblk m c 2 t) (iblk m c 3 t) (iblk m c 4 t) (iblk m c 5 t) (iblk m c 6 t) (ix3 p a y))
      = outCt (rC m c) (ix3 (half t p) a y) := by
  refine (out9_at (iblk m c 0 t) (iblk m c 1 t) (iblk m c 2 t) (iblk m c 3 t) (iblk m c 4 t) (iblk m c 5 t) (iblk m c 6 t) p a y).trans (Eq.trans ?_ (Cert.Reference5Ideal.Res.outCt_at (rC m c) (half t p) a y).symm)
  rw [half_div, half_mod]
  exact lat_row m c t (hf p y) a

theorem o10_at (c : Dev nD) (t : Fin cfg0.N) (p : Fin 2) (a : Fin 512) (y : Fin 256) :
    (show EReal from out0_10 (iblk m c 0 t) (iblk m c 1 t) (iblk m c 2 t) (iblk m c 3 t) (iblk m c 4 t) (iblk m c 5 t) (iblk m c 6 t) (ix3 p a y))
      = outTq (bandQi (rP m c)) (ix3 (half t p) a y) := by
  refine (out10_at (iblk m c 0 t) (iblk m c 1 t) (iblk m c 2 t) (iblk m c 3 t) (iblk m c 4 t) (iblk m c 5 t) (iblk m c 6 t) p a y).trans (Eq.trans ?_ (Cert.Reference5Ideal.Res.outTq_at (bandQi (rP m c)) (half t p) a y).symm)
  rw [half_div, half_mod]
  exact Ideal.mul_congr ((prodT_at m c t (hf p y) ⟨768 + a.val, by omega⟩).trans ((gap_lo _ _ ⟨768 + a.val, by omega⟩ (by dsimp only; omega) rfl).trans (Cert.Reference5Ideal.Res.bandQi_at (rP m c) (bt t) (st t (hf p y)) a).symm)) rfl

/-- An entry of the gapped row at the index keys' and weights' columns is the reference's padded row. -/
theorem gap_kw (c : Dev nD) (t : Fin cfg0.N) (r : Fin 512) (a : Fin 128) :
    gap (fun z => rP m c (ix3 (bt t) (st t r) z)) ⟨1280 + a.val, by omega⟩ = kw (rP m c) (ix2 (row t r) a) := by
  refine Eq.trans ?_ (Cert.Reference5Ideal.Res.kw_at (rP m c) (row t r) a).symm
  rw [row_div, row_mod]
  by_cases h : a.val < 72
  · rw [dif_pos h]
    exact gap_lo _ _ ⟨1280 + a.val, by omega⟩ (by dsimp only; omega) rfl
  · rw [dif_neg h]
    exact gap_mid _ _ (by dsimp only; omega) (by dsimp only; omega)

theorem o11_at (c : Dev nD) (t : Fin cfg0.N) (r : Fin 512) (x : Fin 128) :
    (show EReal from out0_11 (iblk m c 0 t) (iblk m c 1 t) (iblk m c 2 t) (iblk m c 3 t) (iblk m c 4 t) (iblk m c 5 t) (iblk m c 6 t) (ix2 r x))
      = outKw (kw (rP m c)) (ix2 (row t r) x) := by
  refine (congrFun (out11_eq (iblk m c 0 t) (iblk m c 1 t) (iblk m c 2 t) (iblk m c 3 t) (iblk m c 4 t) (iblk m c 5 t) (iblk m c 6 t)) (ix2 r x)).trans ((pay13_at _ _ r x).trans (Eq.trans ?_ (Cert.Reference5Ideal.Res.outKw_at (kw (rP m c)) (row t r) x).symm))
  refine (Finset.sum_congr rfl fun k _ => Ideal.mul_congr rfl (ldKw _ k x)).trans ((prod_at m c t r ⟨1280 + x.val, by omega⟩).trans ?_)
  exact gap_kw m c t r x

/-- The row of half `p` of point `t`'s rows. -/
theorem row_half (t : Fin cfg0.N) (p : Fin 2) (y : Fin 256) : (⟨256 * (half t p).val + y.val, by omega⟩ : Fin 16384) = row t (hf p y) :=
  Fin.ext (by unfold half row hf; dsimp only; omega)

theorem o12_at (c : Dev nD) (t : Fin cfg0.N) (p : Fin 2) (a : Fin 128) (y : Fin 256) :
    (show EReal from out0_12 (iblk m c 0 t) (iblk m c 1 t) (iblk m c 2 t) (iblk m c 3 t) (iblk m c 4 t) (iblk m c 5 t) (iblk m c 6 t) (ix3 p a y))
      = outWt (kw (rP m c)) (ix3 (half t p) a y) := by
  refine (out12_at (iblk m c 0 t) (iblk m c 1 t) (iblk m c 2 t) (iblk m c 3 t) (iblk m c 4 t) (iblk m c 5 t) (iblk m c 6 t) p a y).trans (Eq.trans ?_ (Cert.Reference5Ideal.Res.outWt_at (kw (rP m c)) (half t p) a y).symm)
  rw [row_half]
  exact (prodT_at m c t (hf p y) ⟨1280 + a.val, by omega⟩).trans (gap_kw m c t (hf p y) a)

theorem o13_at (c : Dev nD) (t : Fin cfg0.N) (p : Fin 2) (a : Fin 512) (y : Fin 256) :
    (show EReal from out0_13 (iblk m c 0 t) (iblk m c 1 t) (iblk m c 2 t) (iblk m c 3 t) (iblk m c 4 t) (iblk m c 5 t) (iblk m c 6 t) (ix3 p a y))
      = outTq (bandQb (rP m c)) (ix3 (half t p) a y) := by
  refine (out13_at (iblk m c 0 t) (iblk m c 1 t) (iblk m c 2 t) (iblk m c 3 t) (iblk m c 4 t) (iblk m c 5 t) (iblk m c 6 t) p a y).trans (Eq.trans ?_ (Cert.Reference5Ideal.Res.outTq_at (bandQb (rP m c)) (half t p) a y).symm)
  rw [half_div, half_mod]
  exact Ideal.mul_congr ((prodT_at m c t (hf p y) ⟨1408 + a.val, by omega⟩).trans ((gap_hi _ _ ⟨1352 + a.val, by omega⟩ (by dsimp only; omega) (by dsimp only; omega)).trans (Cert.Reference5Ideal.Res.bandQb_at (rP m c) (bt t) (st t (hf p y)) a).symm)) rfl

theorem o14_at (c : Dev nD) (t : Fin cfg0.N) (r x : Fin 512) :
    (show EReal from out0_14 (iblk m c 0 t) (iblk m c 1 t) (iblk m c 2 t) (iblk m c 3 t) (iblk m c 4 t) (iblk m c 5 t) (iblk m c 6 t) (ix2 r x))
      = outB (bandKb (rP m c)) (ix2 (row t r) x) := by
  refine (congrFun (out14_eq (iblk m c 0 t) (iblk m c 1 t) (iblk m c 2 t) (iblk m c 3 t) (iblk m c 4 t) (iblk m c 5 t) (iblk m c 6 t)) (ix2 r x)).trans ((pay20_at _ _ r x).trans (Eq.trans ?_ (Cert.Reference5Ideal.Res.outB_at (bandKb (rP m c)) (row t r) x).symm))
  rw [row_div, row_mod]
  refine (Finset.sum_congr rfl fun k _ => Ideal.mul_congr rfl (ldKb _ k x)).trans ((prod_at m c t r ⟨1920 + x.val, by omega⟩).trans ?_)
  exact (gap_hi _ _ ⟨1864 + x.val, by omega⟩ (by dsimp only; omega) (by dsimp only; omega)).trans (Cert.Reference5Ideal.Res.bandKb_at (rP m c) (bt t) (st t r) x).symm

theorem o15_at (c : Dev nD) (t : Fin cfg0.N) (p : Fin 2) (a : Fin 512) (y : Fin 256) :
    (show EReal from out0_15 (iblk m c 0 t) (iblk m c 1 t) (iblk m c 2 t) (iblk m c 3 t) (iblk m c 4 t) (iblk m c 5 t) (iblk m c 6 t) (ix3 p a y))
      = outT (bandVb (rP m c)) (ix3 (half t p) a y) := by
  refine (out15_at (iblk m c 0 t) (iblk m c 1 t) (iblk m c 2 t) (iblk m c 3 t) (iblk m c 4 t) (iblk m c 5 t) (iblk m c 6 t) p a y).trans (Eq.trans ?_ (Cert.Reference5Ideal.Res.outT_at (bandVb (rP m c)) (half t p) a y).symm)
  rw [half_div, half_mod]
  exact (prodT_at m c t (hf p y) ⟨2432 + a.val, by omega⟩).trans ((gap_hi _ _ ⟨2376 + a.val, by omega⟩ (by dsimp only; omega) (by dsimp only; omega)).trans (Cert.Reference5Ideal.Res.bandVb_at (rP m c) (bt t) (st t (hf p y)) a).symm)

/-- A block of halves that agrees with an array entry by entry agrees with it at any index. -/
theorem halves_of {n : Nat} {e : EltTy} (f : Vec Ideal ⟨3, ![2, n, 256]⟩ e) (g : Vec Ideal ⟨3, ![64, n, 256]⟩ e) (t : Fin cfg0.N)
    (h : ∀ (p : Fin 2) (a : Fin n) (y : Fin 256), f (ix3 p a y) = g (ix3 (half t p) a y)) (x : (⟨3, ![2, n, 256]⟩ : Shape).Idx) (z : (⟨3, ![64, n, 256]⟩ : Shape).Idx)
    (hz : (ix3 (half t (x 0)) (x 1) (x 2) : (⟨3, ![64, n, 256]⟩ : Shape).Idx) = z) : f x = g z :=
  (congrArg f (show x = ix3 (x 0) (x 1) (x 2) from funext fun a => by fin_cases a <;> rfl)).trans ((h (x 0) (x 1) (x 2)).trans (congrArg g hz))

/-- The same of a block of rows. -/
theorem rows_of {n : Nat} {e : EltTy} (f : Vec Ideal ⟨2, ![512, n]⟩ e) (g : Vec Ideal ⟨2, ![16384, n]⟩ e) (t : Fin cfg0.N)
    (h : ∀ (r : Fin 512) (a : Fin n), f (ix2 r a) = g (ix2 (row t r) a)) (x : (⟨2, ![512, n]⟩ : Shape).Idx) (z : (⟨2, ![16384, n]⟩ : Shape).Idx)
    (hz : (ix2 (row t (x 0)) (x 1) : (⟨2, ![16384, n]⟩ : Shape).Idx) = z) : f x = g z :=
  (congrArg f (show x = ix2 (x 0) (x 1) from funext fun a => by fin_cases a <;> rfl)).trans ((h (x 0) (x 1)).trans (congrArg g hz))

/-- The latent queries' array, once every point has run, is the reference's. -/
theorem arr7 (c : Dev nD) : (dats m 0 c).arrAt 7 (cfgs 0).N = outTq (bandQa (rP m c)) := by
  refine (dats m 0 c).arrAt_eq_of_covers 7 _ (by decide +kernel) fun t _ y => ?_
  blk_simp
  rw [after0_7]
  have ht := lt32 t
  refine halves_of (out0_7 (iblk m c 0 t) (iblk m c 1 t) (iblk m c 2 t) (iblk m c 3 t) (iblk m c 4 t) (iblk m c 5 t) (iblk m c 6 t)) (outTq (bandQa (rP m c))) t (o7_at m c t) y _ ?_
  unfold half
  blk_ext [idx t]

/-- The latent rows' array. -/
theorem arr8 (c : Dev nD) : (dats m 0 c).arrAt 8 (cfgs 0).N = outC (rC m c) := by
  refine (dats m 0 c).arrAt_eq_of_covers 8 _ (by decide +kernel) fun t _ y => ?_
  blk_simp
  rw [after0_8]
  have ht := lt32 t
  refine rows_of (out0_8 (iblk m c 0 t) (iblk m c 1 t) (iblk m c 2 t) (iblk m c 3 t) (iblk m c 4 t) (iblk m c 5 t) (iblk m c 6 t)) (outC (rC m c)) t (o8_at m c t) y _ ?_
  unfold row
  blk_ext [idx t]

/-- The transposed latent rows' array. -/
theorem arr9 (c : Dev nD) : (dats m 0 c).arrAt 9 (cfgs 0).N = outCt (rC m c) := by
  refine (dats m 0 c).arrAt_eq_of_covers 9 _ (by decide +kernel) fun t _ y => ?_
  blk_simp
  rw [after0_9]
  have ht := lt32 t
  refine halves_of (out0_9 (iblk m c 0 t) (iblk m c 1 t) (iblk m c 2 t) (iblk m c 3 t) (iblk m c 4 t) (iblk m c 5 t) (iblk m c 6 t)) (outCt (rC m c)) t (o9_at m c t) y _ ?_
  unfold half
  blk_ext [idx t]

/-- The index queries' array. -/
theorem arr10 (c : Dev nD) : (dats m 0 c).arrAt 10 (cfgs 0).N = outTq (bandQi (rP m c)) := by
  refine (dats m 0 c).arrAt_eq_of_covers 10 _ (by decide +kernel) fun t _ y => ?_
  blk_simp
  rw [after0_10]
  have ht := lt32 t
  refine halves_of (out0_10 (iblk m c 0 t) (iblk m c 1 t) (iblk m c 2 t) (iblk m c 3 t) (iblk m c 4 t) (iblk m c 5 t) (iblk m c 6 t)) (outTq (bandQi (rP m c))) t (o10_at m c t) y _ ?_
  unfold half
  blk_ext [idx t]

/-- The index keys' and weights' array. -/
theorem arr11 (c : Dev nD) : (dats m 0 c).arrAt 11 (cfgs 0).N = outKw (kw (rP m c)) := by
  refine (dats m 0 c).arrAt_eq_of_covers 11 _ (by decide +kernel) fun t _ y => ?_
  blk_simp
  rw [after0_11]
  have ht := lt32 t
  refine rows_of (out0_11 (iblk m c 0 t) (iblk m c 1 t) (iblk m c 2 t) (iblk m c 3 t) (iblk m c 4 t) (iblk m c 5 t) (iblk m c 6 t)) (outKw (kw (rP m c))) t (o11_at m c t) y _ ?_
  unfold row
  blk_ext [idx t]

/-- The transposed index keys' and weights' array. -/
theorem arr12 (c : Dev nD) : (dats m 0 c).arrAt 12 (cfgs 0).N = outWt (kw (rP m c)) := by
  refine (dats m 0 c).arrAt_eq_of_covers 12 _ (by decide +kernel) fun t _ y => ?_
  blk_simp
  rw [after0_12]
  have ht := lt32 t
  refine halves_of (out0_12 (iblk m c 0 t) (iblk m c 1 t) (iblk m c 2 t) (iblk m c 3 t) (iblk m c 4 t) (iblk m c 5 t) (iblk m c 6 t)) (outWt (kw (rP m c))) t (o12_at m c t) y _ ?_
  unfold half
  blk_ext [idx t]

/-- The second queries' array. -/
theorem arr13 (c : Dev nD) : (dats m 0 c).arrAt 13 (cfgs 0).N = outTq (bandQb (rP m c)) := by
  refine (dats m 0 c).arrAt_eq_of_covers 13 _ (by decide +kernel) fun t _ y => ?_
  blk_simp
  rw [after0_13]
  have ht := lt32 t
  refine halves_of (out0_13 (iblk m c 0 t) (iblk m c 1 t) (iblk m c 2 t) (iblk m c 3 t) (iblk m c 4 t) (iblk m c 5 t) (iblk m c 6 t)) (outTq (bandQb (rP m c))) t (o13_at m c t) y _ ?_
  unfold half
  blk_ext [idx t]

/-- The second keys' array. -/
theorem arr14 (c : Dev nD) : (dats m 0 c).arrAt 14 (cfgs 0).N = outB (bandKb (rP m c)) := by
  refine (dats m 0 c).arrAt_eq_of_covers 14 _ (by decide +kernel) fun t _ y => ?_
  blk_simp
  rw [after0_14]
  have ht := lt32 t
  refine rows_of (out0_14 (iblk m c 0 t) (iblk m c 1 t) (iblk m c 2 t) (iblk m c 3 t) (iblk m c 4 t) (iblk m c 5 t) (iblk m c 6 t)) (outB (bandKb (rP m c))) t (o14_at m c t) y _ ?_
  unfold row
  blk_ext [idx t]

/-- The second values' array. -/
theorem arr15 (c : Dev nD) : (dats m 0 c).arrAt 15 (cfgs 0).N = outT (bandVb (rP m c)) := by
  refine (dats m 0 c).arrAt_eq_of_covers 15 _ (by decide +kernel) fun t _ y => ?_
  blk_simp
  rw [after0_15]
  have ht := lt32 t
  refine halves_of (out0_15 (iblk m c 0 t) (iblk m c 1 t) (iblk m c 2 t) (iblk m c 3 t) (iblk m c 4 t) (iblk m c 5 t) (iblk m c 6 t)) (outT (bandVb (rP m c))) t (o15_at m c t) y _ ?_
  unfold half
  blk_ext [idx t]

end Cert.Kernel5Ideal.Res

end
-- ==== Proof.Claim5.lean ====
/- The claims of the fifth kernel and its reference. -/
module

public import proofs.«01_k».proof.Defs
public import proofs.«01_k».proof.Proof.In5
public import proofs.«01_k».proof.Proof.Gen.Kernel5.Frame
public import Idealize.ShloMosaic.Lib.Claim
public import Idealize.ShloMosaic.Adequacy
public import Idealize.ShloMosaic.Init
@[expose] public section

set_option maxRecDepth 16384

noncomputable section

namespace Cert.Proof

open Idealize.ShloMosaic Idealize.SL.Sem

/-- The fifth kernel ends with its arguments unchanged and every semaphore at zero. -/
theorem frame_5 : Cert.quiescent_Kernel5 (hKernel5 := Cert.Kernel5.Gen.facts) := fun m g _ => Cert.Kernel5.Gen.frame m g

/-- The fifth idealized kernel ends with its arguments unchanged and every semaphore at zero. -/
theorem frame_5Ideal : Cert.quiescent_Kernel5Ideal (hKernel5Ideal := Cert.Kernel5Ideal.Gen.facts) := fun m g _ => Cert.Kernel5Ideal.Gen.frame m g

set_option maxHeartbeats 1600000 in
/-- The fifth idealized reference ends with its arguments unchanged and every semaphore at zero. -/
theorem frame_ref5 : Cert.quiescent_Reference5Ideal (hReference5Ideal := Cert.Reference5Ideal.Gen.facts) := fun m g _ =>
  (θ_run Cert.Reference5Ideal.defs _ _).mono (fun r h => ⟨fun c => (h c).2.2.2.2.2.2.2.2.2, sem_eq_zero_of_no_sems (by decide) r.2⟩)
    (Cert.Reference5Ideal.Value.run m g)

set_option maxHeartbeats 1600000 in
/-- The fifth kernel's nine results are its reference's. -/
theorem algebraic5 : Cert.algebraic_Kernel5Ideal_Reference5Ideal (hKernel5Ideal := Cert.Kernel5Ideal.Gen.facts)
    (hReference5Ideal := Cert.Reference5Ideal.Gen.facts) := by
  intro m g m' g' hpre hargs
  refine ⟨fun c => (Cert.Kernel5Ideal.Gen.dats m 0 c).arrAt 7 (Cert.Kernel5Ideal.cfgs 0).N,
    fun c => (Cert.Kernel5Ideal.Gen.dats m 0 c).arrAt 8 (Cert.Kernel5Ideal.cfgs 0).N,
    fun c => (Cert.Kernel5Ideal.Gen.dats m 0 c).arrAt 9 (Cert.Kernel5Ideal.cfgs 0).N,
    fun c => (Cert.Kernel5Ideal.Gen.dats m 0 c).arrAt 10 (Cert.Kernel5Ideal.cfgs 0).N,
    fun c => (Cert.Kernel5Ideal.Gen.dats m 0 c).arrAt 11 (Cert.Kernel5Ideal.cfgs 0).N,
    fun c => (Cert.Kernel5Ideal.Gen.dats m 0 c).arrAt 12 (Cert.Kernel5Ideal.cfgs 0).N,
    fun c => (Cert.Kernel5Ideal.Gen.dats m 0 c).arrAt 13 (Cert.Kernel5Ideal.cfgs 0).N,
    fun c => (Cert.Kernel5Ideal.Gen.dats m 0 c).arrAt 14 (Cert.Kernel5Ideal.cfgs 0).N,
    fun c => (Cert.Kernel5Ideal.Gen.dats m 0 c).arrAt 15 (Cert.Kernel5Ideal.cfgs 0).N,
    Cert.Kernel5Ideal.Value.run_blocks m g, ?_⟩
  refine (θ_run Cert.Reference5Ideal.defs _ _).mono
    (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_,
      (h c).2.2.2.2.2.2.2.2.2⟩)
    (Cert.Reference5Ideal.Value.run m' g')
  all_goals obtain ⟨h0, h1, h2, h3, h4, h5⟩ := hargs c
  · rw [h0, h1, h2, h3, h4]
    exact (Cert.Kernel5Ideal.Res.arr7 m c).symm
  · unfold Cert.Reference5Ideal.Value.res_main_v64
    rw [h0, h1, h2, h3, h4, h5]
    exact (Cert.Kernel5Ideal.Res.arr8 m c).symm
  · unfold Cert.Reference5Ideal.Value.res_main_v65
    rw [h0, h1, h2, h3, h4, h5]
    exact (Cert.Kernel5Ideal.Res.arr9 m c).symm
  · rw [h0, h1, h2, h3, h4]
    exact (Cert.Kernel5Ideal.Res.arr10 m c).symm
  · rw [h0, h1, h2, h3, h4]
    exact (Cert.Kernel5Ideal.Res.arr11 m c).symm
  · rw [h0, h1, h2, h3, h4]
    exact (Cert.Kernel5Ideal.Res.arr12 m c).symm
  · rw [h0, h1, h2, h3, h4]
    exact (Cert.Kernel5Ideal.Res.arr13 m c).symm
  · rw [h0, h1, h2, h3, h4]
    exact (Cert.Kernel5Ideal.Res.arr14 m c).symm
  · rw [h0, h1, h2, h3, h4]
    exact (Cert.Kernel5Ideal.Res.arr15 m c).symm

end Cert.Proof

end
-- ==== Proof.lean ====
module

public import proofs.«01_k».proof.Defs
public import proofs.«01_k».proof.Proof.KernelFrame
public import proofs.«01_k».proof.Proof.Final
public import proofs.«01_k».proof.Proof.Claim2
public import proofs.«01_k».proof.Proof.Claim3
public import proofs.«01_k».proof.Proof.Claim4
public import proofs.«01_k».proof.Proof.Claim5
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel4.Frame
public import proofs.«01_k».proof.Proof.Gen.Reference4Ideal
public import proofs.«01_k».proof.Proof.Gen.Reference4Ideal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel2.Frame
public import proofs.«01_k».proof.Proof.Gen.Kernel3.Frame
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Kernel5.Frame
public import proofs.«01_k».proof.Proof.Gen.Reference5Ideal
public import proofs.«01_k».proof.Proof.Gen.Reference5Ideal.Run
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The idealized kernel ends with its arguments unchanged and every semaphore at zero. -/
theorem frame_ideal : Cert.quiescent_KernelIdeal (hKernelIdeal := Cert.KernelIdeal.Gen.facts) :=
  fun m g _ => Cert.KernelIdeal.Fox.frame m g

set_option maxHeartbeats 1600000 in
/-- The idealized reference ends with its arguments unchanged and every semaphore at zero. -/
theorem frame_refIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

set_option maxHeartbeats 1600000 in
/-- The reference ends with its arguments unchanged and every semaphore at zero. -/
theorem frame_ref : Cert.quiescent_Reference (hReference := Cert.Reference.Gen.facts) := fun m g _ =>
  (θ_run Cert.Reference.defs _ _).mono (fun r h => ⟨fun c => (h c).2, sem_eq_zero_of_no_sems (by decide) r.2⟩)
    (Cert.Reference.Value.run m g)

/-- The mask constant named in the idealized kernel is minus infinity there. -/
theorem preserves : Cert.preserves_Kernel_KernelIdeal :=
  IdealRules.named_const.statement Cert.KernelIdeal.κ "mask" .f32 0xF149F2CA#32 ⊥ rfl

/-- The kernel's result is the reference's, when queries, keys and gate features are finite. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Fox.preFacts) := by
  intro m g m' g' hpre hargs
  refine ⟨fun c => (Cert.KernelIdeal.Fox.dats m 0 c).arrAt 5 (Cert.KernelIdeal.cfgs 0).N, ?_, ?_⟩
  · run_from Cert.KernelIdeal.Fox.run_main m g
  · refine (θ_run Cert.ReferenceIdeal.defs _ _).mono (fun r h c => ⟨(h c).1.trans ?_, (h c).2⟩) (Cert.ReferenceIdeal.Value.run m' g')
    obtain ⟨h0, h1, h2, h3, h4⟩ := hargs c
    rw [Cert.ReferenceIdeal.Fox.ref_eq, h0, h1, h2, h3, h4]
    exact (Cert.KernelIdeal.Fox.out_eq m hpre c).symm

/-- Every claim, with the shape conditions of the programs and of the precondition. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.KernelIdeal.Fox.preFacts,
    Cert.KernelIdeal.Fox.frame_kernel, frame_ideal, fun m g _ => frame_ideal m g trivial, frame_refIdeal, fun m g _ => frame_refIdeal m g trivial,
    frame_ref, frame_2, frame_2Ideal, frame_ref2, frame_3, frame_3Ideal, frame_ref3, frame_4, frame_4Ideal, frame_ref4,
    frame_5, frame_5Ideal, frame_ref5,
    preserves, trivial, algebraic, trivial, algebraic2, trivial, algebraic3, trivial, algebraic4, trivial, algebraic5⟩

end Cert.Proof

end
